-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def preserves_Attn_AttnIdeal : Prop :=
  IdealRules.named_const.Statement Cert.AttnIdeal.κ "qk_scale" .f32 0x3E0293EE#32 (((11863283 / 134217728) * (Real.log 2)⁻¹ : ℝ) : EReal)

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v7)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v7) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v16) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v97) = v0 c
          ∧ r.2.mem ((c.tc : Thread Cert.MergeRefIdeal.nD Cert.MergeRefIdeal.τ).loc Cert.MergeRefIdeal.main_v99) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v42_2)) (v1 : (c : Dev Cert.InIdeal.nD) → Buf (Elt Ideal) ((c.tc : Thread Cert.InIdeal.nD Cert.InIdeal.τ).loc Cert.InIdeal.main_v42_3)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v42_2) = v0 c
          ∧ r.2.mem ((c.tc : Thread Cert.InIdeal.nD Cert.InIdeal.τ).loc Cert.InIdeal.main_v42_3) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v75) = v0 c
          ∧ r.2.mem ((c.tc : Thread Cert.InRefIdeal.nD Cert.InRefIdeal.τ).loc Cert.InRefIdeal.main_v79) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hMerge : Cert.Merge.Facts) (hMergeIdeal : Cert.MergeIdeal.Facts) (hMergeRefIdeal : Cert.MergeRefIdeal.Facts) (hIn : Cert.In.Facts) (hInIdeal : Cert.InIdeal.Facts) (hInRefIdeal : Cert.InRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_Merge (hMerge := hMerge)
    ∧ quiescent_MergeIdeal (hMergeIdeal := hMergeIdeal)
    ∧ quiescent_MergeRefIdeal (hMergeRefIdeal := hMergeRefIdeal)
    ∧ quiescent_In (hIn := hIn)
    ∧ quiescent_InIdeal (hInIdeal := hInIdeal)
    ∧ quiescent_InRefIdeal (hInRefIdeal := hInRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_Merge_MergeIdeal
    ∧ algebraic_MergeIdeal_MergeRefIdeal (hMergeIdeal := hMergeIdeal) (hMergeRefIdeal := hMergeRefIdeal)
    ∧ preserves_In_InIdeal
    ∧ algebraic_InIdeal_InRefIdeal (hInIdeal := hInIdeal) (hInRefIdeal := hInRefIdeal)
-- ==== Pre_finite_scores.lean ====
abbrev S17408x1024 : Shape := ⟨2, ![17408, 1024]⟩
abbrev S17408x256 : Shape := ⟨2, ![17408, 256]⟩
abbrev S_ : Shape := ⟨0, ![]⟩

class Facts : Prop where
  bcast_S_S17408x1024 : S_.BroadcastsInDim S17408x1024 (![] : Fin 0 → Fin S17408x1024.rank)
  bcast_S_S17408x256 : S_.BroadcastsInDim S17408x256 (![] : Fin 0 → Fin S17408x256.rank)

variable [Facts]

def fn {F : FTy → Type} [FloatOps F] (main_arg0 : FVec F S17408x1024 .f32) (main_arg1 : FVec F S17408x256 .f32) (main_arg2 : FVec F S17408x256 .f32) : IVec S17408x1024 1 × IVec S17408x256 1 :=
  let main_v0 : FVec F S17408x1024 .f32 := Host.absf main_arg0
  let main_cst : FVec F S_ .f32 := constant S_ .f32 0x7F800000#32
  let main_v1 : FVec F S17408x1024 .f32 := broadcastInDim S17408x1024 ![] bcast_S_S17408x1024 main_cst
  let main_v2 : IVec S17408x1024 1 := cmpf .olt main_v0 main_v1
  let main_v3 : FVec F S17408x256 .f32 := Host.absf main_arg1
  let main_cst_0 : FVec F S_ .f32 := constant S_ .f32 0x7F800000#32
  let main_v4 : FVec F S17408x256 .f32 := broadcastInDim S17408x256 ![] bcast_S_S17408x256 main_cst_0
  let main_v5 : IVec S17408x256 1 := cmpf .olt main_v3 main_v4
  (main_v2, main_v5)
-- ==== Attn.lean ====
abbrev S17408x1024 : Shape := ⟨2, ![17408, 1024]⟩
abbrev S17408x256 : Shape := ⟨2, ![17408, 256]⟩
abbrev S_ : Shape := ⟨0, ![]⟩
abbrev S17408x128 : Shape := ⟨2, ![17408, 128]⟩
abbrev S17408x768 : Shape := ⟨2, ![17408, 768]⟩
abbrev S16384x1024 : Shape := ⟨2, ![16384, 1024]⟩
abbrev S512x512 : Shape := ⟨2, ![512, 512]⟩
abbrev S4096x128 : Shape := ⟨2, ![4096, 128]⟩
abbrev S4096x256 : Shape := ⟨2, ![4096, 256]⟩
abbrev S256x128 : Shape := ⟨2, ![256, 128]⟩
abbrev S256x256 : Shape := ⟨2, ![256, 256]⟩
abbrev S512x128 : Shape := ⟨2, ![512, 128]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩
abbrev S512x256 : Shape := ⟨2, ![512, 256]⟩
abbrev S2048x256 : Shape := ⟨2, ![2048, 256]⟩

abbrev nBuf : Space → Nat
  | .hbm => 12
  | .vmem => 12
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S17408x256, .f32⟩
  | .hbm, ⟨3, _⟩ => ⟨S17408x1024, .bf16⟩
  | .hbm, ⟨4, _⟩ => ⟨S_, .bf16⟩
  | .hbm, ⟨5, _⟩ => ⟨S17408x128, .bf16⟩
  | .hbm, ⟨6, _⟩ => ⟨S17408x256, .bf16⟩
  | .hbm, ⟨7, _⟩ => ⟨S17408x256, .bf16⟩
  | .hbm, ⟨8, _⟩ => ⟨S17408x128, .bf16⟩
  | .hbm, ⟨9, _⟩ => ⟨S17408x128, .bf16⟩
  | .hbm, ⟨10, _⟩ => ⟨S17408x768, .bf16⟩
  | .hbm, ⟨11, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .bf16⟩
  | .local _ .vmem, ⟨5, _⟩ => ⟨S4096x256, .bf16⟩
  | .local _ .vmem, ⟨6, _⟩ => ⟨S256x128, .bf16⟩
  | .local _ .vmem, ⟨7, _⟩ => ⟨S256x128, .bf16⟩
  | .local _ .vmem, ⟨8, _⟩ => ⟨S256x256, .bf16⟩
  | .local _ .vmem, ⟨9, _⟩ => ⟨S256x256, .bf16⟩
  | .local _ .vmem, ⟨10, _⟩ => ⟨S512x512, .bf16⟩
  | .local _ .vmem, ⟨11, _⟩ => ⟨S512x512, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.addi c1_i32 arg1
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "qk_scale" => some (((11863283 / 134217728) * (Real.log 2)⁻¹ : ℝ) : EReal)
  | _ => none
-- ==== AttnRefIdeal.lean ====
abbrev S17408x1024 : Shape := ⟨2, ![17408, 1024]⟩
abbrev S17408x256 : Shape := ⟨2, ![17408, 256]⟩
abbrev S16384x1024 : Shape := ⟨2, ![16384, 1024]⟩
abbrev S4x4096x8x128 : Shape := ⟨4, ![4, 4096, 8, 128]⟩
abbrev S1024x1024 : Shape := ⟨2, ![1024, 1024]⟩
abbrev S4x256x8x128 : Shape := ⟨4, ![4, 256, 8, 128]⟩
abbrev S16384x256 : Shape := ⟨2, ![16384, 256]⟩
abbrev S4x4096x2x128 : Shape := ⟨4, ![4, 4096, 2, 128]⟩
abbrev S1024x256 : Shape := ⟨2, ![1024, 256]⟩
abbrev S4x256x2x128 : Shape := ⟨4, ![4, 256, 2, 128]⟩
abbrev S4x4352x2x128 : Shape := ⟨4, ![4, 4352, 2, 128]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩

abbrev nBuf : Space → Nat
  | .hbm => 41
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S17408x256, .f32⟩
  | .hbm, ⟨2, _⟩ => ⟨S17408x256, .f32⟩
  | .hbm, ⟨3, _⟩ => ⟨S16384x1024, .f32⟩
  | .hbm, ⟨4, _⟩ => ⟨S4x4096x8x128, .f32⟩
  | .hbm, ⟨5, _⟩ => ⟨S1024x1024, .f32⟩
  | .hbm, ⟨6, _⟩ => ⟨S4x256x8x128, .f32⟩
  | .hbm, ⟨7, _⟩ => ⟨S16384x256, .f32⟩
  | .hbm, ⟨8, _⟩ => ⟨S4x4096x2x128, .f32⟩
  | .hbm, ⟨9, _⟩ => ⟨S1024x256, .f32⟩
  | .hbm, ⟨10, _⟩ => ⟨S4x256x2x128, .f32⟩
  | .hbm, ⟨11, _⟩ => ⟨S4x4352x2x128, .f32⟩
  | .hbm, ⟨12, _⟩ => ⟨S16384x256, .f32⟩
  | .hbm, ⟨13, _⟩ => ⟨S4x4096x2x128, .f32⟩
  | .hbm, ⟨14, _⟩ => ⟨S1024x256, .f32⟩
  | .hbm, ⟨15, _⟩ => ⟨S4x256x2x128, .f32⟩
  | .hbm, ⟨16, _⟩ => ⟨S4x4352x2x128, .f32⟩
  | .hbm, ⟨17, _⟩ => ⟨S4x4096x2x4x128, .f32⟩
  | .hbm, ⟨18, _⟩ => ⟨S4x2x4352x4096x4, .f32⟩
  | .hbm, ⟨19, _⟩ => ⟨S4x2x4x4096x4352, .f32⟩
  | .hbm, ⟨20, _⟩ => ⟨S_, .f32⟩
  | .hbm, ⟨21, _⟩ => ⟨S4x2x4x4096x4352, .f32⟩
  | .hbm, ⟨22, _⟩ => ⟨S4x2x4x4096x4352, .f32⟩
  | .hbm, ⟨23, _⟩ => ⟨S_, .f32⟩
  | .hbm, ⟨24, _⟩ => ⟨S4x2x4x4096, .f32⟩
  | .hbm, ⟨25, _⟩ => ⟨S_, .f32⟩
  | .hbm, ⟨26, _⟩ => ⟨S4x2x4x4096, .f32⟩
  | .hbm, ⟨27, _⟩ => ⟨S4x2x4x4096, .f32⟩
  | .hbm, ⟨28, _⟩ => ⟨S4x2x4x4096x1, .f32⟩
  | .hbm, ⟨29, _⟩ => ⟨S4x2x4x4096x4352, .f32⟩
  | .hbm, ⟨30, _⟩ => ⟨S4x2x4x4096x4352, .f32⟩
  | .hbm, ⟨31, _⟩ => ⟨S4x2x4x4096x4352, .f32⟩
  | .hbm, ⟨32, _⟩ => ⟨S_, .f32⟩
  | .hbm, ⟨33, _⟩ => ⟨S4x2x4x4096, .f32⟩
  | .hbm, ⟨34, _⟩ => ⟨S4x2x4x4096x1, .f32⟩
  | .hbm, ⟨35, _⟩ => ⟨S4x2x4x4096x4352, .f32⟩
  | .hbm, ⟨36, _⟩ => ⟨S4x2x4x4096x4352, .f32⟩
  | .hbm, ⟨37, _⟩ => ⟨S4x2x128x4x4096, .f32⟩
  | .hbm, ⟨38, _⟩ => ⟨S4x4096x2x4x128, .f32⟩
  | .hbm, ⟨39, _⟩ => ⟨S16384x1024, .f32⟩
  | .hbm, ⟨40, _⟩ => ⟨S16384x1024, .bf16⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Mlp.lean ====
abbrev S16384x2048 : Shape := ⟨2, ![16384, 2048]⟩
abbrev S4x8x1x12288 : Shape := ⟨4, ![4, 8, 1, 12288]⟩
abbrev S4x2048x8192 : Shape := ⟨3, ![4, 2048, 8192]⟩
abbrev S4x8192x2048 : Shape := ⟨3, ![4, 8192, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S1x1x1x2048 : Shape := ⟨4, ![1, 1, 1, 2048]⟩
abbrev S_ : Shape := ⟨0, ![]⟩
abbrev S1x2048x512 : Shape := ⟨3, ![1, 2048, 512]⟩
abbrev S2048x512 : Shape := ⟨2, ![2048, 512]⟩
abbrev S1024x512 : Shape := ⟨2, ![1024, 512]⟩
abbrev S1024x1024 : Shape := ⟨2, ![1024, 1024]⟩
abbrev S1x1024x512 : Shape := ⟨3, ![1, 1024, 512]⟩
abbrev S1x1x1x512 : Shape := ⟨4, ![1, 1, 1, 512]⟩
abbrev S1x512 : Shape := ⟨2, ![1, 512]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x8x1x12288, .f32⟩
  | .hbm, ⟨3, _⟩ => ⟨S4x2048x8192, .f32⟩
  | .hbm, ⟨4, _⟩ => ⟨S4x8192x2048, .f32⟩
  | .hbm, ⟨5, _⟩ => ⟨S4x2048x8192, .bf16⟩
  | .hbm, ⟨6, _⟩ => ⟨S4x8192x2048, .bf16⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x1x1x2048, .f32⟩
  | .local _ .vmem, ⟨7, _⟩ => ⟨S1x1x1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v11 : BitVec 32 := Scalar.muli arg0 c1024_i32
  v11
def k0_off1 (i : grid0.Coords) : Fin 2 → Nat :=
  let arg0 : BitVec 32 := BitVec.ofNat 32 (i 0).val
  let c1024_i32 : BitVec 32 := 1024#32
  let v11 : BitVec 32 := Scalar.muli arg0 c1024_i32
  let v12 : BitVec 32 := v11
  let c0_i32_5 : BitVec 32 := 0#32
  ![v12.toNat, 0]
def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def k0_mult2 (i : grid0.Coords) : BitVec 32 :=
  let arg0 : BitVec 32 := BitVec.ofNat 32 (i 0).val
  let c1024_i32 : BitVec 32 := 1024#32
  let v11 : BitVec 32 := Scalar.muli arg0 c1024_i32
  v11
def k0_off2 (i : grid0.Coords) : Fin 2 → Nat :=
  let arg0 : BitVec 32 := BitVec.ofNat 32 (i 0).val
  let c1024_i32 : BitVec 32 := 1024#32
  let v11 : BitVec 32 := Scalar.muli arg0 c1024_i32
  let v12 : BitVec 32 := v11
  let c0_i32_5 : BitVec 32 := 0#32
  ![v12.toNat, 0]
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c7_i32 : BitVec 32 := 7#32
  let v4 : BitVec 1 := Scalar.cmpi .slt arg1 c7_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.minsi v16 c4_i32_4
  let c3_i32 : BitVec 32 := 3#32
  let c0_i32_5 : BitVec 32 := 0#32
  let c5_i32 : BitVec 32 := 5#32
  let c0_i32_6 : BitVec 32 := 0#32
  ![c3_i32.toNat, v17.toNat, c0_i32_5.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S16384x2048 : Shape := ⟨2, ![16384, 2048]⟩
abbrev S4x8x1x12288 : Shape := ⟨4, ![4, 8, 1, 12288]⟩
abbrev S4x2048x8192 : Shape := ⟨3, ![4, 2048, 8192]⟩
abbrev S4x8192x2048 : Shape := ⟨3, ![4, 8192, 2048]⟩
abbrev S1x4x1x2048 : Shape := ⟨4, ![1, 4, 1, 2048]⟩
abbrev S4x1x2048 : Shape := ⟨3, ![4, 1, 2048]⟩
abbrev S4x4096x2048 : Shape := ⟨3, ![4, 4096, 2048]⟩
abbrev S1x2048x8192 : Shape := ⟨3, ![1, 2048, 8192]⟩
abbrev S2048x8192 : Shape := ⟨2, ![2048, 8192]⟩
abbrev S4x4096x8192 : Shape := ⟨3, ![4, 4096, 8192]⟩
abbrev S_ : Shape := ⟨0, ![]⟩
abbrev S1x8192x2048 : Shape := ⟨3, ![1, 8192, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S4x8x1x12288, .f32⟩
  | .hbm, ⟨3, _⟩ => ⟨S4x2048x8192, .f32⟩
  | .hbm, ⟨4, _⟩ => ⟨S4x8192x2048, .f32⟩
  | .hbm, ⟨5, _⟩ => ⟨S1x4x1x2048, .f32⟩
  | .hbm, ⟨6, _⟩ => ⟨S4x1x2048, .f32⟩
  | .hbm, ⟨7, _⟩ => ⟨S16384x2048, .f32⟩
  | .hbm, ⟨8, _⟩ => ⟨S4x4096x2048, .f32⟩
  | .hbm, ⟨9, _⟩ => ⟨S1x2048x8192, .f32⟩
  | .hbm, ⟨10, _⟩ => ⟨S2048x8192, .f32⟩
  | .hbm, ⟨11, _⟩ => ⟨S4x4096x8192, .f32⟩
  | .hbm, ⟨12, _⟩ => ⟨S_, .f32⟩
  | .hbm, ⟨13, _⟩ => ⟨S4x4096x8192, .f32⟩
  | .hbm, ⟨14, _⟩ => ⟨S4x4096x8192, .f32⟩
  | .hbm, ⟨15, _⟩ => ⟨S4x4096x8192, .f32⟩
  | .hbm, ⟨16, _⟩ => ⟨S1x8192x2048, .f32⟩
  | .hbm, ⟨17, _⟩ => ⟨S8192x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Merge.lean ====
abbrev S17408x2048 : Shape := ⟨2, ![17408, 2048]⟩
abbrev S16384x1024 : Shape := ⟨2, ![16384, 1024]⟩
abbrev S1024x1024 : Shape := ⟨2, ![1024, 1024]⟩
abbrev S17408x1024 : Shape := ⟨2, ![17408, 1024]⟩
abbrev S4x8x1x12288 : Shape := ⟨4, ![4, 8, 1, 12288]⟩
abbrev S3x1024 : Shape := ⟨2, ![3, 1024]⟩
abbrev S1x1024 : Shape := ⟨2, ![1, 1024]⟩
abbrev S4x2048x2048 : Shape := ⟨3, ![4, 2048, 2048]⟩
abbrev S1x2048 : Shape := ⟨2, ![1, 2048]⟩
abbrev S16384x2048 : Shape := ⟨2, ![16384, 2048]⟩
abbrev S512x2048 : Shape := ⟨2, ![512, 2048]⟩
abbrev S16x2048 : Shape := ⟨2, ![16, 2048]⟩
abbrev S512x1024 : Shape := ⟨2, ![512, 1024]⟩
abbrev S16x1024 : Shape := ⟨2, ![16, 1024]⟩
abbrev S1x2048x2048 : Shape := ⟨3, ![1, 2048, 2048]⟩
abbrev S1x1x1x2048 : Shape := ⟨4, ![1, 1, 1, 2048]⟩
abbrev S512x1 : Shape := ⟨2, ![512, 1]⟩
abbrev S512 : Shape := ⟨1, ![512]⟩
abbrev S2048x2048 : Shape := ⟨2, ![2048, 2048]⟩

abbrev nBuf : Space → Nat
  | .hbm => 15
  | .vmem => 32
  | .smem => 0
  | _ => 0

abbrev bufTy : (tb : Table) → Fin (tcTables nBuf tb) → BufTy
  | .hbm, ⟨0, _⟩ => ⟨S17408x2048, .f32⟩
  | .hbm, ⟨1, _⟩ => ⟨S16384x1024, .bf16⟩
  | .hbm, ⟨2, _⟩ => ⟨S1024x1024, .bf16⟩
  | .hbm, ⟨3, _⟩ => ⟨S17408x1024, .bf16⟩
  | .hbm, ⟨4, _⟩ => ⟨S17408x1024, .bf16⟩
  | .hbm, ⟨5, _⟩ => ⟨S4x8x1x12288, .f32⟩
  | .hbm, ⟨6, _⟩ => ⟨S3x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4x2048x2048, .f32⟩
  | .hbm, ⟨11, _⟩ => ⟨S1x2048, .f32⟩
  | .hbm, ⟨12, _⟩ => ⟨S4x2048x2048, .bf16⟩
  | .hbm, ⟨13, _⟩ => ⟨S16384x2048, .f32⟩
  | .hbm, ⟨14, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S16x1024, .bf16⟩
  | .local _ .vmem, ⟨13, _⟩ => ⟨S512x1024, .bf16⟩
  | .local _ .vmem, ⟨14, _⟩ => ⟨S512x1024, .bf16⟩
  | .local _ .vmem, ⟨15, _⟩ => ⟨S3x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x2048x2048, .bf16⟩
  | .local _ .vmem, ⟨20, _⟩ => ⟨S1x1x1x2048, .f32⟩
  | .local _ .vmem, ⟨21, _⟩ => ⟨S1x1x1x2048, .f32⟩
  | .local _ .vmem, ⟨22, _⟩ => ⟨S1x1x1x2048, .f32⟩
  | .local _ .vmem, ⟨23, _⟩ => ⟨S1x1x1x2048, .f32⟩
  | .local _ .vmem, ⟨24, _⟩ => ⟨S1x1x1x2048, .f32⟩
  | .local _ .vmem, ⟨25, _⟩ => ⟨S1x1x1x2048, .f32⟩
  | .local _ .vmem, ⟨26, _⟩ => ⟨S1x2048, .f32⟩
  | .local _ .vmem, ⟨27, _⟩ => ⟨S512x2048, .f32⟩
  | .local _ .vmem, ⟨28, _⟩ => ⟨S512x2048, .f32⟩
  | .local _ .vmem, ⟨29, _⟩ => ⟨S512x2048, .bf16⟩
  | .local _ .vmem, ⟨30, _⟩ => ⟨S512x2048, .bf16⟩
  | .local _ .vmem, ⟨31, _⟩ => ⟨S512x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1087_i32 : BitVec 32 := 1087#32
  let v2 : BitVec 32 := Scalar.minsi v1 c1087_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c3_i32 : BitVec 32 := 3#32
  let c0_i32_4 : BitVec 32 := 0#32
  let c2_i32 : BitVec 32 := 2#32
  let c0_i32_5 : BitVec 32 := 0#32
  ![c3_i32.toNat, v17.toNat, c0_i32_4.toNat, c2_i32.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c3_i32 : BitVec 32 := 3#32
  let c0_i32_4 : BitVec 32 := 0#32
  let c3_i32_5 : BitVec 32 := 3#32
  let c0_i32_6 : BitVec 32 := 0#32
  ![c3_i32.toNat, v17.toNat, c0_i32_4.toNat, c3_i32_5.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.minsi v16 c4_i32
  let c3_i32 : BitVec 32 := 3#32
  let c0_i32_4 : BitVec 32 := 0#32
  let c4_i32_5 : BitVec 32 := 4#32
  let c0_i32_6 : BitVec 32 := 0#32
  ![c3_i32.toNat, v17.toNat, c0_i32_4.toNat, c4_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MergeRefIdeal.lean ====
abbrev S17408x2048 : Shape := ⟨2, ![17408, 2048]⟩
abbrev S16384x1024 : Shape := ⟨2, ![16384, 1024]⟩
abbrev S1024x1024 : Shape := ⟨2, ![1024, 1024]⟩
abbrev S17408x1024 : Shape := ⟨2, ![17408, 1024]⟩
abbrev S4x8x1x12288 : Shape := ⟨4, ![4, 8, 1, 12288]⟩
abbrev S3x1024 : Shape := ⟨2, ![3, 1024]⟩
abbrev S1x1024 : Shape := ⟨2, ![1, 1024]⟩
abbrev S4x2048x2048 : Shape := ⟨3, ![4, 2048, 2048]⟩
abbrev S1x2048 : Shape := ⟨2, ![1, 2048]⟩
abbrev S1x4x1x2048 : Shape := ⟨4, ![1, 4, 1, 2048]⟩
abbrev S4x1x2048 : Shape := ⟨3, ![4, 1, 2048]⟩
abbrev S4x4096x1024 : Shape := ⟨3, ![4, 4096, 1024]⟩
abbrev S_ : Shape := ⟨0, ![]⟩
abbrev S4x4098x1024 : Shape := ⟨3, ![4, 4098, 1024]⟩
abbrev S1024 : Shape := ⟨1, ![1024]⟩
abbrev S1x1x1024 : Shape := ⟨3, ![1, 1, 1024]⟩
abbrev S4x4096 : Shape := ⟨2, ![4, 4096]⟩
abbrev S4x4096x1 : Shape := ⟨3, ![4, 4096, 1]⟩
abbrev S4x4096x2048 : Shape := ⟨3, ![4, 4096, 2048]⟩
abbrev S16384x2048 : Shape := ⟨2, ![16384, 2048]⟩
abbrev S1x2048x2048 : Shape := ⟨3, ![1, 2048, 2048]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 124
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S16384x1024, .bf16⟩
  | .hbm, ⟨2, _⟩ => ⟨S1024x1024, .bf16⟩
  | .hbm, ⟨3, _⟩ => ⟨S17408x1024, .bf16⟩
  | .hbm, ⟨4, _⟩ => ⟨S17408x1024, .bf16⟩
  | .hbm, ⟨5, _⟩ => ⟨S4x8x1x12288, .f32⟩
  | .hbm, ⟨6, _⟩ => ⟨S3x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4x2048x2048, .f32⟩
  | .hbm, ⟨11, _⟩ => ⟨S1x2048, .f32⟩
  | .hbm, ⟨12, _⟩ => ⟨S1x4x1x2048, .f32⟩
  | .hbm, ⟨13, _⟩ => ⟨S4x1x2048, .f32⟩
  | .hbm, ⟨14, _⟩ => ⟨S1x4x1x2048, .f32⟩
  | .hbm, ⟨15, _⟩ => ⟨S4x1x2048, .f32⟩
  | .hbm, ⟨16, _⟩ => ⟨S1x4x1x2048, .f32⟩
  | .hbm, ⟨17, _⟩ => ⟨S4x1x2048, .f32⟩
  | .hbm, ⟨18, _⟩ => ⟨S16384x1024, .bf16⟩
  | .hbm, ⟨19, _⟩ => ⟨S16384x1024, .f32⟩
  | .hbm, ⟨20, _⟩ => ⟨S4x4096x1024, .f32⟩
  | .hbm, ⟨21, _⟩ => ⟨S_, .i32⟩
  | .hbm, ⟨22, _⟩ => ⟨S_, .f32⟩
  | .hbm, ⟨23, _⟩ => ⟨S4x4098x1024, .f32⟩
  | .hbm, ⟨24, _⟩ => ⟨S4x4096x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S1024, .f32⟩
  | .hbm, ⟨45, _⟩ => ⟨S1x1x1024, .f32⟩
  | .hbm, ⟨46, _⟩ => ⟨S4x4096x1024, .f32⟩
  | .hbm, ⟨47, _⟩ => ⟨S4x4096x1024, .f32⟩
  | .hbm, ⟨48, _⟩ => ⟨S16384x1024, .bf16⟩
  | .hbm, ⟨49, _⟩ => ⟨S16384x1024, .f32⟩
  | .hbm, ⟨50, _⟩ => ⟨S4x4096x1024, .f32⟩
  | .hbm, ⟨51, _⟩ => ⟨S4x4096x1024, .f32⟩
  | .hbm, ⟨52, _⟩ => ⟨S16384x1024, .f32⟩
  | .hbm, ⟨53, _⟩ => ⟨S4x4096x1024, .f32⟩
  | .hbm, ⟨54, _⟩ => ⟨S1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S1x1x1024, .f32⟩
  | .hbm, ⟨69, _⟩ => ⟨S4x4096x1024, .f32⟩
  | .hbm, ⟨70, _⟩ => ⟨S4x4096x1024, .f32⟩
  | .hbm, ⟨71, _⟩ => ⟨S1024, .f32⟩
  | .hbm, ⟨72, _⟩ => ⟨S4x4096x1024, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S4x4096x1, .f32⟩
  | .hbm, ⟨83, _⟩ => ⟨S4x4096x1024, .f32⟩
  | .hbm, ⟨84, _⟩ => ⟨S4x4096x1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | .hbm, ⟨88, _⟩ => ⟨S4x4096x2048, .f32⟩
  | .hbm, ⟨89, _⟩ => ⟨S16384x2048, .f32⟩
  | .hbm, ⟨90, _⟩ => ⟨S4x4096x2048, .f32⟩
  | .hbm, ⟨91, _⟩ => ⟨S1x2048x2048, .f32⟩
  | .hbm, ⟨92, _⟩ => ⟨S2048x2048, .f32⟩
  | .hbm, ⟨93, _⟩ => ⟨S4x4096x2048, .f32⟩
  | .hbm, ⟨94, _⟩ => ⟨S4x4096x2048, .f32⟩
  | .hbm, ⟨95, _⟩ => ⟨S4x4096x2048, .f32⟩
  | .hbm, ⟨96, _⟩ => ⟨S4x4096x2048, .f32⟩
  | .hbm, ⟨97, _⟩ => ⟨S2048, .f32⟩
  | .hbm, ⟨98, _⟩ => ⟨S4x4096x2048, .f32⟩
  | .hbm, ⟨99, _⟩ => ⟨S_, .f32⟩
  | .hbm, ⟨100, _⟩ => ⟨S4x4096, .f32⟩
  | .hbm, ⟨101, _⟩ => ⟨S4x4096x1, .f32⟩
  | .hbm, ⟨102, _⟩ => ⟨S_, .f32⟩
  | .hbm, ⟨103, _⟩ => ⟨S4x4096x1, .f32⟩
  | .hbm, ⟨104, _⟩ => ⟨S4x4096x1, .f32⟩
  | .hbm, ⟨105, _⟩ => ⟨S_, .f32⟩
  | .hbm, ⟨106, _⟩ => ⟨S4x4096x1, .f32⟩
  | .hbm, ⟨107, _⟩ => ⟨S4x4096x1, .f32⟩
  | .hbm, ⟨108, _⟩ => ⟨S4x4096x1, .f32⟩
  | .hbm, ⟨109, _⟩ => ⟨S4x4096x2048, .f32⟩
  | .hbm, ⟨110, _⟩ => ⟨S4x4096x2048, .f32⟩
  | .hbm, ⟨111, _⟩ => ⟨S1x1x2048, .f32⟩
  | .hbm, ⟨112, _⟩ => ⟨S4x4096x2048, .f32⟩
  | .hbm, ⟨113, _⟩ => ⟨S4x4096x2048, .f32⟩
  | .hbm, ⟨114, _⟩ => ⟨S_, .f32⟩
  | .hbm, ⟨115, _⟩ => ⟨S4x1x2048, .f32⟩
  | .hbm, ⟨116, _⟩ => ⟨S4x1x2048, .f32⟩
  | .hbm, ⟨117, _⟩ => ⟨S4x4096x2048, .f32⟩
  | .hbm, ⟨118, _⟩ => ⟨S4x4096x2048, .f32⟩
  | .hbm, ⟨119, _⟩ => ⟨S4x4096x2048, .f32⟩
  | .hbm, ⟨120, _⟩ => ⟨S4x4096x2048, .f32⟩
  | .hbm, ⟨121, _⟩ => ⟨S16384x2048, .f32⟩
  | .hbm, ⟨122, _⟩ => ⟨S16384x2048, .f32⟩
  | .hbm, ⟨123, _⟩ => ⟨S16384x2048, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst : Ref sig .tc := ⟨.hbm, 56, rfl⟩
abbrev main_v42 : Ref sig .tc := ⟨.hbm, 57, rfl⟩
abbrev main_v43 : Ref sig .tc := ⟨.hbm, 58, rfl⟩
abbrev main_cst_0 : Ref sig .tc := ⟨.hbm, 59, rfl⟩
abbrev main_v44 : Ref sig .tc := ⟨.hbm, 60, rfl⟩
abbrev main_v45 : Ref sig .tc := ⟨.hbm, 61, rfl⟩
abbrev main_cst_1 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_2 : Ref sig .tc := ⟨.hbm, 73, rfl⟩
abbrev main_v56 : Ref sig .tc := ⟨.hbm, 74, rfl⟩
abbrev main_v57 : Ref sig .tc := ⟨.hbm, 75, rfl⟩
abbrev main_cst_3 : Ref sig .tc := ⟨.hbm, 76, rfl⟩
abbrev main_v58 : Ref sig .tc := ⟨.hbm, 77, rfl⟩
abbrev main_v59 : Ref sig .tc := ⟨.hbm, 78, rfl⟩
abbrev main_cst_4 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_5 : Ref sig .tc := ⟨.hbm, 99, rfl⟩
abbrev main_v79 : Ref sig .tc := ⟨.hbm, 100, rfl⟩
abbrev main_v80 : Ref sig .tc := ⟨.hbm, 101, rfl⟩
abbrev main_cst_6 : Ref sig .tc := ⟨.hbm, 102, rfl⟩
abbrev main_v81 : Ref sig .tc := ⟨.hbm, 103, rfl⟩
abbrev main_v82 : Ref sig .tc := ⟨.hbm, 104, rfl⟩
abbrev main_cst_7 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_8 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩

abbrev nD : Nat := 1
abbrev τ : Topo := Topo.v7x

variable {F : FTy → Type} [FloatOps F]
-- ==== In.lean ====
abbrev S17408x2048 : Shape := ⟨2, ![17408, 2048]⟩
abbrev S4x8x1x12288 : Shape := ⟨4, ![4, 8, 1, 12288]⟩
abbrev S1x2048 : Shape := ⟨2, ![1, 2048]⟩
abbrev S4x2048x4608 : Shape := ⟨3, ![4, 2048, 4608]⟩
abbrev S1x128 : Shape := ⟨2, ![1, 128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S128 : Shape := ⟨1, ![128]⟩
abbrev S1024x128 : Shape := ⟨2, ![1024, 128]⟩
abbrev S5120x128 : Shape := ⟨2, ![5120, 128]⟩
abbrev S17408x1024 : Shape := ⟨2, ![17408, 1024]⟩
abbrev S17408x768 : Shape := ⟨2, ![17408, 768]⟩
abbrev S256x2048 : Shape := ⟨2, ![256, 2048]⟩
abbrev S16x2048 : Shape := ⟨2, ![16, 2048]⟩
abbrev S1x1x1x2048 : Shape := ⟨4, ![1, 1, 1, 2048]⟩
abbrev S1x2048x512 : Shape := ⟨3, ![1, 2048, 512]⟩
abbrev S1024x1024 : Shape := ⟨2, ![1024, 1024]⟩
abbrev S1024x768 : Shape := ⟨2, ![1024, 768]⟩
abbrev S1024x512 : Shape := ⟨2, ![1024, 512]⟩
abbrev S1024x2048 : Shape := ⟨2, ![1024, 2048]⟩
abbrev S256 : Shape := ⟨1, ![256]⟩
abbrev S256x1 : Shape := ⟨2, ![256, 1]⟩
abbrev S2048x512 : Shape := ⟨2, ![2048, 512]⟩
abbrev S1024 : Shape := ⟨1, ![1024]⟩
abbrev S1024x1 : Shape := ⟨2, ![1024, 1]⟩

abbrev nBuf : Space → Nat
  | .hbm => 126
  | .vmem => 36
  | .smem => 0
  | _ => 0

abbrev bufTy : (tb : Table) → Fin (tcTables nBuf tb) → BufTy
  | .hbm, ⟨0, _⟩ => ⟨S17408x2048, .f32⟩
  | .hbm, ⟨1, _⟩ => ⟨S4x8x1x12288, .f32⟩
  | .hbm, ⟨2, _⟩ => ⟨S1x2048, .f32⟩
  | .hbm, ⟨3, _⟩ => ⟨S4x2048x4608, .f32⟩
  | .hbm, ⟨4, _⟩ => ⟨S1x128, .f32⟩
  | .hbm, ⟨5, _⟩ => ⟨S1x128, .f32⟩
  | .hbm, ⟨6, _⟩ => ⟨S4x2048x4608, .bf16⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S4096, .i32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S_, .i1⟩
  | .hbm, ⟨43, _⟩ => ⟨S4096, .i1⟩
  | .hbm, ⟨44, _⟩ => ⟨S4096, .i1⟩
  | .hbm, ⟨45, _⟩ => ⟨S4096, .i1⟩
  | .hbm, ⟨46, _⟩ => ⟨S4096, .i32⟩
  | .hbm, ⟨47, _⟩ => ⟨S4096, .i32⟩
  | .hbm, ⟨48, _⟩ => ⟨S4096, .i32⟩
  | .hbm, ⟨49, _⟩ => ⟨S4096, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S4096x1, .f32⟩
  | .hbm, ⟨65, _⟩ => ⟨S1x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x1, .f32⟩
  | .hbm, ⟨70, _⟩ => ⟨S1x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S128, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S128, .i32⟩
  | .hbm, ⟨85, _⟩ => ⟨S128, .i32⟩
  | .hbm, ⟨86, _⟩ => ⟨S_, .i32⟩
  | .hbm, ⟨87, _⟩ => ⟨S128, .i32⟩
  | .hbm, ⟨88, _⟩ => ⟨S128, .i1⟩
  | .hbm, ⟨89, _⟩ => ⟨S_, .i32⟩
  | .hbm, ⟨90, _⟩ => ⟨S128, .i32⟩
  | .hbm, ⟨91, _⟩ => ⟨S128, .i1⟩
  | .hbm, ⟨92, _⟩ => ⟨S_, .i32⟩
  | .hbm, ⟨93, _⟩ => ⟨S_, .i1⟩
  | .hbm, ⟨94, _⟩ => ⟨S128, .i1⟩
  | .hbm, ⟨95, _⟩ => ⟨S128, .i1⟩
  | .hbm, ⟨96, _⟩ => ⟨S128, .i1⟩
  | .hbm, ⟨97, _⟩ => ⟨S128, .i32⟩
  | .hbm, ⟨98, _⟩ => ⟨S128, .i32⟩
  | .hbm, ⟨99, _⟩ => ⟨S128, .i32⟩
  | .hbm, ⟨100, _⟩ => ⟨S_, .i32⟩
  | .hbm, ⟨101, _⟩ => ⟨S128, .i32⟩
  | .hbm, ⟨102, _⟩ => ⟨S128, .i1⟩
  | .hbm, ⟨103, _⟩ => ⟨S4096x128, .f32⟩
  | .hbm, ⟨104, _⟩ => ⟨S_, .f32⟩
  | .hbm, ⟨105, _⟩ => ⟨S_, .f32⟩
  | .hbm, ⟨106, _⟩ => ⟨S4096x128, .i1⟩
  | .hbm, ⟨107, _⟩ => ⟨S4096x128, .f32⟩
  | .hbm, ⟨108, _⟩ => ⟨S4096x128, .f32⟩
  | .hbm, ⟨109, _⟩ => ⟨S_, .f32⟩
  | .hbm, ⟨110, _⟩ => ⟨S_, .f32⟩
  | .hbm, ⟨111, _⟩ => ⟨S4096x128, .i1⟩
  | .hbm, ⟨112, _⟩ => ⟨S4096x128, .f32⟩
  | .hbm, ⟨113, _⟩ => ⟨S4096x128, .f32⟩
  | .hbm, ⟨114, _⟩ => ⟨S_, .f32⟩
  | .hbm, ⟨115, _⟩ => ⟨S1024x128, .f32⟩
  | .hbm, ⟨116, _⟩ => ⟨S_, .f32⟩
  | .hbm, ⟨117, _⟩ => ⟨S1024x128, .f32⟩
  | .hbm, ⟨118, _⟩ => ⟨S1024x128, .f32⟩
  | .hbm, ⟨119, _⟩ => ⟨S5120x128, .f32⟩
  | .hbm, ⟨120, _⟩ => ⟨S5120x128, .f32⟩
  | .hbm, ⟨121, _⟩ => ⟨S5120x128, .f32⟩
  | .hbm, ⟨122, _⟩ => ⟨S17408x1024, .bf16⟩
  | .hbm, ⟨123, _⟩ => ⟨S17408x768, .bf16⟩
  | .hbm, ⟨124, _⟩ => ⟨S17408x1024, .bf16⟩
  | .hbm, ⟨125, _⟩ => ⟨S17408x1024, .bf16⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x2048, .f32⟩
  | .local _ .vmem, ⟨8, _⟩ => ⟨S1x2048x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x128, .f32⟩
  | .local _ .vmem, ⟨13, _⟩ => ⟨S1x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x1024, .bf16⟩
  | .local _ .vmem, ⟨21, _⟩ => ⟨S1024x1024, .bf16⟩
  | .local _ .vmem, ⟨22, _⟩ => ⟨S1024x768, .bf16⟩
  | .local _ .vmem, ⟨23, _⟩ => ⟨S1024x768, .bf16⟩
  | .local _ .vmem, ⟨24, _⟩ => ⟨S1024x512, .bf16⟩
  | .local _ .vmem, ⟨25, _⟩ => ⟨S1024x512, .bf16⟩
  | .local _ .vmem, ⟨26, _⟩ => ⟨S1024x512, .bf16⟩
  | .local _ .vmem, ⟨27, _⟩ => ⟨S1024x512, .bf16⟩
  | .local _ .vmem, ⟨28, _⟩ => ⟨S1024x2048, .bf16⟩
  | .local _ .vmem, ⟨29, _⟩ => ⟨S1024x2048, .bf16⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_v8 : Ref sig .tc := ⟨.hbm, 53, rfl⟩
abbrev main_cst_1 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_2 : Ref sig .tc := ⟨.hbm, 58, rfl⟩
abbrev main_v12 : Ref sig .tc := ⟨.hbm, 59, rfl⟩
abbrev main_v13 : Ref sig .tc := ⟨.hbm, 60, rfl⟩
abbrev main_cst_3 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_4 : Ref sig .tc := ⟨.hbm, 78, rfl⟩
abbrev main_call2_v0 : Ref sig .tc := ⟨.hbm, 79, rfl⟩
abbrev main_call2_c : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_c_1 : Ref sig .tc := ⟨.hbm, 86, rfl⟩
abbrev main_call2_v5 : Ref sig .tc := ⟨.hbm, 87, rfl⟩
abbrev main_call2_v6 : Ref sig .tc := ⟨.hbm, 88, rfl⟩
abbrev main_call2_c_2 : Ref sig .tc := ⟨.hbm, 89, rfl⟩
abbrev main_call2_v7 : Ref sig .tc := ⟨.hbm, 90, rfl⟩
abbrev main_call2_v8 : Ref sig .tc := ⟨.hbm, 91, rfl⟩
abbrev main_call2_c_3 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_v30 : Ref sig .tc := ⟨.hbm, 99, rfl⟩
abbrev main_c_5 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_cst_6 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v34 : Ref sig .tc := ⟨.hbm, 108, rfl⟩
abbrev main_cst_7 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v35 : Ref sig .tc := ⟨.hbm, 113, rfl⟩
abbrev main_cst_8 : Ref sig .tc := ⟨.hbm, 114, rfl⟩
abbrev main_v36 : Ref sig .tc := ⟨.hbm, 115, rfl⟩
abbrev main_cst_9 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_v40 : Ref sig .tc := ⟨.hbm, 120, rfl⟩
abbrev main_v41 : Ref sig .tc := ⟨.hbm, 121, rfl⟩
abbrev main_v42_0 : Ref sig .tc := ⟨.hbm, 122, rfl⟩
abbrev main_v42_1 : Ref sig .tc := ⟨.hbm, 123, rfl⟩
abbrev main_v42_2 : Ref sig .tc := ⟨.hbm, 124, rfl⟩
abbrev main_v42_3 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![91], ![false]⟩

def k0_cond1 (i : grid0.Coords) : BitVec 1 :=
  let arg0 : BitVec 32 := BitVec.ofNat 32 (i 0).val
  let c1_i32_3 : BitVec 32 := 1#32
  let v10 : BitVec 1 := Scalar.cmpi .sge arg0 c1_i32_3
  let c5_i32_4 : BitVec 32 := 5#32
  let v11 : BitVec 1 := Scalar.cmpi .slt arg0 c5_i32_4
  let v12 : BitVec 1 := Scalar.andi v10 v11
  let v13 : BitVec 32 := Scalar.extui v12
  let c0_i32_5 : BitVec 32 := 0#32
  let v14 : BitVec 1 := Scalar.cmpi .ne v13 c0_i32_5
  v14

def k0_mult1 (i : grid0.Coords) : BitVec 32 :=
  let arg0 : BitVec 32 := BitVec.ofNat 32 (i 0).val
  let c1_i32_22 : BitVec 32 := 1#32
  let v46 : BitVec 32 := Scalar.subi arg0 c1_i32_22
  let c256_i32 : BitVec 32 := 256#32
  let v47 : BitVec 32 := Scalar.muli v46 c256_i32
  v47
def k0_off1 (i : grid0.Coords) : Fin 2 → Nat :=
  let arg0 : BitVec 32 := BitVec.ofNat 32 (i 0).val
  let c1_i32_22 : BitVec 32 := 1#32
  let v46 : BitVec 32 := Scalar.subi arg0 c1_i32_22
  let c256_i32 : BitVec 32 := 256#32
  let v47 : BitVec 32 := Scalar.muli v46 c256_i32
  let v48 : BitVec 32 := v47
  let v74 : Index := Scalar.indexCast v48
  let c0_37 : Index := 0#32
  ![v74.toNat, 0]
def k0_cond5 (i : grid0.Coords) : BitVec 1 :=
  let arg0 : BitVec 32 := BitVec.ofNat 32 (i 0).val
  let c5_i32_12 : BitVec 32 := 5#32
  let v26 : BitVec 1 := Scalar.cmpi .sgt arg0 c5_i32_12
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_13 : BitVec 32 := 1#32
  let v27 : BitVec 1 := Scalar.cmpi .eq v9 c1_i32_13
  let v28 : BitVec 1 := Scalar.andi v26 v27
  let v29 : BitVec 32 := Scalar.extui v28
  let c0_i32_14 : BitVec 32 := 0#32
  let v30 : BitVec 1 := Scalar.cmpi .ne v29 c0_i32_14
  v30

def k0_cond6 (i : grid0.Coords) : BitVec 1 :=
  let arg0 : BitVec 32 := BitVec.ofNat 32 (i 0).val
  let c5_i32_15 : BitVec 32 := 5#32
  let v31 : BitVec 1 := Scalar.cmpi .sgt arg0 c5_i32_15
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32 : BitVec 32 := 2#32
  let v32 : BitVec 1 := Scalar.cmpi .eq v9 c2_i32
  let v33 : BitVec 1 := Scalar.andi v31 v32
  let v34 : BitVec 32 := Scalar.extui v33
  let c0_i32_16 : BitVec 32 := 0#32
  let v35 : BitVec 1 := Scalar.cmpi .ne v34 c0_i32_16
  v35

def k0_cond7 (i : grid0.Coords) : BitVec 1 :=
  let arg0 : BitVec 32 := BitVec.ofNat 32 (i 0).val
  let c5_i32_17 : BitVec 32 := 5#32
  let v36 : BitVec 1 := Scalar.cmpi .sgt arg0 c5_i32_17
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32 : BitVec 32 := 3#32
  let v37 : BitVec 1 := Scalar.cmpi .eq v9 c3_i32
  let v38 : BitVec 1 := Scalar.andi v36 v37
  let v39 : BitVec 32 := Scalar.extui v38
  let c0_i32_18 : BitVec 32 := 0#32
  let v40 : BitVec 1 := Scalar.cmpi .ne v39 c0_i32_18
  v40

def k0_cond8 (i : grid0.Coords) : BitVec 1 :=
  let arg0 : BitVec 32 := BitVec.ofNat 32 (i 0).val
  let c5_i32_19 : BitVec 32 := 5#32
  let v41 : BitVec 1 := Scalar.cmpi .sgt arg0 c5_i32_19
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_20 : BitVec 32 := 4#32
  let v42 : BitVec 1 := Scalar.cmpi .eq v9 c4_i32_20
  let v43 : BitVec 1 := Scalar.andi v41 v42
  let v44 : BitVec 32 := Scalar.extui v43
  let c0_i32_21 : BitVec 32 := 0#32
  let v45 : BitVec 1 := Scalar.cmpi .ne v44 c0_i32_21
  v45

def k0_cond4 (i : grid0.Coords) : BitVec 1 :=
  let arg0 : BitVec 32 := BitVec.ofNat 32 (i 0).val
  let c5_i32_9 : BitVec 32 := 5#32
  let v21 : BitVec 1 := Scalar.cmpi .sgt arg0 c5_i32_9
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_10 : BitVec 32 := 0#32
  let v22 : BitVec 1 := Scalar.cmpi .eq v9 c0_i32_10
  let v23 : BitVec 1 := Scalar.andi v21 v22
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c1_i32_5 : BitVec 32 := 1#32
  let v18 : BitVec 32 := Scalar.addi v17 c1_i32_5
  let c0_i32_6 : BitVec 32 := 0#32
  let c16_i32 : BitVec 32 := 16#32
  let v19 : BitVec 32 := Scalar.maxsi c0_i32_6 v18
  let v20 : BitVec 32 := Scalar.minsi c16_i32 v19
  let c4_i32 : BitVec 32 := 4#32
  let v21 : BitVec 32 := Scalar.muli v20 c4_i32
  let c5_i32_7 : BitVec 32 := 5#32
  let c0_i32_8 : BitVec 32 := 0#32
  let v22 : BitVec 1 := Scalar.cmpi .eq c5_i32_7 c0_i32_8
  let c1_i32_9 : BitVec 32 := 1#32
  let v23 : BitVec 32 := Scalar.select v22 c1_i32_9 c5_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.subi v31 c1_i32_13
  let c0_i32_14 : BitVec 32 := 0#32
  let c3_i32 : BitVec 32 := 3#32
  let v33 : BitVec 32 := Scalar.maxsi c0_i32_14 v32
  let v34 : BitVec 32 := Scalar.minsi c3_i32 v33
  let v35 : BitVec 32 := Scalar.addi v21 v34
  let c0_i32_15 : BitVec 32 := 0#32
  let c0_i32_16 : BitVec 32 := 0#32
  ![v35.toNat, c0_i32_15.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c1_i32_5 : BitVec 32 := 1#32
  let v18 : BitVec 32 := Scalar.addi v17 c1_i32_5
  let c0_i32_6 : BitVec 32 := 0#32
  let c16_i32 : BitVec 32 := 16#32
  let v19 : BitVec 32 := Scalar.maxsi c0_i32_6 v18
  let v20 : BitVec 32 := Scalar.minsi c16_i32 v19
  let c4_i32 : BitVec 32 := 4#32
  let v21 : BitVec 32 := Scalar.muli v20 c4_i32
  let c5_i32_7 : BitVec 32 := 5#32
  let c0_i32_8 : BitVec 32 := 0#32
  let v22 : BitVec 1 := Scalar.cmpi .eq c5_i32_7 c0_i32_8
  let c1_i32_9 : BitVec 32 := 1#32
  let v23 : BitVec 32 := Scalar.select v22 c1_i32_9 c5_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.subi v31 c1_i32_13
  let c0_i32_14 : BitVec 32 := 0#32
  let c3_i32 : BitVec 32 := 3#32
  let v33 : BitVec 32 := Scalar.maxsi c0_i32_14 v32
  let v34 : BitVec 32 := Scalar.minsi c3_i32 v33
  let v35 : BitVec 32 := Scalar.addi v21 v34
  let c4_i32_15 : BitVec 32 := 4#32
  let v36 : BitVec 32 := Scalar.divsi v35 c4_i32_15
  let c0_i32_16 : BitVec 32 := 0#32
  let v37 : BitVec 1 := Scalar.cmpi .sgt v35 c0_i32_16
  let v38 : BitVec 32 := Scalar.extui v37
  let c0_i32_17 : BitVec 32 := 0#32
  let v39 : BitVec 1 := Scalar.cmpi .slt v35 c0_i32_17
  let v40 : BitVec 32 := Scalar.extui v39
  let v41 : BitVec 32 := Scalar.subi v38 v40
  let c0_i32_18 : BitVec 32 := 0#32
  let v42 : BitVec 1 := Scalar.cmpi .sgt c4_i32_15 c0_i32_18
  let v43 : BitVec 32 := Scalar.extui v42
  let c0_i32_19 : BitVec 32 := 0#32
  let v44 : BitVec 1 := Scalar.cmpi .slt c4_i32_15 c0_i32_19
  let v45 : BitVec 32 := Scalar.extui v44
  let v46 : BitVec 32 := Scalar.subi v43 v45
  let v47 : BitVec 1 := Scalar.cmpi .ne v41 v46
  let v48 : BitVec 32 := Scalar.remsi v35 c4_i32_15
  let c0_i32_20 : BitVec 32 := 0#32
  let v49 : BitVec 1 := Scalar.cmpi .ne v48 c0_i32_20
  let v50 : BitVec 1 := Scalar.andi v47 v49
  let c1_i32_21 : BitVec 32 := 1#32
  let v51 : BitVec 32 := Scalar.subi v36 c1_i32_21
  let v52 : BitVec 32 := Scalar.select v50 v51 v36
  let c4_i32_22 : BitVec 32 := 4#32
  let v53 : BitVec 32 := Scalar.divsi v52 c4_i32_22
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c0_i32_25 : BitVec 32 := 0#32
  let v59 : BitVec 1 := Scalar.cmpi .sgt c4_i32_22 c0_i32_25
  let v60 : BitVec 32 := Scalar.extui v59
  let c0_i32_26 : BitVec 32 := 0#32
  let v61 : BitVec 1 := Scalar.cmpi .slt c4_i32_22 c0_i32_26
  let v62 : BitVec 32 := Scalar.extui v61
  let v63 : BitVec 32 := Scalar.subi v60 v62
  let v64 : BitVec 1 := Scalar.cmpi .ne v58 v63
  let v65 : BitVec 32 := Scalar.remsi v52 c4_i32_22
  let c0_i32_27 : BitVec 32 := 0#32
  let v66 : BitVec 1 := Scalar.cmpi .ne v65 c0_i32_27
  let v67 : BitVec 1 := Scalar.andi v64 v66
  let c1_i32_28 : BitVec 32 := 1#32
  let v68 : BitVec 32 := Scalar.subi v53 c1_i32_28
  let v69 : BitVec 32 := Scalar.select v67 v68 v53
  let c4_i32_29 : BitVec 32 := 4#32
  let v70 : BitVec 32 := Scalar.minsi v69 c4_i32_29
  let c3_i32_30 : BitVec 32 := 3#32
  let c0_i32_31 : BitVec 32 := 0#32
  let c0_i32_32 : BitVec 32 := 0#32
  let c0_i32_33 : BitVec 32 := 0#32
  ![c3_i32_30.toNat, v70.toNat, c0_i32_31.toNat, c0_i32_32.toNat]

def cc0_transform_3 (i : grid0.Coords) : Fin 4 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c1_i32_5 : BitVec 32 := 1#32
  let v18 : BitVec 32 := Scalar.addi v17 c1_i32_5
  let c0_i32_6 : BitVec 32 := 0#32
  let c16_i32 : BitVec 32 := 16#32
  let v19 : BitVec 32 := Scalar.maxsi c0_i32_6 v18
  let v20 : BitVec 32 := Scalar.minsi c16_i32 v19
  let c4_i32 : BitVec 32 := 4#32
  let v21 : BitVec 32 := Scalar.muli v20 c4_i32
  let c5_i32_7 : BitVec 32 := 5#32
  let c0_i32_8 : BitVec 32 := 0#32
  let v22 : BitVec 1 := Scalar.cmpi .eq c5_i32_7 c0_i32_8
  let c1_i32_9 : BitVec 32 := 1#32
  let v23 : BitVec 32 := Scalar.select v22 c1_i32_9 c5_i32_7
  let v24 : BitVec 32 := Scalar.remsi arg0 v23
  let c0_i32_10 : BitVec 32 := 0#32
  let v25 : BitVec 1 := Scalar.cmpi .ne v24 c0_i32_10
  let c0_i32_11 : BitVec 32 := 0#32
  let v26 : BitVec 1 := Scalar.cmpi .slt v24 c0_i32_11
  let c0_i32_12 : BitVec 32 := 0#32
  let v27 : BitVec 1 := Scalar.cmpi .slt v23 c0_i32_12
  let v28 : BitVec 1 := Scalar.xori v26 v27
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.subi v31 c1_i32_13
  let c0_i32_14 : BitVec 32 := 0#32
  let c3_i32 : BitVec 32 := 3#32
  let v33 : BitVec 32 := Scalar.maxsi c0_i32_14 v32
  let v34 : BitVec 32 := Scalar.minsi c3_i32 v33
  let v35 : BitVec 32 := Scalar.addi v21 v34
  let c4_i32_15 : BitVec 32 := 4#32
  let v36 : BitVec 32 := Scalar.divsi v35 c4_i32_15
  let c0_i32_16 : BitVec 32 := 0#32
  let v37 : BitVec 1 := Scalar.cmpi .sgt v35 c0_i32_16
  let v38 : BitVec 32 := Scalar.extui v37
  let c0_i32_17 : BitVec 32 := 0#32
  let v39 : BitVec 1 := Scalar.cmpi .slt v35 c0_i32_17
  let v40 : BitVec 32 := Scalar.extui v39
  let v41 : BitVec 32 := Scalar.subi v38 v40
  let c0_i32_18 : BitVec 32 := 0#32
  let v42 : BitVec 1 := Scalar.cmpi .sgt c4_i32_15 c0_i32_18
  let v43 : BitVec 32 := Scalar.extui v42
  let c0_i32_19 : BitVec 32 := 0#32
  let v44 : BitVec 1 := Scalar.cmpi .slt c4_i32_15 c0_i32_19
  let v45 : BitVec 32 := Scalar.extui v44
  let v46 : BitVec 32 := Scalar.subi v43 v45
  let v47 : BitVec 1 := Scalar.cmpi .ne v41 v46
  let v48 : BitVec 32 := Scalar.remsi v35 c4_i32_15
  let c0_i32_20 : BitVec 32 := 0#32
  let v49 : BitVec 1 := Scalar.cmpi .ne v48 c0_i32_20
  let v50 : BitVec 1 := Scalar.andi v47 v49
  let c1_i32_21 : BitVec 32 := 1#32
  let v51 : BitVec 32 := Scalar.subi v36 c1_i32_21
  let v52 : BitVec 32 := Scalar.select v50 v51 v36
  let c4_i32_22 : BitVec 32 := 4#32
  let v53 : BitVec 32 := Scalar.divsi v52 c4_i32_22
  let c0_i32_23 : BitVec 32 := 0#32
  let v54 : BitVec 1 := Scalar.cmpi .sgt v52 c0_i32_23
  let v55 : BitVec 32 := Scalar.extui v54
  let c0_i32_24 : BitVec 32 := 0#32
  let v56 : BitVec 1 := Scalar.cmpi .slt v52 c0_i32_24
  let v57 : BitVec 32 := Scalar.extui v56
  let v58 : BitVec 32 := Scalar.subi v55 v57
  let c0_i32_25 : BitVec 32 := 0#32
  let v59 : BitVec 1 := Scalar.cmpi .sgt c4_i32_22 c0_i32_25
  let v60 : BitVec 32 := Scalar.extui v59
  let c0_i32_26 : BitVec 32 := 0#32
  let v61 : BitVec 1 := Scalar.cmpi .slt c4_i32_22 c0_i32_26
  let v62 : BitVec 32 := Scalar.extui v61
  let v63 : BitVec 32 := Scalar.subi v60 v62
  let v64 : BitVec 1 := Scalar.cmpi .ne v58 v63
  let v65 : BitVec 32 := Scalar.remsi v52 c4_i32_22
  let c0_i32_27 : BitVec 32 := 0#32
  let v66 : BitVec 1 := Scalar.cmpi .ne v65 c0_i32_27
  let v67 : BitVec 1 := Scalar.andi v64 v66
  let c1_i32_28 : BitVec 32 := 1#32
  let v68 : BitVec 32 := Scalar.subi v53 c1_i32_28
  let v69 : BitVec 32 := Scalar.select v67 v68 v53
  let c4_i32_29 : BitVec 32 := 4#32
  let v70 : BitVec 32 := Scalar.minsi v69 c4_i32_29
  let c3_i32_30 : BitVec 32 := 3#32
  let c0_i32_31 : BitVec 32 := 0#32
  let c1_i32_32 : BitVec 32 := 1#32
  let c0_i32_33 : BitVec 32 := 0#32
  ![c3_i32_30.toNat, v70.toNat, c0_i32_31.toNat, c1_i32_32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let c2_i32 : BitVec 32 := 2#32
  let c0_i32_4 : BitVec 32 := 0#32
  let v11 : BitVec 32 := Scalar.select v10 c2_i32 c0_i32_4
  let c2_i32_5 : BitVec 32 := 2#32
  let v12 : BitVec 1 := Scalar.cmpi .eq v9 c2_i32_5
  let c7_i32 : BitVec 32 := 7#32
  let v13 : BitVec 32 := Scalar.select v12 c7_i32 v11
  let c3_i32 : BitVec 32 := 3#32
  let v14 : BitVec 1 := Scalar.cmpi .eq v9 c3_i32
  let c8_i32 : BitVec 32 := 8#32
  let v15 : BitVec 32 := Scalar.select v14 c8_i32 v13
  let c4_i32 : BitVec 32 := 4#32
  let v16 : BitVec 1 := Scalar.cmpi .eq v9 c4_i32
  let c4_i32_6 : BitVec 32 := 4#32
  let v17 : BitVec 32 := Scalar.select v16 c4_i32_6 v15
  let c3_i32_7 : BitVec 32 := 3#32
  let c0_i32_8 : BitVec 32 := 0#32
  let c0_i32_9 : BitVec 32 := 0#32
  ![c3_i32_7.toNat, c0_i32_8.toNat, v17.toNat]

def cc0_transform_6 (i : grid0.Coords) : Fin 3 → Nat :=
  let arg0 : BitVec 32 := BitVec.ofNat 32 (i 0).val
  let c5_i32 : BitVec 32 := 5#32
  let c0_i32 : BitVec 32 := 0#32
  let v0 : BitVec 1 := Scalar.cmpi .eq c5_i32 c0_i32
  let c1_i32 : BitVec 32 := 1#32
  let v1 : BitVec 32 := Scalar.select v0 c1_i32 c5_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 1 := Scalar.cmpi .eq v9 c1_i32_3
  let c5_i32_4 : BitVec 32 := 5#32
  let c1_i32_5 : BitVec 32 := 1#32
  let v11 : BitVec 32 := Scalar.select v10 c5_i32_4 c1_i32_5
  let c2_i32 : BitVec 32 := 2#32
  let v12 : BitVec 1 := Scalar.cmpi .eq v9 c2_i32
  let c6_i32 : BitVec 32 := 6#32
  let v13 : BitVec 32 := Scalar.select v12 c6_i32 v11
  let c3_i32 : BitVec 32 := 3#32
  let v14 : BitVec 1 := Scalar.cmpi .eq v9 c3_i32
  let c3_i32_6 : BitVec 32 := 3#32
  let v15 : BitVec 32 := Scalar.select v14 c3_i32_6 v13
  let c4_i32 : BitVec 32 := 4#32
  let v16 : BitVec 1 := Scalar.cmpi .eq v9 c4_i32
  let c4_i32_7 : BitVec 32 := 4#32
  let v17 : BitVec 32 := Scalar.select v16 c4_i32_7 v15
  let c3_i32_8 : BitVec 32 := 3#32
  let c0_i32_9 : BitVec 32 := 0#32
  let c0_i32_10 : BitVec 32 := 0#32
  ![c3_i32_8.toNat, c0_i32_9.toNat, v17.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let v29 : BitVec 32 := Scalar.extui v28
  let v30 : BitVec 32 := Scalar.subi v17 v29
  let c0_i32_12 : BitVec 32 := 0#32
  let c16_i32 : BitVec 32 := 16#32
  let v31 : BitVec 32 := Scalar.maxsi c0_i32_12 v30
  let v32 : BitVec 32 := Scalar.minsi c16_i32 v31
  let c16_i32_13 : BitVec 32 := 16#32
  let v33 : BitVec 1 := Scalar.cmpi .slt v32 c16_i32_13
  let c4_i32 : BitVec 32 := 4#32
  let c0_i32_14 : BitVec 32 := 0#32
  let v34 : BitVec 1 := Scalar.cmpi .eq c4_i32 c0_i32_14
  let c1_i32_15 : BitVec 32 := 1#32
  let v35 : BitVec 32 := Scalar.select v34 c1_i32_15 c4_i32
  let v36 : BitVec 32 := Scalar.remsi v32 v35
  let c0_i32_16 : BitVec 32 := 0#32
  let v37 : BitVec 1 := Scalar.cmpi .ne v36 c0_i32_16
  let c0_i32_17 : BitVec 32 := 0#32
  let v38 : BitVec 1 := Scalar.cmpi .slt v36 c0_i32_17
  let c0_i32_18 : BitVec 32 := 0#32
  let v39 : BitVec 1 := Scalar.cmpi .slt v35 c0_i32_18
  let v40 : BitVec 1 := Scalar.xori v38 v39
  let v41 : BitVec 1 := Scalar.andi v40 v37
  let v42 : BitVec 32 := Scalar.addi v36 v35
  let v43 : BitVec 32 := Scalar.select v41 v42 v36
  let c4_i32_19 : BitVec 32 := 4#32
  let v44 : BitVec 32 := Scalar.select v33 v43 c4_i32_19
  let c0_i32_20 : BitVec 32 := 0#32
  let c0_i32_21 : BitVec 32 := 0#32
  ![v44.toNat, c0_i32_20.toNat]

def cc0_transform_10 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let v29 : BitVec 32 := Scalar.extui v28
  let v30 : BitVec 32 := Scalar.subi v17 v29
  let c0_i32_12 : BitVec 32 := 0#32
  let c16_i32 : BitVec 32 := 16#32
  let v31 : BitVec 32 := Scalar.maxsi c0_i32_12 v30
  let v32 : BitVec 32 := Scalar.minsi c16_i32 v31
  let c16_i32_13 : BitVec 32 := 16#32
  let v33 : BitVec 1 := Scalar.cmpi .slt v32 c16_i32_13
  let c4_i32 : BitVec 32 := 4#32
  let c0_i32_14 : BitVec 32 := 0#32
  let v34 : BitVec 1 := Scalar.cmpi .eq c4_i32 c0_i32_14
  let c1_i32_15 : BitVec 32 := 1#32
  let v35 : BitVec 32 := Scalar.select v34 c1_i32_15 c4_i32
  let v36 : BitVec 32 := Scalar.remsi v32 v35
  let c0_i32_16 : BitVec 32 := 0#32
  let v37 : BitVec 1 := Scalar.cmpi .ne v36 c0_i32_16
  let c0_i32_17 : BitVec 32 := 0#32
  let v38 : BitVec 1 := Scalar.cmpi .slt v36 c0_i32_17
  let c0_i32_18 : BitVec 32 := 0#32
  let v39 : BitVec 1 := Scalar.cmpi .slt v35 c0_i32_18
  let v40 : BitVec 1 := Scalar.xori v38 v39
  let v41 : BitVec 1 := Scalar.andi v40 v37
  let v42 : BitVec 32 := Scalar.addi v36 v35
  let v43 : BitVec 32 := Scalar.select v41 v42 v36
  let c4_i32_19 : BitVec 32 := 4#32
  let v44 : BitVec 32 := Scalar.select v33 v43 c4_i32_19
  let c0_i32_20 : BitVec 32 := 0#32
  let c0_i32_21 : BitVec 32 := 0#32
  ![v44.toNat, c0_i32_20.toNat]

def cc0_transform_11 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let v29 : BitVec 32 := Scalar.extui v28
  let v30 : BitVec 32 := Scalar.subi v17 v29
  let c0_i32_12 : BitVec 32 := 0#32
  let c16_i32 : BitVec 32 := 16#32
  let v31 : BitVec 32 := Scalar.maxsi c0_i32_12 v30
  let v32 : BitVec 32 := Scalar.minsi c16_i32 v31
  let c16_i32_13 : BitVec 32 := 16#32
  let v33 : BitVec 1 := Scalar.cmpi .slt v32 c16_i32_13
  let c4_i32 : BitVec 32 := 4#32
  let c0_i32_14 : BitVec 32 := 0#32
  let v34 : BitVec 1 := Scalar.cmpi .eq c4_i32 c0_i32_14
  let c1_i32_15 : BitVec 32 := 1#32
  let v35 : BitVec 32 := Scalar.select v34 c1_i32_15 c4_i32
  let v36 : BitVec 32 := Scalar.remsi v32 v35
  let c0_i32_16 : BitVec 32 := 0#32
  let v37 : BitVec 1 := Scalar.cmpi .ne v36 c0_i32_16
  let c0_i32_17 : BitVec 32 := 0#32
  let v38 : BitVec 1 := Scalar.cmpi .slt v36 c0_i32_17
  let c0_i32_18 : BitVec 32 := 0#32
  let v39 : BitVec 1 := Scalar.cmpi .slt v35 c0_i32_18
  let v40 : BitVec 1 := Scalar.xori v38 v39
  let v41 : BitVec 1 := Scalar.andi v40 v37
  let v42 : BitVec 32 := Scalar.addi v36 v35
  let v43 : BitVec 32 := Scalar.select v41 v42 v36
  let c4_i32_19 : BitVec 32 := 4#32
  let v44 : BitVec 32 := Scalar.select v33 v43 c4_i32_19
  let c0_i32_20 : BitVec 32 := 0#32
  let c0_i32_21 : BitVec 32 := 0#32
  ![v44.toNat, c0_i32_20.toNat]

def cc0_transform_12 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let v29 : BitVec 32 := Scalar.extui v28
  let v30 : BitVec 32 := Scalar.subi v17 v29
  let c0_i32_12 : BitVec 32 := 0#32
  let c16_i32 : BitVec 32 := 16#32
  let v31 : BitVec 32 := Scalar.maxsi c0_i32_12 v30
  let v32 : BitVec 32 := Scalar.minsi c16_i32 v31
  let c0_i32_13 : BitVec 32 := 0#32
  let c0_i32_14 : BitVec 32 := 0#32
  ![v32.toNat, c0_i32_13.toNat]

def cc0_transform_13 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let v29 : BitVec 32 := Scalar.extui v28
  let v30 : BitVec 32 := Scalar.subi v17 v29
  let c0_i32_12 : BitVec 32 := 0#32
  let c16_i32 : BitVec 32 := 16#32
  let v31 : BitVec 32 := Scalar.maxsi c0_i32_12 v30
  let v32 : BitVec 32 := Scalar.minsi c16_i32 v31
  let c0_i32_13 : BitVec 32 := 0#32
  let c0_i32_14 : BitVec 32 := 0#32
  ![v32.toNat, c0_i32_13.toNat]

def cc0_transform_14 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let v29 : BitVec 32 := Scalar.extui v28
  let v30 : BitVec 32 := Scalar.subi v17 v29
  let c0_i32_12 : BitVec 32 := 0#32
  let c16_i32 : BitVec 32 := 16#32
  let v31 : BitVec 32 := Scalar.maxsi c0_i32_12 v30
  let v32 : BitVec 32 := Scalar.minsi c16_i32 v31
  let c5_i32_13 : BitVec 32 := 5#32
  let c0_i32_14 : BitVec 32 := 0#32
  let v33 : BitVec 1 := Scalar.cmpi .eq c5_i32_13 c0_i32_14
  let c1_i32_15 : BitVec 32 := 1#32
  let v34 : BitVec 32 := Scalar.select v33 c1_i32_15 c5_i32_13
  let v35 : BitVec 32 := Scalar.remsi arg0 v34
  let c0_i32_16 : BitVec 32 := 0#32
  let v36 : BitVec 1 := Scalar.cmpi .ne v35 c0_i32_16
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let v40 : BitVec 1 := Scalar.andi v39 v36
  let v41 : BitVec 32 := Scalar.addi v35 v34
  let v42 : BitVec 32 := Scalar.select v40 v41 v35
  let c5_i32_19 : BitVec 32 := 5#32
  let v43 : BitVec 1 := Scalar.cmpi .sgt arg0 c5_i32_19
  let c0_i32_20 : BitVec 32 := 0#32
  let v44 : BitVec 1 := Scalar.cmpi .eq v42 c0_i32_20
  let c3_i32 : BitVec 32 := 3#32
  let v45 : BitVec 1 := Scalar.cmpi .sgt v42 c3_i32
  let v46 : BitVec 1 := Scalar.ori v44 v45
  let v47 : BitVec 1 := Scalar.andi v43 v46
  let v48 : BitVec 32 := Scalar.extui v47
  let c0_i32_21 : BitVec 32 := 0#32
  ![v32.toNat, v48.toNat]

def cc0_transform_15 (i : grid0.Coords) : Fin 2 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.subi v16 c1_i32_4
  let c5_i32_5 : BitVec 32 := 5#32
  let c0_i32_6 : BitVec 32 := 0#32
  let v18 : BitVec 1 := Scalar.cmpi .eq c5_i32_5 c0_i32_6
  let c1_i32_7 : BitVec 32 := 1#32
  let v19 : BitVec 32 := Scalar.select v18 c1_i32_7 c5_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 1 := Scalar.cmpi .eq v27 c0_i32_11
  let v29 : BitVec 32 := Scalar.extui v28
  let v30 : BitVec 32 := Scalar.subi v17 v29
  let c0_i32_12 : BitVec 32 := 0#32
  let c16_i32 : BitVec 32 := 16#32
  let v31 : BitVec 32 := Scalar.maxsi c0_i32_12 v30
  let v32 : BitVec 32 := Scalar.minsi c16_i32 v31
  let c5_i32_13 : BitVec 32 := 5#32
  let c0_i32_14 : BitVec 32 := 0#32
  let v33 : BitVec 1 := Scalar.cmpi .eq c5_i32_13 c0_i32_14
  let c1_i32_15 : BitVec 32 := 1#32
  let v34 : BitVec 32 := Scalar.select v33 c1_i32_15 c5_i32_13
  let v35 : BitVec 32 := Scalar.remsi arg0 v34
  let c0_i32_16 : BitVec 32 := 0#32
  let v36 : BitVec 1 := Scalar.cmpi .ne v35 c0_i32_16
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let v40 : BitVec 1 := Scalar.andi v39 v36
  let v41 : BitVec 32 := Scalar.addi v35 v34
  let v42 : BitVec 32 := Scalar.select v40 v41 v35
  let c5_i32_19 : BitVec 32 := 5#32
  let v43 : BitVec 1 := Scalar.cmpi .sgt arg0 c5_i32_19
  let c0_i32_20 : BitVec 32 := 0#32
  let v44 : BitVec 1 := Scalar.cmpi .eq v42 c0_i32_20
  let c4_i32 : BitVec 32 := 4#32
  let v45 : BitVec 1 := Scalar.cmpi .sgt v42 c4_i32
  let v46 : BitVec 1 := Scalar.ori v44 v45
  let v47 : BitVec 1 := Scalar.andi v43 v46
  let v48 : BitVec 32 := Scalar.extui v47
  let c0_i32_21 : BitVec 32 := 0#32
  ![v32.toNat, v48.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== InRefIdeal.lean ====
abbrev S17408x2048 : Shape := ⟨2, ![17408, 2048]⟩
abbrev S4x8x1x12288 : Shape := ⟨4, ![4, 8, 1, 12288]⟩
abbrev S1x2048 : Shape := ⟨2, ![1, 2048]⟩
abbrev S4x2048x4608 : Shape := ⟨3, ![4, 2048, 4608]⟩
abbrev S1x128 : Shape := ⟨2, ![1, 128]⟩
abbrev S1x8x1x2048 : Shape := ⟨4, ![1, 8, 1, 2048]⟩
abbrev S8x1x2048 : Shape := ⟨3, ![8, 1, 2048]⟩
abbrev S16384x2048 : Shape := ⟨2, ![16384, 2048]⟩
abbrev S4x4096x2048 : Shape := ⟨3, ![4, 4096, 2048]⟩
abbrev S1024x2048 : Shape := ⟨2, ![1024, 2048]⟩
abbrev S4x256x2048 : Shape := ⟨3, ![4, 256, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x256 : Shape := ⟨2, ![4, 256]⟩
abbrev S4x256x1 : Shape := ⟨3, ![4, 256, 1]⟩
abbrev S1x2048x4608 : Shape := ⟨3, ![1, 2048, 4608]⟩
abbrev S2048x4608 : Shape := ⟨2, ![2048, 4608]⟩
abbrev S4x4096x4608 : Shape := ⟨3, ![4, 4096, 4608]⟩
abbrev S4x4096x1536 : Shape := ⟨3, ![4, 4096, 1536]⟩
abbrev S4x4096x1024 : Shape := ⟨3, ![4, 4096, 1024]⟩
abbrev S4x256x4608 : Shape := ⟨3, ![4, 256, 4608]⟩
abbrev S4x256x1536 : Shape := ⟨3, ![4, 256, 1536]⟩
abbrev S4x256x1024 : Shape := ⟨3, ![4, 256, 1024]⟩
abbrev S16384x1024 : Shape := ⟨2, ![16384, 1024]⟩
abbrev S1024x1024 : Shape := ⟨2, ![1024, 1024]⟩
abbrev S17408x1024 : Shape := ⟨2, ![17408, 1024]⟩

abbrev nBuf : Space → Nat
  | .hbm => 94
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S4x8x1x12288, .f32⟩
  | .hbm, ⟨2, _⟩ => ⟨S1x2048, .f32⟩
  | .hbm, ⟨3, _⟩ => ⟨S4x2048x4608, .f32⟩
  | .hbm, ⟨4, _⟩ => ⟨S1x128, .f32⟩
  | .hbm, ⟨5, _⟩ => ⟨S1x128, .f32⟩
  | .hbm, ⟨6, _⟩ => ⟨S1x8x1x2048, .f32⟩
  | .hbm, ⟨7, _⟩ => ⟨S8x1x2048, .f32⟩
  | .hbm, ⟨8, _⟩ => ⟨S1x8x1x2048, .f32⟩
  | .hbm, ⟨9, _⟩ => ⟨S8x1x2048, .f32⟩
  | .hbm, ⟨10, _⟩ => ⟨S16384x2048, .f32⟩
  | .hbm, ⟨11, _⟩ => ⟨S4x4096x2048, .f32⟩
  | .hbm, ⟨12, _⟩ => ⟨S1024x2048, .f32⟩
  | .hbm, ⟨13, _⟩ => ⟨S4x256x2048, .f32⟩
  | .hbm, ⟨14, _⟩ => ⟨S2048, .f32⟩
  | .hbm, ⟨15, _⟩ => ⟨S4x4096x2048, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S4x4096x1, .f32⟩
  | .hbm, ⟨26, _⟩ => ⟨S4x4096x2048, .f32⟩
  | .hbm, ⟨27, _⟩ => ⟨S4x4096x2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x1x2048, .f32⟩
  | .hbm, ⟨32, _⟩ => ⟨S_, .f32⟩
  | .hbm, ⟨33, _⟩ => ⟨S4x1x2048, .f32⟩
  | .hbm, ⟨34, _⟩ => ⟨S4x1x2048, .f32⟩
  | .hbm, ⟨35, _⟩ => ⟨S4x4096x2048, .f32⟩
  | .hbm, ⟨36, _⟩ => ⟨S4x4096x2048, .f32⟩
  | .hbm, ⟨37, _⟩ => ⟨S4x1x2048, .f32⟩
  | .hbm, ⟨38, _⟩ => ⟨S4x4096x2048, .f32⟩
  | .hbm, ⟨39, _⟩ => ⟨S4x4096x2048, .f32⟩
  | .hbm, ⟨40, _⟩ => ⟨S2048, .f32⟩
  | .hbm, ⟨41, _⟩ => ⟨S4x256x2048, .f32⟩
  | .hbm, ⟨42, _⟩ => ⟨S_, .f32⟩
  | .hbm, ⟨43, _⟩ => ⟨S4x256, .f32⟩
  | .hbm, ⟨44, _⟩ => ⟨S4x256x1, .f32⟩
  | .hbm, ⟨45, _⟩ => ⟨S_, .f32⟩
  | .hbm, ⟨46, _⟩ => ⟨S4x256x1, .f32⟩
  | .hbm, ⟨47, _⟩ => ⟨S4x256x1, .f32⟩
  | .hbm, ⟨48, _⟩ => ⟨S_, .f32⟩
  | .hbm, ⟨49, _⟩ => ⟨S4x256x1, .f32⟩
  | .hbm, ⟨50, _⟩ => ⟨S4x256x1, .f32⟩
  | .hbm, ⟨51, _⟩ => ⟨S4x256x1, .f32⟩
  | .hbm, ⟨52, _⟩ => ⟨S4x256x2048, .f32⟩
  | .hbm, ⟨53, _⟩ => ⟨S4x256x2048, .f32⟩
  | .hbm, ⟨54, _⟩ => ⟨S1x1x2048, .f32⟩
  | .hbm, ⟨55, _⟩ => ⟨S4x256x2048, .f32⟩
  | .hbm, ⟨56, _⟩ => ⟨S4x256x2048, .f32⟩
  | .hbm, ⟨57, _⟩ => ⟨S1x1x2048, .f32⟩
  | .hbm, ⟨58, _⟩ => ⟨S1x2048, .f32⟩
  | .hbm, ⟨59, _⟩ => ⟨S_, .f32⟩
  | .hbm, ⟨60, _⟩ => ⟨S1x2048, .f32⟩
  | .hbm, ⟨61, _⟩ => ⟨S1x2048, .f32⟩
  | .hbm, ⟨62, _⟩ => ⟨S1x1x2048, .f32⟩
  | .hbm, ⟨63, _⟩ => ⟨S4x256x2048, .f32⟩
  | .hbm, ⟨64, _⟩ => ⟨S4x256x2048, .f32⟩
  | .hbm, ⟨65, _⟩ => ⟨S1x1x2048, .f32⟩
  | .hbm, ⟨66, _⟩ => ⟨S1x2048, .f32⟩
  | .hbm, ⟨67, _⟩ => ⟨S1x1x2048, .f32⟩
  | .hbm, ⟨68, _⟩ => ⟨S4x256x2048, .f32⟩
  | .hbm, ⟨69, _⟩ => ⟨S4x256x2048, .f32⟩
  | .hbm, ⟨70, _⟩ => ⟨S1x2048x4608, .f32⟩
  | .hbm, ⟨71, _⟩ => ⟨S2048x4608, .f32⟩
  | .hbm, ⟨72, _⟩ => ⟨S4x4096x4608, .f32⟩
  | .hbm, ⟨73, _⟩ => ⟨S4x4096x1536, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S1x2048x4608, .f32⟩
  | .hbm, ⟨79, _⟩ => ⟨S2048x4608, .f32⟩
  | .hbm, ⟨80, _⟩ => ⟨S4x256x4608, .f32⟩
  | .hbm, ⟨81, _⟩ => ⟨S4x256x1536, .f32⟩
  | .hbm, ⟨82, _⟩ => ⟨S4x256x1024, .f32⟩
  | .hbm, ⟨83, _⟩ => ⟨S4x256x1024, .f32⟩
  | .hbm, ⟨84, _⟩ => ⟨S4x256x1024, .f32⟩
  | .hbm, ⟨85, _⟩ => ⟨S4x256x1024, .f32⟩
  | .hbm, ⟨86, _⟩ => ⟨S16384x1024, .f32⟩
  | .hbm, ⟨87, _⟩ => ⟨S1024x1024, .f32⟩
  | .hbm, ⟨88, _⟩ => ⟨S17408x1024, .f32⟩
  | .hbm, ⟨89, _⟩ => ⟨S17408x1024, .bf16⟩
  | .hbm, ⟨90, _⟩ => ⟨S16384x1024, .f32⟩
  | .hbm, ⟨91, _⟩ => ⟨S1024x1024, .f32⟩
  | .hbm, ⟨92, _⟩ => ⟨S17408x1024, .f32⟩
  | .hbm, ⟨93, _⟩ => ⟨S17408x1024, .bf16⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩

abbrev nD : Nat := 1
abbrev τ : Topo := Topo.v7x

variable {F : FTy → Type} [FloatOps F]
-- ==== Proof.AttnMath.lean ====
module

public import Idealize.ShloMosaic.Lib.Pipeline.ValueKit

/-! The mathematics of attention computed chunk by chunk, over the extended reals. Scores are real numbers;
    the values that are averaged are any extended reals. -/

@[expose] public section

set_option maxRecDepth 16384

noncomputable section

namespace Cert.AttnMath

open Idealize.ShloMosaic Finset

/-- A nonnegative real factor goes inside a finite sum of extended reals. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [sum_insert ha, sum_insert ha, ← ih]
    exact EReal.left_distrib_of_nonneg_of_ne_top (by exact_mod_cast hc) (EReal.coe_ne_top c) _ _

/-- A finite sum of real numbers, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- The largest of finitely many (at least one) real numbers is a real number. -/
theorem fold_max_real {n : ℕ} [NeZero n] (f : Fin n → EReal) (hf : ∀ k, ∃ r : ℝ, f k = r) :
    ∃ r : ℝ, (Finset.univ : Finset (Fin n)).fold max ⊥ f = (r : EReal) := by
  have h1 : (Finset.univ : Finset (Fin n)).fold max ⊥ f < ⊤ :=
    (Finset.fold_max_lt _).mpr ⟨bot_lt_top, fun k _ => by obtain ⟨r, hr⟩ := hf k; rw [hr]; exact EReal.coe_lt_top r⟩
  have h2 : f 0 ≤ (Finset.univ : Finset (Fin n)).fold max ⊥ f :=
    (Finset.le_fold_max _).mpr (Or.inr ⟨0, mem_univ _, le_refl _⟩)
  obtain ⟨r, hr⟩ := hf 0
  have h3 : (Finset.univ : Finset (Fin n)).fold max ⊥ f ≠ ⊥ := by
    intro h; rw [h, hr] at h2; exact absurd (le_bot_iff.mp h2) (EReal.coe_ne_bot r)
  exact ⟨_, (EReal.coe_toReal h1.ne h3).symm⟩

/-- The weighted sum of the first `n` values, the weight of value `t` being `2 ^ (σ t - M)`. -/
def part (σ : ℕ → ℝ) (v : ℕ → EReal) (n : ℕ) (M : ℝ) : EReal :=
  ∑ t ∈ range n, ((Real.rpow 2 (σ t - M) : ℝ) : EReal) * v t

/-- The first chunk's sum is the weighted sum over it. -/
theorem part_first (σ : ℕ → ℝ) (v : ℕ → EReal) (w : ℕ) (M : ℝ) :
    ∑ t : Fin w, ((Real.rpow 2 (σ t - M) : ℝ) : EReal) * v t = part σ v w M :=
  Fin.sum_univ_eq_sum_range (fun t => ((Real.rpow 2 (σ t - M) : ℝ) : EReal) * v t) w

/-- One more chunk: the sum so far, rescaled from the old reference level `M` to the new one `M'`, plus the
    chunk's own sum at `M'`, is the sum over all values so far at `M'`. -/
theorem part_step (σ : ℕ → ℝ) (v : ℕ → EReal) (n w : ℕ) (M M' : ℝ) :
    ((Real.rpow 2 (M - M') : ℝ) : EReal) * part σ v n M
      + ∑ t : Fin w, ((Real.rpow 2 (σ (n + t) - M') : ℝ) : EReal) * v (n + t) = part σ v (n + w) M' := by
  unfold part
  rw [coe_mul_sum _ (c := Real.rpow 2 (M - M')) (Real.rpow_nonneg (by norm_num) _), sum_range_add,
    Fin.sum_univ_eq_sum_range (fun t => ((Real.rpow 2 (σ (n + t) - M') : ℝ) : EReal) * v (n + t)) w]
  refine congrArg₂ (· + ·) (sum_congr rfl fun t _ => ?_) rfl
  rw [← mul_assoc, ← EReal.coe_mul]
  refine congrArg (fun r : ℝ => (r : EReal) * v t) ?_
  show (2 : ℝ) ^ (M - M') * (2 : ℝ) ^ (σ t - M) = (2 : ℝ) ^ (σ t - M')
  rw [← Real.rpow_add (by norm_num)]; congr 1; ring

/-- The total weight is a real number. -/
theorem part_one (σ : ℕ → ℝ) (n : ℕ) (M : ℝ) :
    part σ (fun _ => 1) n M = ((∑ t ∈ range n, Real.rpow 2 (σ t - M) : ℝ) : EReal) := by
  unfold part; rw [← coe_sum]; exact sum_congr rfl fun t _ => mul_one _

/-- The weighted sum over the total weight is the softmax-weighted sum: scores `u`, exponentials in base `e` of the
    scores less any real level `U` on one side, powers of two of the scores over `log 2` less any level `M` on the other. -/
theorem softmax_eq (u : ℕ → ℝ) (v : ℕ → EReal) (n : ℕ) (hn : 0 < n) (M U : ℝ) :
    Ideal.div (part (fun t => u t / Real.log 2) v n M) (part (fun t => u t / Real.log 2) (fun _ => 1) n M)
      = ∑ t : Fin n, v t * Ideal.div ((Real.exp (u t - U) : ℝ) : EReal) (∑ s : Fin n, ((Real.exp (u s - U) : ℝ) : EReal)) := by
  have hl : Real.log 2 ≠ 0 := (Real.log_pos (by norm_num)).ne'
  set c : ℝ := Real.exp (U - Real.log 2 * M) with hc
  have hcpos : 0 < c := Real.exp_pos _
  have hw : ∀ t, Real.rpow 2 (u t / Real.log 2 - M) = c * Real.exp (u t - U) := fun t => by
    show (2 : ℝ) ^ (u t / Real.log 2 - M) = _
    rw [Real.rpow_def_of_pos (by norm_num), hc, ← Real.exp_add]
    congr 1; field_simp; ring
  set Z : ℝ := ∑ s ∈ range n, Real.exp (u s - U) with hZ
  have hZpos : 0 < Z := sum_pos (fun _ _ => Real.exp_pos _) ⟨0, mem_range.mpr hn⟩
  have hden : part (fun t => u t / Real.log 2) (fun _ => 1) n M = ((c * Z : ℝ) : EReal) := by
    rw [part_one, hZ, mul_sum]; exact congrArg _ (sum_congr rfl fun t _ => hw t)
  have hsum : ∑ s : Fin n, ((Real.exp (u s - U) : ℝ) : EReal) = (Z : EReal) := by
    rw [Fin.sum_univ_eq_sum_range (fun s => ((Real.exp (u s - U) : ℝ) : EReal)) n, coe_sum]
  rw [hden, hsum, Ideal.div_coe (mul_pos hcpos hZpos).ne', mul_comm,
    Fin.sum_univ_eq_sum_range (fun t => v t * Ideal.div ((Real.exp (u t - U) : ℝ) : EReal) (Z : EReal)) n]
  unfold part
  rw [coe_mul_sum _ (by positivity)]
  refine sum_congr rfl fun t _ => ?_
  rw [hw, Ideal.div_coe hZpos.ne', ← mul_assoc, ← EReal.coe_mul, ← EReal.coe_mul, mul_comm (v t)]
  congr 2
  field_simp

end Cert.AttnMath

end
-- ==== Proof.AttnStep.lean ====
module

public import proofs.«01_k».proof.Proof.Gen.AttnIdeal.Value
public import proofs.«01_k».proof.Proof.AttnMath
public import Idealize.ShloMosaic.Lib.Pipeline.ValueKit

/-! What the attention kernel's body keeps true from one chunk of keys to the next: each row's level is a real number,
    and each entry of the accumulator is the weighted sum of the values met so far at that level. -/

@[expose] public section

set_option maxRecDepth 16384

noncomputable section

namespace Cert.AttnBlock

open Idealize.ShloMosaic Idealize.ShloMosaic.TcCoe Idealize.SL.Sem
open Cert.AttnIdeal Cert.AttnIdeal.Gen Cert.AttnMath

/-- After `n` keys: row `i`'s level is a real number `M`, and the accumulator's row `i` holds the weighted sums of the
    first `n` values, column by column, at that level. -/
def Inv (σ : Fin 2048 → ℕ → ℝ) (v : ℕ → Fin 256 → EReal) (n : ℕ) (mx : FVec Ideal S2048x1 .f32)
    (acc : FVec Ideal S2048x256 .f32) : Prop :=
  ∀ i : Fin 2048, ∃ M : ℝ, mx (ix2 i 0) = (M : EReal) ∧ ∀ j : Fin 256, acc (ix2 i j) = part (σ i) (fun t => v t j) n M

/-- A 512-key chunk's row maxima. -/
def mxOf (S : FVec Ideal S2048x512 .f32) : FVec Ideal S2048x1 .f32 :=
  shapeCast S2048x1 (multiReduction .maximumf [1] S2048 S 0xFF800000#32 reduces_S2048x512_S2048 (.inl rfl) rfl) shapeCasts_S2048_S2048x1

/-- A 512-key chunk's weighted sums at a level. -/
def pvOf (S : FVec Ideal S2048x512 .f32) (mx : FVec Ideal S2048x1 .f32) (V : FVec Ideal S512x256 .bf16) : FVec Ideal S2048x256 .f32 :=
  matmul dot_S2048x512_S512x256_S2048x256_1_0_0_1_n_n none
    (truncf .bf16 (exp2 (subf S (broadcastTo S2048x512 mx broadcasts_S2048x1_S2048x512))) bitsLt_bf16_f32)
    (shapeCast S512x256 V shapeCasts_S512x256_S512x256) (constant S2048x256 .f32 0x00000000#32)

/-- The context chunk's row maxima. -/
def mxOf' (S : FVec Ideal S2048x256 .f32) : FVec Ideal S2048x1 .f32 :=
  shapeCast S2048x1 (multiReduction .maximumf [1] S2048 S 0xFF800000#32 reduces_S2048x256_S2048 (.inl rfl) rfl) shapeCasts_S2048_S2048x1

/-- The context chunk's weighted sums at a level. -/
def pvOf' (S : FVec Ideal S2048x256 .f32) (mx : FVec Ideal S2048x1 .f32) (V : FVec Ideal S256x256 .bf16) : FVec Ideal S2048x256 .f32 :=
  matmul dot_S2048x256_S256x256_S2048x256_1_0_0_1_n_n none
    (truncf .bf16 (exp2 (subf S (broadcastTo S2048x256 mx broadcasts_S2048x1_S2048x256))) bitsLt_bf16_f32)
    (shapeCast S256x256 V shapeCasts_S256x256_S256x256) (constant S2048x256 .f32 0x00000000#32)

/-- The accumulator rescaled from the level `mx` to the level `mx'`, plus a chunk's sums. -/
def accOf (mx mx' : FVec Ideal S2048x1 .f32) (acc pv : FVec Ideal S2048x256 .f32) : FVec Ideal S2048x256 .f32 :=
  addf (mulf (broadcastTo S2048x256 (exp2 (subf mx mx')) broadcasts_S2048x1_S2048x256) acc) pv

/-- The scores of a 512-key chunk. -/
def scOf (Q : FVec Ideal S2048x128 .bf16) (K : FVec Ideal S512x128 .bf16) : FVec Ideal S2048x512 .f32 :=
  matmul dot_S2048x128_S512x128_S2048x512_1_1_0_0_n_n none Q (shapeCast S512x128 K shapeCasts_S512x128_S512x128) (constant S2048x512 .f32 0x00000000#32)

/-- The scores of the context chunk. -/
def scOf' (Q : FVec Ideal S2048x128 .bf16) (K : FVec Ideal S256x128 .bf16) : FVec Ideal S2048x256 .f32 :=
  matmul dot_S2048x128_S256x128_S2048x256_1_1_0_0_n_n none Q (shapeCast S256x128 K shapeCasts_S256x128_S256x128) (constant S2048x256 .f32 0x00000000#32)

/-- The pattern 0xFF800000 is minus infinity. -/
theorem neg_inf : Ideal.ofBits .f32 0xFF800000#32 = ⊥ := by
  simp [Ideal.ofBits, Ideal.ieee]

/-- A row's maximum over a 512-key chunk, started from minus infinity. -/
theorem mxOf_at (S : FVec Ideal S2048x512 .f32) (i : Fin 2048) :
    mxOf S (ix2 i 0) = (Finset.univ : Finset (Fin 512)).fold max ⊥ (fun k => S (ix2 i k)) := by
  pointwise [mxOf]
  rw [neg_inf]

theorem pvOf_at (S : FVec Ideal S2048x512 .f32) (mx : FVec Ideal S2048x1 .f32) (V : FVec Ideal S512x256 .bf16) (i : Fin 2048) (j : Fin 256) :
    pvOf S mx V (ix2 i j) = ∑ k : Fin 512, Ideal.exp2 (S (ix2 i k) - mx (ix2 i 0)) * V (ix2 k j) := by
  pointwise [pvOf]
  rfl

theorem mxOf'_at (S : FVec Ideal S2048x256 .f32) (i : Fin 2048) :
    mxOf' S (ix2 i 0) = (Finset.univ : Finset (Fin 256)).fold max ⊥ (fun k => S (ix2 i k)) := by
  pointwise [mxOf']
  rw [neg_inf]

theorem pvOf'_at (S : FVec Ideal S2048x256 .f32) (mx : FVec Ideal S2048x1 .f32) (V : FVec Ideal S256x256 .bf16) (i : Fin 2048) (j : Fin 256) :
    pvOf' S mx V (ix2 i j) = ∑ k : Fin 256, Ideal.exp2 (S (ix2 i k) - mx (ix2 i 0)) * V (ix2 k j) := by
  pointwise [pvOf']
  rfl

theorem accOf_at (mx mx' : FVec Ideal S2048x1 .f32) (acc pv : FVec Ideal S2048x256 .f32) (i : Fin 2048) (j : Fin 256) :
    accOf mx mx' acc pv (ix2 i j) = Ideal.exp2 (mx (ix2 i 0) - mx' (ix2 i 0)) * acc (ix2 i j) + pv (ix2 i j) := by
  pointwise [accOf]
  rfl

/-- A 512-key chunk's score at a row and a key: the row times the key. -/
theorem scOf_at (Q : FVec Ideal S2048x128 .bf16) (K : FVec Ideal S512x128 .bf16) (i : Fin 2048) (k : Fin 512) :
    scOf Q K (ix2 i k) = ∑ d : Fin 128, Q (ix2 i d) * K (ix2 k d) := by
  pointwise [scOf]

theorem scOf'_at (Q : FVec Ideal S2048x128 .bf16) (K : FVec Ideal S256x128 .bf16) (i : Fin 2048) (k : Fin 256) :
    scOf' Q K (ix2 i k) = ∑ d : Fin 128, Q (ix2 i d) * K (ix2 k d) := by
  pointwise [scOf']

/-- The first chunk: its maxima are real numbers and its sums are weighted sums at them. -/
theorem inv_first (σ : Fin 2048 → ℕ → ℝ) (v : ℕ → Fin 256 → EReal) (S : FVec Ideal S2048x512 .f32) (V : FVec Ideal S512x256 .bf16)
    (hS : ∀ i k, S (ix2 i k) = (σ i k.val : EReal)) (hV : ∀ k j, V (ix2 k j) = v k.val j) :
    Inv σ v 512 (mxOf S) (pvOf S (mxOf S) V) := by
  intro i
  obtain ⟨M, hM⟩ := fold_max_real (fun k => S (ix2 i k)) (fun k => ⟨_, hS i k⟩)
  have hm : mxOf S (ix2 i 0) = (M : EReal) := (mxOf_at S i).trans hM
  refine ⟨M, hm, fun j => ?_⟩
  rw [pvOf_at, ← part_first]
  refine Finset.sum_congr rfl fun k _ => ?_
  rw [hS, hm, hV, ← EReal.coe_sub, Ideal.exp2_coe]

/-- One more 512-key chunk. -/
theorem inv_step (σ : Fin 2048 → ℕ → ℝ) (v : ℕ → Fin 256 → EReal) (n : ℕ) (mx : FVec Ideal S2048x1 .f32)
    (acc : FVec Ideal S2048x256 .f32) (h : Inv σ v n mx acc) (S : FVec Ideal S2048x512 .f32) (V : FVec Ideal S512x256 .bf16)
    (hS : ∀ i k, S (ix2 i k) = (σ i (n + k.val) : EReal)) (hV : ∀ k j, V (ix2 k j) = v (n + k.val) j) :
    Inv σ v (n + 512) (maximumf mx (mxOf S)) (accOf mx (maximumf mx (mxOf S)) acc (pvOf S (maximumf mx (mxOf S)) V)) := by
  intro i
  obtain ⟨M0, hM0, ha⟩ := h i
  obtain ⟨M, hM⟩ := fold_max_real (fun k => S (ix2 i k)) (fun k => ⟨_, hS i k⟩)
  have hm : maximumf mx (mxOf S) (ix2 i 0) = ((max M0 M : ℝ) : EReal) := by
    show max (mx (ix2 i 0)) (mxOf S (ix2 i 0)) = _
    rw [hM0, mxOf_at, hM]; exact (EReal.coe_strictMono.monotone.map_max).symm
  refine ⟨max M0 M, hm, fun j => ?_⟩
  rw [accOf_at, pvOf_at, hm, hM0, ha, ← part_step _ _ n 512 M0, ← EReal.coe_sub, Ideal.exp2_coe]
  refine congrArg₂ (· + ·) rfl (Finset.sum_congr rfl fun k _ => ?_)
  rw [hS, hV, ← EReal.coe_sub, Ideal.exp2_coe]

/-- The context chunk, 256 keys, last. -/
theorem inv_last (σ : Fin 2048 → ℕ → ℝ) (v : ℕ → Fin 256 → EReal) (n : ℕ) (mx : FVec Ideal S2048x1 .f32)
    (acc : FVec Ideal S2048x256 .f32) (h : Inv σ v n mx acc) (S : FVec Ideal S2048x256 .f32) (V : FVec Ideal S256x256 .bf16)
    (hS : ∀ i k, S (ix2 i k) = (σ i (n + k.val) : EReal)) (hV : ∀ k j, V (ix2 k j) = v (n + k.val) j) :
    Inv σ v (n + 256) (maximumf mx (mxOf' S)) (accOf mx (maximumf mx (mxOf' S)) acc (pvOf' S (maximumf mx (mxOf' S)) V)) := by
  intro i
  obtain ⟨M0, hM0, ha⟩ := h i
  obtain ⟨M, hM⟩ := fold_max_real (fun k => S (ix2 i k)) (fun k => ⟨_, hS i k⟩)
  have hm : maximumf mx (mxOf' S) (ix2 i 0) = ((max M0 M : ℝ) : EReal) := by
    show max (mx (ix2 i 0)) (mxOf' S (ix2 i 0)) = _
    rw [hM0, mxOf'_at, hM]; exact (EReal.coe_strictMono.monotone.map_max).symm
  refine ⟨max M0 M, hm, fun j => ?_⟩
  rw [accOf_at, pvOf'_at, hm, hM0, ha, ← part_step _ _ n 256 M0, ← EReal.coe_sub, Ideal.exp2_coe]
  refine congrArg₂ (· + ·) rfl (Finset.sum_congr rfl fun k _ => ?_)
  rw [hS, hV, ← EReal.coe_sub, Ideal.exp2_coe]

/-- The named scale's value. -/
theorem scale_named : Named.named (F := Ideal) κ "qk_scale" (φ := .f32) 0x3E0293EE#32
    = (((11863283 / 134217728) * (Real.log 2)⁻¹ : ℝ) : EReal) := rfl

/-- The stacked and scaled queries, at row `512 r + a`: head `r`'s row `a`, times the scale. -/
theorem pay6_at (q : Fin 4 → FVec Ideal S512x128 .bf16) (i : Fin 2048) (d : Fin 128) :
    k0_pay6 (F := Ideal) (q 0) (q 1) (q 2) (q 3) (ix2 i d)
      = q ⟨i.val / 512, by omega⟩ (ix2 ⟨i.val % 512, by omega⟩ d) * (((11863283 / 134217728) * (Real.log 2)⁻¹ : ℝ) : EReal) := by
  pointwise [k0_pay6]
  rw [scale_named]
  refine congrArg (· * _) ?_
  obtain ⟨i, hi⟩ := i
  have key : ∀ (r : Fin 4) (a : Fin 512) (r' : Fin 4) (a' : Fin 512), r.val = r'.val → a.val = a'.val →
      q r (ix2 a d) = q r' (ix2 a' d) := fun r a r' a' h h' => by rw [Fin.ext h, Fin.ext h']
  by_cases h1 : i < 512
  · rw [dif_pos h1]
    exact key 0 ⟨i, h1⟩ ⟨i / 512, by omega⟩ ⟨i % 512, by omega⟩ (show 0 = i / 512 by omega) (show i = i % 512 by omega)
  rw [dif_neg h1]
  by_cases h2 : i - 512 < 512
  · rw [dif_pos h2]
    exact key 1 ⟨i - 512, h2⟩ ⟨i / 512, by omega⟩ ⟨i % 512, by omega⟩ (show 1 = i / 512 by omega) (show i - 512 = i % 512 by omega)
  rw [dif_neg h2]
  by_cases h3 : i - 512 - 512 < 512
  · rw [dif_pos h3]
    exact key 2 ⟨i - 512 - 512, h3⟩ ⟨i / 512, by omega⟩ ⟨i % 512, by omega⟩ (show 2 = i / 512 by omega) (show i - 512 - 512 = i % 512 by omega)
  rw [dif_neg h3]
  exact key 3 ⟨i - 512 - 512 - 512, by omega⟩ ⟨i / 512, by omega⟩ ⟨i % 512, by omega⟩ (show 3 = i / 512 by omega) (show i - 512 - 512 - 512 = i % 512 by omega)

end Cert.AttnBlock

end
-- ==== Proof.AttnChain.lean ====
module

public import proofs.«01_k».proof.Proof.AttnStep
public import Idealize.ShloMosaic.Lib.Pipeline.ValueKit

/-! The body's stored heads at a row and a column: the softmax of the row's scores, times the values. -/

@[expose] public section

set_option maxRecDepth 16384

noncomputable section

namespace Cert.AttnBlock

open Idealize.ShloMosaic Idealize.ShloMosaic.TcCoe Idealize.SL.Sem
open Cert.AttnIdeal Cert.AttnIdeal.Gen Cert.AttnMath

/-- The accumulator's first 128 columns over its last 128, in the stored type. -/
def finOf (acc : FVec Ideal S2048x256 .f32) : FVec Ideal S2048x128 .bf16 :=
  truncf .bf16 (divf (extractStridedSlice S2048x128 ![0, 0] acc slices_S2048x256_o0_0_S2048x128)
    (extractStridedSlice S2048x128 ![0, 128] acc slices_S2048x256_o0_128_S2048x128)) bitsLt_bf16_f32

/-- That quotient at a row and a column. -/
theorem finOf_at (acc : FVec Ideal S2048x256 .f32) (i : Fin 2048) (j : Fin 128) :
    finOf acc (ix2 i j) = Ideal.div (acc (ix2 i ⟨j.val, by omega⟩)) (acc (ix2 i ⟨128 + j.val, by omega⟩)) := by
  pointwise [finOf]

/-- What the body stores: the four heads stacked along the rows. -/
def heads (q0 q1 q2 q3 k0 k1 k2 k3 k4 k5 k6 k7 : FVec Ideal S512x128 .bf16) (v0 v1 v2 v3 v4 v5 v6 v7 : FVec Ideal S512x256 .bf16)
    (kc : FVec Ideal S256x128 .bf16) (vc : FVec Ideal S256x256 .bf16) : FVec Ideal S2048x128 .bf16 :=
  k0_pay1 (F := Ideal) (k0_pay29 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay23 (F := Ideal) (k0_pay6 (F := Ideal) q0 q1 q2 q3) (k0_pay14 (F := Ideal) (k0_pay11 (F := Ideal) q0 q1 q2 q3 k2) (k0_pay12 (F := Ideal) q0 q1 q2 q3 k0 k1)) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) (k0_pay18 (F := Ideal) (k0_pay6 (F := Ideal) q0 q1 q2 q3) (k0_pay11 (F := Ideal) q0 q1 q2 q3 k2) (k0_pay12 (F := Ideal) q0 q1 q2 q3 k0 k1) k3 v3) k5 v4 v5) (k0_pay24 (F := Ideal) k7) (constant (F := Ideal) S2048x512 .f32 0x00000000#32) v6 v7)
    (k0_pay31 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay24 (F := Ideal) k7) (constant (F := Ideal) S2048x512 .f32 0x00000000#32) kc vc)
    (k0_pay32 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay24 (F := Ideal) k7) (constant (F := Ideal) S2048x512 .f32 0x00000000#32) kc)

/-- The accumulator after every chunk. -/
def accEnd (q0 q1 q2 q3 k0 k1 k2 k3 k4 k5 k6 k7 : FVec Ideal S512x128 .bf16) (v0 v1 v2 v3 v4 v5 v6 v7 : FVec Ideal S512x256 .bf16)
    (kc : FVec Ideal S256x128 .bf16) (vc : FVec Ideal S256x256 .bf16) : FVec Ideal S2048x256 .f32 :=
  accOf (k0_pay28 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay24 (F := Ideal) k7) (constant (F := Ideal) S2048x512 .f32 0x00000000#32)) (k0_pay30 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay24 (F := Ideal) k7) (constant (F := Ideal) S2048x512 .f32 0x00000000#32) kc) (k0_pay29 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay23 (F := Ideal) (k0_pay6 (F := Ideal) q0 q1 q2 q3) (k0_pay14 (F := Ideal) (k0_pay11 (F := Ideal) q0 q1 q2 q3 k2) (k0_pay12 (F := Ideal) q0 q1 q2 q3 k0 k1)) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) (k0_pay18 (F := Ideal) (k0_pay6 (F := Ideal) q0 q1 q2 q3) (k0_pay11 (F := Ideal) q0 q1 q2 q3 k2) (k0_pay12 (F := Ideal) q0 q1 q2 q3 k0 k1) k3 v3) k5 v4 v5) (k0_pay24 (F := Ideal) k7) (constant (F := Ideal) S2048x512 .f32 0x00000000#32) v6 v7) (k0_pay31 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay24 (F := Ideal) k7) (constant (F := Ideal) S2048x512 .f32 0x00000000#32) kc vc)

theorem heads_eq (q0 q1 q2 q3 k0 k1 k2 k3 k4 k5 k6 k7 : FVec Ideal S512x128 .bf16) (v0 v1 v2 v3 v4 v5 v6 v7 : FVec Ideal S512x256 .bf16)
    (kc : FVec Ideal S256x128 .bf16) (vc : FVec Ideal S256x256 .bf16) :
    heads q0 q1 q2 q3 k0 k1 k2 k3 k4 k5 k6 k7 v0 v1 v2 v3 v4 v5 v6 v7 kc vc = finOf (accEnd q0 q1 q2 q3 k0 k1 k2 k3 k4 k5 k6 k7 v0 v1 v2 v3 v4 v5 v6 v7 kc vc) := rfl

/-- After every chunk the level is real and the accumulator holds the sums over all 4352 keys. -/
theorem inv_end (σ : Fin 2048 → ℕ → ℝ) (v : ℕ → Fin 256 → EReal) (q0 q1 q2 q3 k0 k1 k2 k3 k4 k5 k6 k7 : FVec Ideal S512x128 .bf16) (v0 v1 v2 v3 v4 v5 v6 v7 : FVec Ideal S512x256 .bf16)
    (kc : FVec Ideal S256x128 .bf16) (vc : FVec Ideal S256x256 .bf16)
    (hk0 : ∀ i (k : Fin 512), scOf (k0_pay6 (F := Ideal) q0 q1 q2 q3) k0 (ix2 i k) = (σ i (0 + k.val) : EReal))
    (hv0 : ∀ (k : Fin 512) j, v0 (ix2 k j) = v (0 + k.val) j)
    (hk1 : ∀ i (k : Fin 512), scOf (k0_pay6 (F := Ideal) q0 q1 q2 q3) k1 (ix2 i k) = (σ i (512 + k.val) : EReal))
    (hv1 : ∀ (k : Fin 512) j, v1 (ix2 k j) = v (512 + k.val) j)
    (hk2 : ∀ i (k : Fin 512), scOf (k0_pay6 (F := Ideal) q0 q1 q2 q3) k2 (ix2 i k) = (σ i (1024 + k.val) : EReal))
    (hv2 : ∀ (k : Fin 512) j, v2 (ix2 k j) = v (1024 + k.val) j)
    (hk3 : ∀ i (k : Fin 512), scOf (k0_pay6 (F := Ideal) q0 q1 q2 q3) k3 (ix2 i k) = (σ i (1536 + k.val) : EReal))
    (hv3 : ∀ (k : Fin 512) j, v3 (ix2 k j) = v (1536 + k.val) j)
    (hk4 : ∀ i (k : Fin 512), scOf (k0_pay6 (F := Ideal) q0 q1 q2 q3) k4 (ix2 i k) = (σ i (2048 + k.val) : EReal))
    (hv4 : ∀ (k : Fin 512) j, v4 (ix2 k j) = v (2048 + k.val) j)
    (hk5 : ∀ i (k : Fin 512), scOf (k0_pay6 (F := Ideal) q0 q1 q2 q3) k5 (ix2 i k) = (σ i (2560 + k.val) : EReal))
    (hv5 : ∀ (k : Fin 512) j, v5 (ix2 k j) = v (2560 + k.val) j)
    (hk6 : ∀ i (k : Fin 512), scOf (k0_pay6 (F := Ideal) q0 q1 q2 q3) k6 (ix2 i k) = (σ i (3072 + k.val) : EReal))
    (hv6 : ∀ (k : Fin 512) j, v6 (ix2 k j) = v (3072 + k.val) j)
    (hk7 : ∀ i (k : Fin 512), scOf (k0_pay6 (F := Ideal) q0 q1 q2 q3) k7 (ix2 i k) = (σ i (3584 + k.val) : EReal))
    (hv7 : ∀ (k : Fin 512) j, v7 (ix2 k j) = v (3584 + k.val) j)
    (hkc : ∀ i (k : Fin 256), scOf' (k0_pay6 (F := Ideal) q0 q1 q2 q3) kc (ix2 i k) = (σ i (4096 + k.val) : EReal))
    (hvc : ∀ (k : Fin 256) j, vc (ix2 k j) = v (4096 + k.val) j) :
    Inv σ v 4352 (k0_pay30 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay24 (F := Ideal) k7) (constant (F := Ideal) S2048x512 .f32 0x00000000#32) kc) (accEnd q0 q1 q2 q3 k0 k1 k2 k3 k4 k5 k6 k7 v0 v1 v2 v3 v4 v5 v6 v7 kc vc) := by
  have h1 : Inv σ v 512 (k0_pay9 (F := Ideal) q0 q1 q2 q3 k0) (k0_pay10 (F := Ideal) q0 q1 q2 q3 k0 v0) := inv_first σ v (scOf (k0_pay6 (F := Ideal) q0 q1 q2 q3) k0) v0 (fun i k => by rw [hk0, Nat.zero_add]) (fun k j => by rw [hv0, Nat.zero_add])
  have h2 : Inv σ v 1024 (k0_pay12 (F := Ideal) q0 q1 q2 q3 k0 k1) (accOf (k0_pay9 (F := Ideal) q0 q1 q2 q3 k0) (k0_pay12 (F := Ideal) q0 q1 q2 q3 k0 k1) (k0_pay10 (F := Ideal) q0 q1 q2 q3 k0 v0) (pvOf (k0_pay8 (F := Ideal) q0 q1 q2 q3 k1) (k0_pay12 (F := Ideal) q0 q1 q2 q3 k0 k1) v1)) := inv_step σ v 512 _ _ h1 (scOf (k0_pay6 (F := Ideal) q0 q1 q2 q3) k1) v1 hk1 hv1
  have h3 : Inv σ v 1536 (k0_pay14 (F := Ideal) (k0_pay11 (F := Ideal) q0 q1 q2 q3 k2) (k0_pay12 (F := Ideal) q0 q1 q2 q3 k0 k1)) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) := inv_step σ v 1024 _ _ h2 (scOf (k0_pay6 (F := Ideal) q0 q1 q2 q3) k2) v2 hk2 hv2
  have h4 : Inv σ v 2048 (k0_pay17 (F := Ideal) (k0_pay6 (F := Ideal) q0 q1 q2 q3) (k0_pay11 (F := Ideal) q0 q1 q2 q3 k2) (k0_pay12 (F := Ideal) q0 q1 q2 q3 k0 k1) k3) (accOf (k0_pay14 (F := Ideal) (k0_pay11 (F := Ideal) q0 q1 q2 q3 k2) (k0_pay12 (F := Ideal) q0 q1 q2 q3 k0 k1)) (k0_pay17 (F := Ideal) (k0_pay6 (F := Ideal) q0 q1 q2 q3) (k0_pay11 (F := Ideal) q0 q1 q2 q3 k2) (k0_pay12 (F := Ideal) q0 q1 q2 q3 k0 k1) k3) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) (k0_pay18 (F := Ideal) (k0_pay6 (F := Ideal) q0 q1 q2 q3) (k0_pay11 (F := Ideal) q0 q1 q2 q3 k2) (k0_pay12 (F := Ideal) q0 q1 q2 q3 k0 k1) k3 v3)) := inv_step σ v 1536 _ _ h3 (scOf (k0_pay6 (F := Ideal) q0 q1 q2 q3) k3) v3 hk3 hv3
  have h5 : Inv σ v 2560 (k0_pay20 (F := Ideal) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3)) (accOf (k0_pay17 (F := Ideal) (k0_pay6 (F := Ideal) q0 q1 q2 q3) (k0_pay11 (F := Ideal) q0 q1 q2 q3 k2) (k0_pay12 (F := Ideal) q0 q1 q2 q3 k0 k1) k3) (k0_pay20 (F := Ideal) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3)) (accOf (k0_pay14 (F := Ideal) (k0_pay11 (F := Ideal) q0 q1 q2 q3 k2) (k0_pay12 (F := Ideal) q0 q1 q2 q3 k0 k1)) (k0_pay17 (F := Ideal) (k0_pay6 (F := Ideal) q0 q1 q2 q3) (k0_pay11 (F := Ideal) q0 q1 q2 q3 k2) (k0_pay12 (F := Ideal) q0 q1 q2 q3 k0 k1) k3) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) (k0_pay18 (F := Ideal) (k0_pay6 (F := Ideal) q0 q1 q2 q3) (k0_pay11 (F := Ideal) q0 q1 q2 q3 k2) (k0_pay12 (F := Ideal) q0 q1 q2 q3 k0 k1) k3 v3)) (pvOf (k0_pay16 (F := Ideal) (k0_pay6 (F := Ideal) q0 q1 q2 q3) k4) (k0_pay20 (F := Ideal) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3)) v4)) := inv_step σ v 2048 _ _ h4 (scOf (k0_pay6 (F := Ideal) q0 q1 q2 q3) k4) v4 hk4 hv4
  have h6 : Inv σ v 3072 (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay23 (F := Ideal) (k0_pay6 (F := Ideal) q0 q1 q2 q3) (k0_pay14 (F := Ideal) (k0_pay11 (F := Ideal) q0 q1 q2 q3 k2) (k0_pay12 (F := Ideal) q0 q1 q2 q3 k0 k1)) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) (k0_pay18 (F := Ideal) (k0_pay6 (F := Ideal) q0 q1 q2 q3) (k0_pay11 (F := Ideal) q0 q1 q2 q3 k2) (k0_pay12 (F := Ideal) q0 q1 q2 q3 k0 k1) k3 v3) k5 v4 v5) := inv_step σ v 2560 _ _ h5 (scOf (k0_pay6 (F := Ideal) q0 q1 q2 q3) k5) v5 hk5 hv5
  have h7 : Inv σ v 3584 (k0_pay26 (F := Ideal) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5)) (accOf (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay26 (F := Ideal) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5)) (k0_pay23 (F := Ideal) (k0_pay6 (F := Ideal) q0 q1 q2 q3) (k0_pay14 (F := Ideal) (k0_pay11 (F := Ideal) q0 q1 q2 q3 k2) (k0_pay12 (F := Ideal) q0 q1 q2 q3 k0 k1)) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) (k0_pay18 (F := Ideal) (k0_pay6 (F := Ideal) q0 q1 q2 q3) (k0_pay11 (F := Ideal) q0 q1 q2 q3 k2) (k0_pay12 (F := Ideal) q0 q1 q2 q3 k0 k1) k3 v3) k5 v4 v5) (pvOf (k0_pay21 (F := Ideal) (k0_pay6 (F := Ideal) q0 q1 q2 q3) k6) (k0_pay26 (F := Ideal) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5)) v6)) := inv_step σ v 3072 _ _ h6 (scOf (k0_pay6 (F := Ideal) q0 q1 q2 q3) k6) v6 hk6 hv6
  have h8 : Inv σ v 4096 (k0_pay28 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay24 (F := Ideal) k7) (constant (F := Ideal) S2048x512 .f32 0x00000000#32)) (k0_pay29 (F := Ideal) (k0_pay6 (F := Ideal) q0 q1 q2 q3) (k0_pay21 (F := Ideal) (k0_pay6 (F := Ideal) q0 q1 q2 q3) k6) (k0_pay22 (F := Ideal) (k0_pay6 (F := Ideal) q0 q1 q2 q3) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) k5) (k0_pay23 (F := Ideal) (k0_pay6 (F := Ideal) q0 q1 q2 q3) (k0_pay14 (F := Ideal) (k0_pay11 (F := Ideal) q0 q1 q2 q3 k2) (k0_pay12 (F := Ideal) q0 q1 q2 q3 k0 k1)) (k0_pay15 (F := Ideal) (k0_pay8 (F := Ideal) q0 q1 q2 q3 k1) (k0_pay9 (F := Ideal) q0 q1 q2 q3 k0) (k0_pay10 (F := Ideal) q0 q1 q2 q3 k0 v0) (k0_pay11 (F := Ideal) q0 q1 q2 q3 k2) (k0_pay12 (F := Ideal) q0 q1 q2 q3 k0 k1) v1 v2) (k0_pay16 (F := Ideal) (k0_pay6 (F := Ideal) q0 q1 q2 q3) k4) (k0_pay17 (F := Ideal) (k0_pay6 (F := Ideal) q0 q1 q2 q3) (k0_pay11 (F := Ideal) q0 q1 q2 q3 k2) (k0_pay12 (F := Ideal) q0 q1 q2 q3 k0 k1) k3) (k0_pay18 (F := Ideal) (k0_pay6 (F := Ideal) q0 q1 q2 q3) (k0_pay11 (F := Ideal) q0 q1 q2 q3 k2) (k0_pay12 (F := Ideal) q0 q1 q2 q3 k0 k1) k3 v3) k5 v4 v5) (k0_pay24 (F := Ideal) k7) (constant (F := Ideal) S2048x512 .f32 0x00000000#32) v6 v7) := inv_step σ v 3584 _ _ h7 (scOf (k0_pay6 (F := Ideal) q0 q1 q2 q3) k7) v7 hk7 hv7
  exact inv_last σ v 4096 _ _ h8 (scOf' (k0_pay6 (F := Ideal) q0 q1 q2 q3) kc) vc hkc hvc

/-- So a stored entry is the softmax of its row's scores times its column of values, whatever real the exponents are
    shifted by: the scores met by the body are the natural ones over `log 2`, and the values' last 128 columns are ones. -/
theorem heads_at (u : Fin 2048 → ℕ → ℝ) (σ : Fin 2048 → ℕ → ℝ) (hσ : ∀ i t, σ i t = u i t / Real.log 2) (v : ℕ → Fin 256 → EReal)
    (hone : ∀ t (j : Fin 128), v t ⟨128 + j.val, by omega⟩ = 1) (q0 q1 q2 q3 k0 k1 k2 k3 k4 k5 k6 k7 : FVec Ideal S512x128 .bf16) (v0 v1 v2 v3 v4 v5 v6 v7 : FVec Ideal S512x256 .bf16)
    (kc : FVec Ideal S256x128 .bf16) (vc : FVec Ideal S256x256 .bf16)
    (hk0 : ∀ i (k : Fin 512), scOf (k0_pay6 (F := Ideal) q0 q1 q2 q3) k0 (ix2 i k) = (σ i (0 + k.val) : EReal))
    (hv0 : ∀ (k : Fin 512) j, v0 (ix2 k j) = v (0 + k.val) j)
    (hk1 : ∀ i (k : Fin 512), scOf (k0_pay6 (F := Ideal) q0 q1 q2 q3) k1 (ix2 i k) = (σ i (512 + k.val) : EReal))
    (hv1 : ∀ (k : Fin 512) j, v1 (ix2 k j) = v (512 + k.val) j)
    (hk2 : ∀ i (k : Fin 512), scOf (k0_pay6 (F := Ideal) q0 q1 q2 q3) k2 (ix2 i k) = (σ i (1024 + k.val) : EReal))
    (hv2 : ∀ (k : Fin 512) j, v2 (ix2 k j) = v (1024 + k.val) j)
    (hk3 : ∀ i (k : Fin 512), scOf (k0_pay6 (F := Ideal) q0 q1 q2 q3) k3 (ix2 i k) = (σ i (1536 + k.val) : EReal))
    (hv3 : ∀ (k : Fin 512) j, v3 (ix2 k j) = v (1536 + k.val) j)
    (hk4 : ∀ i (k : Fin 512), scOf (k0_pay6 (F := Ideal) q0 q1 q2 q3) k4 (ix2 i k) = (σ i (2048 + k.val) : EReal))
    (hv4 : ∀ (k : Fin 512) j, v4 (ix2 k j) = v (2048 + k.val) j)
    (hk5 : ∀ i (k : Fin 512), scOf (k0_pay6 (F := Ideal) q0 q1 q2 q3) k5 (ix2 i k) = (σ i (2560 + k.val) : EReal))
    (hv5 : ∀ (k : Fin 512) j, v5 (ix2 k j) = v (2560 + k.val) j)
    (hk6 : ∀ i (k : Fin 512), scOf (k0_pay6 (F := Ideal) q0 q1 q2 q3) k6 (ix2 i k) = (σ i (3072 + k.val) : EReal))
    (hv6 : ∀ (k : Fin 512) j, v6 (ix2 k j) = v (3072 + k.val) j)
    (hk7 : ∀ i (k : Fin 512), scOf (k0_pay6 (F := Ideal) q0 q1 q2 q3) k7 (ix2 i k) = (σ i (3584 + k.val) : EReal))
    (hv7 : ∀ (k : Fin 512) j, v7 (ix2 k j) = v (3584 + k.val) j)
    (hkc : ∀ i (k : Fin 256), scOf' (k0_pay6 (F := Ideal) q0 q1 q2 q3) kc (ix2 i k) = (σ i (4096 + k.val) : EReal))
    (hvc : ∀ (k : Fin 256) j, vc (ix2 k j) = v (4096 + k.val) j)
    (i : Fin 2048) (j : Fin 128) (U : ℝ) :
    heads q0 q1 q2 q3 k0 k1 k2 k3 k4 k5 k6 k7 v0 v1 v2 v3 v4 v5 v6 v7 kc vc (ix2 i j)
      = ∑ t : Fin 4352, v t.val ⟨j.val, by omega⟩ * Ideal.div ((Real.exp (u i t.val - U) : ℝ) : EReal)
          (∑ s : Fin 4352, ((Real.exp (u i s.val - U) : ℝ) : EReal)) := by
  obtain ⟨M, _, hM⟩ := inv_end σ v q0 q1 q2 q3 k0 k1 k2 k3 k4 k5 k6 k7 v0 v1 v2 v3 v4 v5 v6 v7 kc vc hk0 hv0 hk1 hv1 hk2 hv2 hk3 hv3 hk4 hv4 hk5 hv5 hk6 hv6 hk7 hv7 hkc hvc i
  have hs : σ i = fun t => u i t / Real.log 2 := funext fun t => hσ i t
  rw [heads_eq, finOf_at, hM, hM, hs]
  simp only [hone]
  exact softmax_eq (u i) (fun t => v t ⟨j.val, by omega⟩) 4352 (by norm_num) M U

end Cert.AttnBlock

end
-- ==== Proof.AttnSpec.lean ====
module

public import proofs.«01_k».proof.Proof.AttnMath

/-! Attention at one row and one column, in real arithmetic: what both programs are shown to compute. -/

@[expose] public section

noncomputable section

namespace Cert.AttnMath

open Idealize.ShloMosaic

/-- The row of the key and value arrays that batch `b`'s `t`-th key lies in: its 4096 latent rows, then its 256 context rows. -/
def keyRow (b : Fin 4) (t : ℕ) : Fin 17408 :=
  if h : t < 4096 then ⟨b.val * 4096 + t, by omega⟩ else ⟨16384 + b.val * 256 + (t - 4096) % 256, by omega⟩

theorem keyRow_latent (b : Fin 4) (t : ℕ) (h : t < 4096) : (keyRow b t).val = b.val * 4096 + t := by
  unfold keyRow; rw [dif_pos h]

theorem keyRow_context (b : Fin 4) (k : ℕ) (h : k < 256) : (keyRow b (4096 + k)).val = 16384 + b.val * 256 + k := by
  unfold keyRow; rw [dif_neg (by omega)]; show 16384 + b.val * 256 + (4096 + k - 4096) % 256 = _; omega

/-- The natural score of output row `R`, output column `C` (which names a head) and key `t`: key times query, scaled. -/
def score (q : Fin 17408 → Fin 1024 → EReal) (k : Fin 17408 → Fin 256 → EReal) (R : Fin 16384) (C : Fin 1024) (t : ℕ) : ℝ :=
  (∑ d : Fin 128, (k (keyRow ⟨R.val / 4096, by omega⟩ t) ⟨128 * (C.val / 512) + d.val, by omega⟩).toReal
      * (q ⟨R.val, by omega⟩ ⟨128 * (C.val / 128) + d.val, by omega⟩).toReal) * (11863283 / 134217728)

/-- The output at row `R`, column `C`: the values weighted by the softmax of the scores, with the exponents shifted by `U`. -/
def attnAt (q : Fin 17408 → Fin 1024 → EReal) (k v : Fin 17408 → Fin 256 → EReal) (R : Fin 16384) (C : Fin 1024) (U : ℝ) : EReal :=
  ∑ t : Fin 4352, v (keyRow ⟨R.val / 4096, by omega⟩ t.val) ⟨128 * (C.val / 512) + C.val % 128, by omega⟩
    * Ideal.div ((Real.exp (score q k R C t.val - U) : ℝ) : EReal)
        (∑ s : Fin 4352, ((Real.exp (score q k R C s.val - U) : ℝ) : EReal))

end Cert.AttnMath

end
-- ==== Proof.AttnRead.lean ====
module

public import proofs.«01_k».proof.Proof.AttnChain
public import proofs.«01_k».proof.Proof.AttnSpec
public import Idealize.ShloMosaic.Lib.Pipeline.ValueKit

/-! The attention kernel's result array: every block it writes back is the attention at the block's rows and columns. -/

@[expose] public section

set_option maxRecDepth 16384

noncomputable section

namespace Cert.AttnBlock

open Idealize.ShloMosaic Idealize.ShloMosaic.TcCoe Idealize.SL.Sem
open Cert.AttnIdeal Cert.AttnIdeal.Gen Cert.AttnMath

/-- The stacked queries at a row: the row's query, scaled. -/
theorem pay6_read (qr : Fin 2048 → Fin 128 → ℝ) (q0 q1 q2 q3 : FVec Ideal S512x128 .bf16)
    (hq0 : ∀ (a : Fin 512) (d : Fin 128), q0 (ix2 a d) = ((qr ⟨0 + a.val, by omega⟩ d : ℝ) : EReal))
    (hq1 : ∀ (a : Fin 512) (d : Fin 128), q1 (ix2 a d) = ((qr ⟨512 + a.val, by omega⟩ d : ℝ) : EReal))
    (hq2 : ∀ (a : Fin 512) (d : Fin 128), q2 (ix2 a d) = ((qr ⟨1024 + a.val, by omega⟩ d : ℝ) : EReal))
    (hq3 : ∀ (a : Fin 512) (d : Fin 128), q3 (ix2 a d) = ((qr ⟨1536 + a.val, by omega⟩ d : ℝ) : EReal))
    (i : Fin 2048) (d : Fin 128) :
    (k0_pay6 (F := Ideal) q0 q1 q2 q3) (ix2 i d) = ((qr i d : ℝ) : EReal) * (((11863283 / 134217728) * (Real.log 2)⁻¹ : ℝ) : EReal) := by
  have key : ∀ r : Fin 4, ∀ a : Fin 512, (![q0, q1, q2, q3] : Fin 4 → FVec Ideal S512x128 .bf16) r (ix2 a d)
      = ((qr ⟨512 * r.val + a.val, by omega⟩ d : ℝ) : EReal) := by
    intro r a
    match r with
    | 0 => exact hq0 a d
    | 1 => exact hq1 a d
    | 2 => exact hq2 a d
    | 3 => exact hq3 a d
  refine (pay6_at ![q0, q1, q2, q3] i d).trans ?_
  rw [key]
  have e : (⟨512 * (i.val / 512) + i.val % 512, by omega⟩ : Fin 2048) = i := Fin.ext (by show 512 * (i.val / 512) + i.val % 512 = i.val; omega)
  rw [e]

/-- A sum of products of real numbers, each of the first scaled, is a real number. -/
theorem sum_scaled (n : ℕ) (c : ℝ) (x y : Fin n → ℝ) :
    ∑ d, (((x d : ℝ) : EReal) * (c : EReal)) * ((y d : ℝ) : EReal) = (((∑ d, y d * x d) * c : ℝ) : EReal) := by
  rw [Finset.sum_mul, ← coe_sum]
  refine Finset.sum_congr rfl fun d _ => ?_
  rw [← EReal.coe_mul, ← EReal.coe_mul]
  exact congrArg _ (by ring)

/-- A 512-key chunk's scores are real numbers. -/
theorem score_chunk (σ : Fin 2048 → ℕ → ℝ) (qr : Fin 2048 → Fin 128 → ℝ) (kr : ℕ → Fin 128 → ℝ) (n : ℕ)
    (hσ : ∀ i t, σ i t = (∑ d, kr t d * qr i d) * ((11863283 / 134217728) * (Real.log 2)⁻¹))
    (Q : FVec Ideal S2048x128 .bf16) (K : FVec Ideal S512x128 .bf16)
    (hQ : ∀ i d, Q (ix2 i d) = ((qr i d : ℝ) : EReal) * (((11863283 / 134217728) * (Real.log 2)⁻¹ : ℝ) : EReal))
    (hK : ∀ k d, K (ix2 k d) = ((kr (n + k.val) d : ℝ) : EReal)) (i : Fin 2048) (k : Fin 512) :
    scOf Q K (ix2 i k) = (σ i (n + k.val) : EReal) := by
  rw [scOf_at, hσ, ← sum_scaled]
  exact Finset.sum_congr rfl fun d _ => by rw [hQ, hK]

/-- The context chunk's scores are real numbers. -/
theorem score_chunk' (σ : Fin 2048 → ℕ → ℝ) (qr : Fin 2048 → Fin 128 → ℝ) (kr : ℕ → Fin 128 → ℝ) (n : ℕ)
    (hσ : ∀ i t, σ i t = (∑ d, kr t d * qr i d) * ((11863283 / 134217728) * (Real.log 2)⁻¹))
    (Q : FVec Ideal S2048x128 .bf16) (K : FVec Ideal S256x128 .bf16)
    (hQ : ∀ i d, Q (ix2 i d) = ((qr i d : ℝ) : EReal) * (((11863283 / 134217728) * (Real.log 2)⁻¹ : ℝ) : EReal))
    (hK : ∀ k d, K (ix2 k d) = ((kr (n + k.val) d : ℝ) : EReal)) (i : Fin 2048) (k : Fin 256) :
    scOf' Q K (ix2 i k) = (σ i (n + k.val) : EReal) := by
  rw [scOf'_at, hσ, ← sum_scaled]
  exact Finset.sum_congr rfl fun d _ => by rw [hQ, hK]

/-- A stored entry, from the entries of the blocks the body loads: the softmax of the natural scores times the values. -/
theorem heads_read (qr : Fin 2048 → Fin 128 → ℝ) (kr : ℕ → Fin 128 → ℝ) (v : ℕ → Fin 256 → EReal)
    (hone : ∀ t (j : Fin 128), v t ⟨128 + j.val, by omega⟩ = 1) (q0 q1 q2 q3 k0 k1 k2 k3 k4 k5 k6 k7 : FVec Ideal S512x128 .bf16) (v0 v1 v2 v3 v4 v5 v6 v7 : FVec Ideal S512x256 .bf16)
    (kc : FVec Ideal S256x128 .bf16) (vc : FVec Ideal S256x256 .bf16)
    (hq0 : ∀ (a : Fin 512) (d : Fin 128), q0 (ix2 a d) = ((qr ⟨0 + a.val, by omega⟩ d : ℝ) : EReal))
    (hq1 : ∀ (a : Fin 512) (d : Fin 128), q1 (ix2 a d) = ((qr ⟨512 + a.val, by omega⟩ d : ℝ) : EReal))
    (hq2 : ∀ (a : Fin 512) (d : Fin 128), q2 (ix2 a d) = ((qr ⟨1024 + a.val, by omega⟩ d : ℝ) : EReal))
    (hq3 : ∀ (a : Fin 512) (d : Fin 128), q3 (ix2 a d) = ((qr ⟨1536 + a.val, by omega⟩ d : ℝ) : EReal))
    (hk0 : ∀ (k : Fin 512) (d : Fin 128), k0 (ix2 k d) = ((kr (0 + k.val) d : ℝ) : EReal))
    (hv0 : ∀ (k : Fin 512) j, v0 (ix2 k j) = v (0 + k.val) j)
    (hk1 : ∀ (k : Fin 512) (d : Fin 128), k1 (ix2 k d) = ((kr (512 + k.val) d : ℝ) : EReal))
    (hv1 : ∀ (k : Fin 512) j, v1 (ix2 k j) = v (512 + k.val) j)
    (hk2 : ∀ (k : Fin 512) (d : Fin 128), k2 (ix2 k d) = ((kr (1024 + k.val) d : ℝ) : EReal))
    (hv2 : ∀ (k : Fin 512) j, v2 (ix2 k j) = v (1024 + k.val) j)
    (hk3 : ∀ (k : Fin 512) (d : Fin 128), k3 (ix2 k d) = ((kr (1536 + k.val) d : ℝ) : EReal))
    (hv3 : ∀ (k : Fin 512) j, v3 (ix2 k j) = v (1536 + k.val) j)
    (hk4 : ∀ (k : Fin 512) (d : Fin 128), k4 (ix2 k d) = ((kr (2048 + k.val) d : ℝ) : EReal))
    (hv4 : ∀ (k : Fin 512) j, v4 (ix2 k j) = v (2048 + k.val) j)
    (hk5 : ∀ (k : Fin 512) (d : Fin 128), k5 (ix2 k d) = ((kr (2560 + k.val) d : ℝ) : EReal))
    (hv5 : ∀ (k : Fin 512) j, v5 (ix2 k j) = v (2560 + k.val) j)
    (hk6 : ∀ (k : Fin 512) (d : Fin 128), k6 (ix2 k d) = ((kr (3072 + k.val) d : ℝ) : EReal))
    (hv6 : ∀ (k : Fin 512) j, v6 (ix2 k j) = v (3072 + k.val) j)
    (hk7 : ∀ (k : Fin 512) (d : Fin 128), k7 (ix2 k d) = ((kr (3584 + k.val) d : ℝ) : EReal))
    (hv7 : ∀ (k : Fin 512) j, v7 (ix2 k j) = v (3584 + k.val) j)
    (hkc : ∀ (k : Fin 256) (d : Fin 128), kc (ix2 k d) = ((kr (4096 + k.val) d : ℝ) : EReal))
    (hvc : ∀ (k : Fin 256) j, vc (ix2 k j) = v (4096 + k.val) j)
    (i : Fin 2048) (j : Fin 128) (U : ℝ) :
    heads q0 q1 q2 q3 k0 k1 k2 k3 k4 k5 k6 k7 v0 v1 v2 v3 v4 v5 v6 v7 kc vc (ix2 i j)
      = ∑ t : Fin 4352, v t.val ⟨j.val, by omega⟩
          * Ideal.div ((Real.exp ((∑ d, kr t.val d * qr i d) * (11863283 / 134217728) - U) : ℝ) : EReal)
            (∑ s : Fin 4352, ((Real.exp ((∑ d, kr s.val d * qr i d) * (11863283 / 134217728) - U) : ℝ) : EReal)) := by
  have hQ := pay6_read qr q0 q1 q2 q3 hq0 hq1 hq2 hq3
  obtain ⟨σ, hσ⟩ : ∃ σ : Fin 2048 → ℕ → ℝ, ∀ i t, σ i t = (∑ d, kr t d * qr i d) * ((11863283 / 134217728) * (Real.log 2)⁻¹) :=
    ⟨_, fun _ _ => rfl⟩
  exact heads_at (fun i t => (∑ d, kr t d * qr i d) * (11863283 / 134217728)) σ
    (fun i t => by rw [hσ]; ring) v hone q0 q1 q2 q3 k0 k1 k2 k3 k4 k5 k6 k7 v0 v1 v2 v3 v4 v5 v6 v7 kc vc (fun i k => score_chunk σ qr kr 0 hσ _ _ hQ hk0 i k) hv0 (fun i k => score_chunk σ qr kr 512 hσ _ _ hQ hk1 i k) hv1 (fun i k => score_chunk σ qr kr 1024 hσ _ _ hQ hk2 i k) hv2 (fun i k => score_chunk σ qr kr 1536 hσ _ _ hQ hk3 i k) hv3 (fun i k => score_chunk σ qr kr 2048 hσ _ _ hQ hk4 i k) hv4 (fun i k => score_chunk σ qr kr 2560 hσ _ _ hQ hk5 i k) hv5 (fun i k => score_chunk σ qr kr 3072 hσ _ _ hQ hk6 i k) hv6 (fun i k => score_chunk σ qr kr 3584 hσ _ _ hQ hk7 i k) hv7 (fun i k => score_chunk' σ qr kr 4096 hσ _ _ hQ hkc i k) hvc i j U

/-- The key and value columns the kernel streams: keys, then each head's values followed by a block of ones. -/
def kvOf (k v : FVec Ideal S17408x256 .f32) : FVec Ideal S17408x768 .bf16 :=
  concatenate S17408x768 1 [⟨S17408x256, truncf .bf16 k bitsLt_bf16_f32⟩,
    ⟨S17408x128, extractStridedSlice S17408x128 ![0, 0] (truncf (F := Ideal) .bf16 v bitsLt_bf16_f32) slices_S17408x256_S17408x128_0_0⟩,
    ⟨S17408x128, broadcastInDim S17408x128 ![] bcast_S_S17408x128 (constant (F := Ideal) S_ .bf16 0x3F80#16)⟩,
    ⟨S17408x128, extractStridedSlice S17408x128 ![0, 128] (truncf (F := Ideal) .bf16 v bitsLt_bf16_f32) slices_S17408x256_S17408x128_0_128⟩,
    ⟨S17408x128, broadcastInDim S17408x128 ![] bcast_S_S17408x128 (constant (F := Ideal) S_ .bf16 0x3F80#16)⟩]
    concatenates_S17408x256_S17408x128_S17408x128_S17408x128_S17408x128_S17408x768_d1

/-- Its key columns. -/
theorem kvOf_key (k v : FVec Ideal S17408x256 .f32) (R : Fin 17408) (C : Fin 768) (C' : Fin 256) (h : C.val = C'.val) :
    kvOf k v (ix2 R C) = k (ix2 R C') := by
  pointwise [kvOf]
  rw [dif_pos (by omega)]
  exact congrArg (fun z => k (ix2 R z)) (Fin.ext h)

/-- Its value columns and its columns of ones. -/
theorem kvOf_value (k v : FVec Ideal S17408x256 .f32) (R : Fin 17408) (C : Fin 768) (h2 : ℕ) (hh : h2 < 2) (j : Fin 256)
    (h : C.val = (1 + h2) * 256 + j.val) :
    kvOf k v (ix2 R C) = if hj : j.val < 128 then v (ix2 R ⟨128 * h2 + j.val, by omega⟩) else 1 := by
  pointwise [kvOf]
  have e : ∀ z z' : Fin 256, z.val = z'.val → v (ix2 R z) = v (ix2 R z') := fun z z' hz => by rw [Fin.ext hz]
  have hj := j.isLt
  rw [dif_neg (by omega)]
  by_cases hj1 : j.val < 128
  · rw [dif_pos hj1]
    by_cases h0 : h2 = 0
    · rw [dif_pos (by omega)]
      exact e _ _ (by show C.val - 256 = 128 * h2 + j.val; omega)
    · rw [dif_neg (by omega), dif_neg (by omega), dif_pos (by omega)]
      exact e _ _ (by show 128 + (C.val - 256 - 128 - 128) = 128 * h2 + j.val; omega)
  · rw [dif_neg hj1]
    by_cases h0 : h2 = 0
    · rw [dif_neg (by omega), dif_pos (by omega)]
    · rw [dif_neg (by omega), dif_neg (by omega), dif_neg (by omega)]

variable (m : (ℓ : Loc nD τ sig) → Buf (Elt Ideal) ℓ)

theorem V_q (c : Dev nD) : V m c main_v0 = (truncf (F := Ideal) .bf16 (m ((c : Thread nD τ).loc main_arg0) : FVec Ideal S17408x1024 .f32) bitsLt_bf16_f32) := by
  unfold V; after_results; try rfl

theorem V_kv (c : Dev nD) : V m c main_v6 = kvOf (m ((c : Thread nD τ).loc main_arg1)) (m ((c : Thread nD τ).loc main_arg2)) := by
  unfold V; after_results; try rfl

theorem idx_val : ∀ t : Fin cfg0.N, win0_0.index t = ![t.val / 16 * 8 + t.val % 8, t.val / 8 % 2]
    ∧ win0_1.index t = ![t.val / 16, t.val / 8 % 2] ∧ win0_2.index t = ![t.val / 16, 1 + t.val / 8 % 2]
    ∧ win0_3.index t = ![64 + t.val / 16, t.val / 8 % 2] ∧ win0_4.index t = ![64 + t.val / 16, 1 + t.val / 8 % 2]
    ∧ win0_5.index t = ![t.val / 16 * 8 + t.val % 8, t.val / 8 % 2] :=
  (by decide +kernel : ∀ t : Fin grid0.N, _)

/-- A query block's entry. -/
theorem blk0 (c : Dev nD) (t : Fin cfg0.N) (x : S512x512.Idx) (R : Fin 17408) (C : Fin 1024)
    (hR : R.val = t.val / 16 * 4096 + t.val % 8 * 512 + (x 0 : ℕ)) (hC : C.val = t.val / 8 % 2 * 512 + (x 1 : ℕ)) :
    (iblk m c 0 t : FVec Ideal S512x512 .bf16) x = (m ((c : Thread nD τ).loc main_arg0) : FVec Ideal S17408x1024 .f32) (ix2 R C) := by
  blk_simp [iblk, idx_val t]
  rw [V_q]
  show (m ((c : Thread nD τ).loc main_arg0) : FVec Ideal S17408x1024 .f32) _ = _
  blk_ext [idx_val t]

/-- A latent key block's entry. -/
theorem blk1 (c : Dev nD) (t : Fin cfg0.N) (x : S4096x128.Idx) (R : Fin 17408) (C : Fin 256)
    (hR : R.val = t.val / 16 * 4096 + (x 0 : ℕ)) (hC : C.val = t.val / 8 % 2 * 128 + (x 1 : ℕ)) :
    (X0_1 m c t : FVec Ideal S4096x128 .bf16) x = (m ((c : Thread nD τ).loc main_arg1) : FVec Ideal S17408x256 .f32) (ix2 R C) := by
  unfold X0_1 Pipeline.Window.fill
  rw [dif_pos (moved0_1 t x)]
  blk_simp [iblk, idx_val t]
  rw [V_kv]
  have ht : t.val < 64 := lt_of_lt_of_eq t.isLt N_0
  refine Eq.trans (congrArg _ (?_ : _ = ix2 R ⟨C.val, by omega⟩)) (kvOf_key _ _ R ⟨C.val, by omega⟩ C rfl)
  blk_ext [idx_val t]

/-- A latent value block's entry: a value in its first 128 columns, a one in its last. -/
theorem blk2 (c : Dev nD) (t : Fin cfg0.N) (x : S4096x256.Idx) (R : Fin 17408) (j : Fin 256)
    (hR : R.val = t.val / 16 * 4096 + (x 0 : ℕ)) (hj : j.val = (x 1 : ℕ)) :
    (X0_2 m c t : FVec Ideal S4096x256 .bf16) x = if hj : j.val < 128 then (m ((c : Thread nD τ).loc main_arg2) : FVec Ideal S17408x256 .f32) (ix2 R ⟨128 * (t.val / 8 % 2) + j.val, by omega⟩) else (1 : EReal) := by
  unfold X0_2 Pipeline.Window.fill
  rw [dif_pos (moved0_2 t x)]
  blk_simp [iblk, idx_val t]
  rw [V_kv]
  have ht : t.val < 64 := lt_of_lt_of_eq t.isLt N_0
  refine Eq.trans (congrArg _ (?_ : _ = ix2 R ⟨(1 + t.val / 8 % 2) * 256 + (x 1 : ℕ), by omega⟩))
    ((kvOf_value _ _ R ⟨(1 + t.val / 8 % 2) * 256 + (x 1 : ℕ), by omega⟩ (t.val / 8 % 2) (by omega) j (by rw [hj])).trans ?_)
  · blk_ext [idx_val t]
  · rfl

/-- A context key block's entry. -/
theorem blk3 (c : Dev nD) (t : Fin cfg0.N) (x : S256x128.Idx) (R : Fin 17408) (C : Fin 256)
    (hR : R.val = 16384 + t.val / 16 * 256 + (x 0 : ℕ)) (hC : C.val = t.val / 8 % 2 * 128 + (x 1 : ℕ)) :
    (iblk m c 3 t : FVec Ideal S256x128 .bf16) x = (m ((c : Thread nD τ).loc main_arg1) : FVec Ideal S17408x256 .f32) (ix2 R C) := by
  blk_simp [iblk, idx_val t]
  rw [V_kv]
  have ht : t.val < 64 := lt_of_lt_of_eq t.isLt N_0
  refine Eq.trans (congrArg _ (?_ : _ = ix2 R ⟨C.val, by omega⟩)) (kvOf_key _ _ R ⟨C.val, by omega⟩ C rfl)
  blk_ext [idx_val t]

/-- A context value block's entry. -/
theorem blk4 (c : Dev nD) (t : Fin cfg0.N) (x : S256x256.Idx) (R : Fin 17408) (j : Fin 256)
    (hR : R.val = 16384 + t.val / 16 * 256 + (x 0 : ℕ)) (hj : j.val = (x 1 : ℕ)) :
    (iblk m c 4 t : FVec Ideal S256x256 .bf16) x = if hj : j.val < 128 then (m ((c : Thread nD τ).loc main_arg2) : FVec Ideal S17408x256 .f32) (ix2 R ⟨128 * (t.val / 8 % 2) + j.val, by omega⟩) else (1 : EReal) := by
  blk_simp [iblk, idx_val t]
  rw [V_kv]
  have ht : t.val < 64 := lt_of_lt_of_eq t.isLt N_0
  refine Eq.trans (congrArg _ (?_ : _ = ix2 R ⟨(1 + t.val / 8 % 2) * 256 + (x 1 : ℕ), by omega⟩))
    ((kvOf_value _ _ R ⟨(1 + t.val / 8 % 2) * 256 + (x 1 : ℕ), by omega⟩ (t.val / 8 % 2) (by omega) j (by rw [hj])).trans ?_)
  · blk_ext [idx_val t]
  · rfl

end Cert.AttnBlock

end
-- ==== Proof.AttnFinal.lean ====
module

public import proofs.«01_k».proof.Proof.AttnRead
public import Idealize.ShloMosaic.Lib.Pipeline.ValueKit

/-! The attention kernel's result array: every block it writes back is the attention at the block's rows and columns. -/

@[expose] public section

set_option maxRecDepth 16384

noncomputable section

namespace Cert.AttnBlock

open Idealize.ShloMosaic Idealize.ShloMosaic.TcCoe Idealize.SL.Sem
open Cert.AttnIdeal Cert.AttnIdeal.Gen Cert.AttnMath

variable (m : (ℓ : Loc nD τ sig) → Buf (Elt Ideal) ℓ)

/-- The queries by row and column. -/
def qF (c : Dev nD) (R : Fin 17408) (C : Fin 1024) : EReal := (m ((c : Thread nD τ).loc main_arg0) : FVec Ideal S17408x1024 .f32) (ix2 R C)
/-- The keys by row and column. -/
def kF (c : Dev nD) (R : Fin 17408) (C : Fin 256) : EReal := (m ((c : Thread nD τ).loc main_arg1) : FVec Ideal S17408x256 .f32) (ix2 R C)
/-- The values by row and column. -/
def vF (c : Dev nD) (R : Fin 17408) (C : Fin 256) : EReal := (m ((c : Thread nD τ).loc main_arg2) : FVec Ideal S17408x256 .f32) (ix2 R C)

/-- The query row `i` of point `t`'s stacked heads. -/
def qrOf (c : Dev nD) (t : ℕ) (ht : t < 64) (i : Fin 2048) (d : Fin 128) : ℝ :=
  (qF m c ⟨t / 16 * 4096 + t % 8 * 512 + i.val % 512, by omega⟩ ⟨t / 8 % 2 * 512 + 128 * (i.val / 512) + d.val, by omega⟩).toReal
/-- The `n`-th key of point `t`. -/
def krOf (c : Dev nD) (t : ℕ) (ht : t < 64) (n : ℕ) (d : Fin 128) : ℝ :=
  (kF m c (keyRow ⟨t / 16, by omega⟩ n) ⟨128 * (t / 8 % 2) + d.val, by omega⟩).toReal
/-- The `n`-th row of point `t`'s values and ones. -/
def vOf (c : Dev nD) (t : ℕ) (ht : t < 64) (n : ℕ) (j : Fin 256) : EReal :=
  if hj : j.val < 128 then vF m c (keyRow ⟨t / 16, by omega⟩ n) ⟨128 * (t / 8 % 2) + j.val, by omega⟩ else 1

theorem vOf_one (c : Dev nD) (t : ℕ) (ht : t < 64) (n : ℕ) (j : Fin 128) : vOf m c t ht n ⟨128 + j.val, by omega⟩ = 1 := by
  unfold vOf; rw [dif_neg (by show ¬ (128 + j.val < 128); omega)]

/-- The leaves: what each block holds, as `heads_read` wants it. -/
theorem read_q (c : Dev nD) (hq : ∀ R C, qF m c R C = ((qF m c R C).toReal : EReal)) (t : Fin cfg0.N) (ht : t.val < 64) (x : S512x512.Idx) (r : ℕ) (hr : r < 4) (a : Fin 512) (d : Fin 128) (i : Fin 2048) (hi : i.val = 512 * r + a.val)
    (h0 : (x 0 : ℕ) = a.val) (h1 : (x 1 : ℕ) = 128 * r + d.val) :
    (iblk m c 0 t : FVec Ideal S512x512 .bf16) x = ((qrOf m c t.val ht i d : ℝ) : EReal) := by
  rw [blk0 m c t x ⟨t.val / 16 * 4096 + t.val % 8 * 512 + i.val % 512, by omega⟩
    ⟨t.val / 8 % 2 * 512 + 128 * (i.val / 512) + d.val, by omega⟩ (by dsimp only; omega) (by dsimp only; omega)]
  exact hq _ _

theorem read_k (c : Dev nD) (hk : ∀ R C, kF m c R C = ((kF m c R C).toReal : EReal)) (t : Fin cfg0.N) (ht : t.val < 64) (x : S4096x128.Idx) (n : ℕ) (d : Fin 128)
    (h0 : (x 0 : ℕ) = n) (h1 : (x 1 : ℕ) = d.val) :
    (X0_1 m c t : FVec Ideal S4096x128 .bf16) x = ((krOf m c t.val ht n d : ℝ) : EReal) := by
  have hn : n < 4096 := by have := (x 0).isLt; rw [← h0]; exact this
  rw [blk1 m c t x (keyRow ⟨t.val / 16, by omega⟩ n) ⟨128 * (t.val / 8 % 2) + d.val, by omega⟩
    (by rw [keyRow_latent _ _ hn, h0]) (by simp only [h1]; omega)]
  exact hk _ _

theorem read_kc (c : Dev nD) (hk : ∀ R C, kF m c R C = ((kF m c R C).toReal : EReal)) (t : Fin cfg0.N) (ht : t.val < 64) (x : S256x128.Idx) (n : ℕ) (d : Fin 128)
    (h0 : (x 0 : ℕ) = n) (h1 : (x 1 : ℕ) = d.val) :
    (iblk m c 3 t : FVec Ideal S256x128 .bf16) x = ((krOf m c t.val ht (4096 + n) d : ℝ) : EReal) := by
  have hn : n < 256 := by have := (x 0).isLt; rw [← h0]; exact this
  rw [blk3 m c t x (keyRow ⟨t.val / 16, by omega⟩ (4096 + n)) ⟨128 * (t.val / 8 % 2) + d.val, by omega⟩
    (by rw [keyRow_context _ _ hn, h0]) (by simp only [h1]; omega)]
  exact hk _ _

theorem read_v (c : Dev nD) (t : Fin cfg0.N) (ht : t.val < 64) (x : S4096x256.Idx) (n : ℕ) (j : Fin 256)
    (h0 : (x 0 : ℕ) = n) (h1 : (x 1 : ℕ) = j.val) :
    (X0_2 m c t : FVec Ideal S4096x256 .bf16) x = vOf m c t.val ht n j := by
  have hn : n < 4096 := by have := (x 0).isLt; rw [← h0]; exact this
  exact blk2 m c t x (keyRow ⟨t.val / 16, by omega⟩ n) j (by rw [keyRow_latent _ _ hn, h0]) h1.symm

theorem read_vc (c : Dev nD) (t : Fin cfg0.N) (ht : t.val < 64) (x : S256x256.Idx) (n : ℕ) (j : Fin 256)
    (h0 : (x 0 : ℕ) = n) (h1 : (x 1 : ℕ) = j.val) :
    (iblk m c 4 t : FVec Ideal S256x256 .bf16) x = vOf m c t.val ht (4096 + n) j := by
  have hn : n < 256 := by have := (x 0).isLt; rw [← h0]; exact this
  exact blk4 m c t x (keyRow ⟨t.val / 16, by omega⟩ (4096 + n)) j (by rw [keyRow_context _ _ hn, h0]) h1.symm

/-- The head's formula at point `t`, row `i`, column `j` of the head is the attention at the output's row and column. -/
theorem attn_of_point (c : Dev nD) (t : ℕ) (ht : t < 64) (i : Fin 2048) (j : Fin 128) (R : Fin 16384) (C : Fin 1024) (U : ℝ)
    (hR : R.val = t / 16 * 4096 + t % 8 * 512 + i.val % 512) (hC : C.val = t / 8 % 2 * 512 + 128 * (i.val / 512) + j.val) :
    ∑ n : Fin 4352, vOf m c t ht n.val ⟨j.val, by omega⟩
          * Ideal.div ((Real.exp ((∑ d, krOf m c t ht n.val d * qrOf m c t ht i d) * (11863283 / 134217728) - U) : ℝ) : EReal)
            (∑ s : Fin 4352, ((Real.exp ((∑ d, krOf m c t ht s.val d * qrOf m c t ht i d) * (11863283 / 134217728) - U) : ℝ) : EReal))
      = attnAt (qF m c) (kF m c) (vF m c) R C U := by
  have hu : ∀ n : ℕ, (∑ d, krOf m c t ht n d * qrOf m c t ht i d) * (11863283 / 134217728) = score (qF m c) (kF m c) R C n := by
    intro n
    unfold score
    refine congrArg (· * _) (Finset.sum_congr rfl fun d _ => ?_)
    unfold krOf qrOf
    refine congrArg₂ (fun x y : EReal => x.toReal * y.toReal) ?_ ?_
    · exact congrArg₂ (kF m c) (congrArg (keyRow · n) (Fin.ext (by show t / 16 = R.val / 4096; omega)))
        (Fin.ext (by show 128 * (t / 8 % 2) + d.val = 128 * (C.val / 512) + d.val; omega))
    · exact congrArg₂ (qF m c) (Fin.ext (by show t / 16 * 4096 + t % 8 * 512 + i.val % 512 = R.val; omega))
        (Fin.ext (by show t / 8 % 2 * 512 + 128 * (i.val / 512) + d.val = 128 * (C.val / 128) + d.val; omega))
  unfold attnAt
  simp only [hu]
  refine Finset.sum_congr rfl fun n _ => ?_
  congr 1
  unfold vOf
  rw [dif_pos j.isLt]
  exact congrArg₂ (vF m c) (congrArg (keyRow · n.val) (Fin.ext (by show t / 16 = R.val / 4096; omega)))
    (Fin.ext (by show 128 * (t / 8 % 2) + j.val = 128 * (C.val / 512) + C.val % 128; omega))

/-- The output as an array. -/
def attnArr (c : Dev nD) (U : S16384x1024.Idx → ℝ) : FVec Ideal S16384x1024 .bf16 :=
  fun i => attnAt (qF m c) (kF m c) (vF m c) ⟨(i 0).val, (i 0).isLt⟩ ⟨(i 1).val, (i 1).isLt⟩ (U i)

/-- What point `t` leaves at a block index is the attention at that index's place in the array. -/
theorem point (c : Dev nD) (hq : ∀ R C, qF m c R C = ((qF m c R C).toReal : EReal)) (hk : ∀ R C, kF m c R C = ((kF m c R C).toReal : EReal))
    (U : ℝ) (t : Fin cfg0.N) (ht : t.val < 64) (y : S512x512.Idx) (R : Fin 16384) (C : Fin 1024)
    (hR : R.val = t.val / 16 * 4096 + t.val % 8 * 512 + (y 0 : ℕ)) (hC : C.val = t.val / 8 % 2 * 512 + (y 1 : ℕ)) :
    outsAt0 m c t y = attnAt (qF m c) (kF m c) (vF m c) R C U := by
  unfold outsAt0
  frame_out
  canon_tiles x
  all_goals
    pointwise [k0_pay2, k0_pay3, k0_pay4, k0_pay5]
    refine Eq.trans (heads_read (qrOf m c t.val ht) (krOf m c t.val ht) (vOf m c t.val ht) (vOf_one m c t.val ht) _ _ _ _ _ _ _ _ _ _ _ _ _ _ _ _ _ _ _ _ _ _
      (fun a d => by pointwise; exact read_q m c hq t ht _ 0 (by norm_num) a d _ (by simp) (by simp) (by simp))
      (fun a d => by pointwise; exact read_q m c hq t ht _ 1 (by norm_num) a d _ (by simp) (by simp) (by simp))
      (fun a d => by pointwise; exact read_q m c hq t ht _ 2 (by norm_num) a d _ (by simp) (by simp) (by simp))
      (fun a d => by pointwise; exact read_q m c hq t ht _ 3 (by norm_num) a d _ (by simp) (by simp) (by simp))
      (fun k d => by pointwise; exact read_k m c hk t ht _ k.val d (by simp) (by simp))
      (fun k j => by pointwise; exact read_v m c t ht _ k.val j (by simp) (by simp))
      (fun k d => by pointwise; exact read_k m c hk t ht _ (512 + k.val) d (by simp) (by simp))
      (fun k j => by pointwise; exact read_v m c t ht _ (512 + k.val) j (by simp) (by simp))
      (fun k d => by pointwise; exact read_k m c hk t ht _ (1024 + k.val) d (by simp) (by simp))
      (fun k j => by pointwise; exact read_v m c t ht _ (1024 + k.val) j (by simp) (by simp))
      (fun k d => by pointwise; exact read_k m c hk t ht _ (1536 + k.val) d (by simp) (by simp))
      (fun k j => by pointwise; exact read_v m c t ht _ (1536 + k.val) j (by simp) (by simp))
      (fun k d => by pointwise; exact read_k m c hk t ht _ (2048 + k.val) d (by simp) (by simp))
      (fun k j => by pointwise; exact read_v m c t ht _ (2048 + k.val) j (by simp) (by simp))
      (fun k d => by pointwise; exact read_k m c hk t ht _ (2560 + k.val) d (by simp) (by simp))
      (fun k j => by pointwise; exact read_v m c t ht _ (2560 + k.val) j (by simp) (by simp))
      (fun k d => by pointwise; exact read_k m c hk t ht _ (3072 + k.val) d (by simp) (by simp))
      (fun k j => by pointwise; exact read_v m c t ht _ (3072 + k.val) j (by simp) (by simp))
      (fun k d => by pointwise; exact read_k m c hk t ht _ (3584 + k.val) d (by simp) (by simp))
      (fun k j => by pointwise; exact read_v m c t ht _ (3584 + k.val) j (by simp) (by simp))
      (fun k d => read_kc m c hk t ht _ k.val d rfl rfl)
      (fun k j => read_vc m c t ht _ k.val j rfl rfl)
      _ _ U) (attn_of_point m c t.val ht _ _ R C U ?_ ?_)
    all_goals (dsimp only; omega)

/-- So the result array is the attention, whatever real the exponents are shifted by. -/
theorem final (c : Dev nD) (hq : ∀ R C, qF m c R C = ((qF m c R C).toReal : EReal)) (hk : ∀ R C, kF m c R C = ((kF m c R C).toReal : EReal))
    (U : S16384x1024.Idx → ℝ) : (dats m 0 c).arrAt 5 cfg0.N = attnArr m c U := by
  refine (dats m 0 c).arrAt_eq_of_covers 5 _ (by decide +kernel) fun t _ y => ?_
  blk_simp
  rw [after0_5]
  have ht : t.val < 64 := lt_of_lt_of_eq t.isLt N_0
  refine point m c hq hk _ t ht y _ _ ?_ ?_
  all_goals (blk_simp [idx_val t] <;> (dsimp only; omega))

end Cert.AttnBlock

end
-- ==== Proof.AttnRef.lean ====
module

public import proofs.«01_k».proof.Proof.Gen.AttnRefIdeal.Read
public import proofs.«01_k».proof.Proof.AttnSpec
public import Idealize.ShloMosaic.Lib.Pipeline.ValueKit

/-! The attention reference's result, read at a row and a column. -/

@[expose] public section

set_option maxRecDepth 16384

noncomputable section

namespace Cert.AttnRefRead

open Idealize.ShloMosaic Idealize.ShloMosaic.TcCoe Idealize.SL.Sem
open Cert.AttnRefIdeal Cert.AttnRefIdeal.Gen Cert.AttnRefIdeal.Read Cert.AttnMath

variable (q : FVec Ideal S17408x1024 .f32) (k v : FVec Ideal S17408x256 .f32)

/-- A maximum of real numbers over at least one index, started from minus infinity, is a real number. -/
theorem reduce_real {s t u : Shape} {axes : List (Fin s.rank)} (x : FVec Ideal s .f32) (init : FVec Ideal u .f32) (h : s.ReducesTo axes t)
    (hu : 0 < u.numel) (j : t.Idx) (hinit : init (Shape.Idx.first hu) = (⊥ : EReal)) (hx : ∀ i, ∃ r : ℝ, x i = (r : EReal))
    (i0 : s.Idx) (hi : h.drop i0 = j) :
    ∃ r : ℝ, Host.reduce (FloatOps.maximumf (F := Ideal) (φ := .f32)) x init h hu j = (r : EReal) := by
  have e : Host.reduce (FloatOps.maximumf (F := Ideal) (φ := .f32)) x init h hu j
      = (Finset.univ.filter fun i => h.drop i = j).fold (max : EReal → EReal → EReal) ⊥ x :=
    (Host.reduce_eq_fold (max : EReal → EReal → EReal) x init h hu j).trans (by rw [hinit])
  rw [e]
  set M := (Finset.univ.filter fun i => h.drop i = j).fold (max : EReal → EReal → EReal) ⊥ x with hM
  have h1 : M ≠ ⊥ := by
    obtain ⟨r, hr⟩ := hx i0
    have : x i0 ≤ M := (Finset.le_fold_max _).mpr (Or.inr ⟨i0, by simp [hi], le_refl _⟩)
    intro hb
    rw [hb, hr] at this
    exact absurd this (not_le.mpr (EReal.bot_lt_coe r))
  have h2 : M ≠ ⊤ := by
    refine ne_of_lt ((Finset.fold_max_lt _).mpr ⟨bot_lt_top, fun i _ => ?_⟩)
    obtain ⟨r, hr⟩ := hx i
    rw [hr]; exact EReal.coe_lt_top r
  exact ⟨M.toReal, (EReal.coe_toReal h2 h1).symm⟩

/-- A query, read in its head. -/
theorem q_at (b : Fin 4) (s : Fin 4096) (h : Fin 2) (g : Fin 4) (d : Fin 128) :
    val_main_v14 (F := Ideal) q (ix5 b s h g d) = q (ix2 ⟨b.val * 4096 + s.val, by omega⟩ ⟨(h.val * 4 + g.val) * 128 + d.val, by omega⟩) := by
  pointwise [val_main_v14, val_main_v1, val_main_v0]

/-- A key of a batch: the latent ones, then the context ones. -/
theorem k_at (b : Fin 4) (t : Fin 4352) (h : Fin 2) (d : Fin 128) :
    val_main_v8 (F := Ideal) k (ix4 b t h d) = k (ix2 (keyRow b t.val) ⟨128 * h.val + d.val, by omega⟩) := by
  pointwise [val_main_v8, val_main_v7, val_main_v6, val_main_v5, val_main_v4, val_main_v3, val_main_v2]
  have e : ∀ (R R' : Fin 17408) (C C' : Fin 256), R.val = R'.val → C.val = C'.val → k (ix2 R C) = k (ix2 R' C') :=
    fun R R' C C' hR hC => by rw [Fin.ext hR, Fin.ext hC]
  by_cases ht : t.val < 4096
  · rw [dif_pos ht]
    exact e _ _ _ _ (by rw [keyRow_latent _ _ ht]) (by show h.val * 128 + d.val = 128 * h.val + d.val; omega)
  · rw [dif_neg ht]
    refine e _ _ _ _ ?_ (by show h.val * 128 + d.val = 128 * h.val + d.val; omega)
    have hc := keyRow_context b (t.val - 4096) (by omega)
    rw [show 4096 + (t.val - 4096) = t.val by omega] at hc
    show 16384 + (b.val * 256 + (t.val - 4096)) = (keyRow b t.val).val
    omega

/-- A value of a batch: the latent ones, then the context ones. -/
theorem v_at (b : Fin 4) (t : Fin 4352) (h : Fin 2) (d : Fin 128) :
    val_main_v13 (F := Ideal) v (ix4 b t h d) = v (ix2 (keyRow b t.val) ⟨128 * h.val + d.val, by omega⟩) := by
  pointwise [val_main_v13, val_main_v12, val_main_v11, val_main_v10, val_main_v9]
  have e : ∀ (R R' : Fin 17408) (C C' : Fin 256), R.val = R'.val → C.val = C'.val → v (ix2 R C) = v (ix2 R' C') :=
    fun R R' C C' hR hC => by rw [Fin.ext hR, Fin.ext hC]
  by_cases ht : t.val < 4096
  · rw [dif_pos ht]
    exact e _ _ _ _ (by rw [keyRow_latent _ _ ht]) (by show h.val * 128 + d.val = 128 * h.val + d.val; omega)
  · rw [dif_neg ht]
    refine e _ _ _ _ ?_ (by show h.val * 128 + d.val = 128 * h.val + d.val; omega)
    have hc := keyRow_context b (t.val - 4096) (by omega)
    rw [show 4096 + (t.val - 4096) = t.val by omega] at hc
    show 16384 + (b.val * 256 + (t.val - 4096)) = (keyRow b t.val).val
    omega

/-- The printed scale's exact value. -/
theorem scale_val : Ideal.ofBits .f32 0x3DB504F3#32 = (((11863283 / 134217728 : ℝ)) : EReal) := by
  simp [Ideal.ofBits, Ideal.ieee]
  rw [← EReal.coe_mul]
  congr 1
  norm_num

/-- The pattern 0xFF800000 is minus infinity. -/
theorem ninf_val : Ideal.ofBits .f32 0xFF800000#32 = ⊥ := by
  simp [Ideal.ofBits, Ideal.ieee]

/-- A score, as the reference writes it. -/
theorem score_raw (b : Fin 4) (h : Fin 2) (g : Fin 4) (s : Fin 4096) (t : Fin 4352) :
    val_main_v18 (F := Ideal) q k (ix5 b h g s t)
      = (∑ x : Fin 128, val_main_v8 (F := Ideal) k (ix4 b t h x) * val_main_v14 (F := Ideal) q (ix5 b s h g x)) * Ideal.ofBits .f32 0x3DB504F3#32 := by
  pointwise [val_main_v18, val_main_v16, val_main_v15, val_main_v17, val_main_cst]

/-- The exponential of a score less its row's maximum. -/
theorem exp_raw (b : Fin 4) (h : Fin 2) (g : Fin 4) (s : Fin 4096) (t : Fin 4352) :
    val_main_v25 (F := Ideal) q k (ix5 b h g s t)
      = Ideal.exp (val_main_v18 (F := Ideal) q k (ix5 b h g s t) - val_main_v21 (F := Ideal) q k (ix4 b h g s)) := by
  pointwise [val_main_v25, val_main_v24, val_main_v23, val_main_v22]

/-- The softmax. -/
theorem soft_raw (b : Fin 4) (h : Fin 2) (g : Fin 4) (s : Fin 4096) (t : Fin 4352) :
    val_main_v29 (F := Ideal) q k (ix5 b h g s t)
      = Ideal.div (val_main_v25 (F := Ideal) q k (ix5 b h g s t)) (∑ x : Fin 4352, val_main_v25 (F := Ideal) q k (ix5 b h g s x)) := by
  pointwise [val_main_v29, val_main_v28, val_main_v27, val_main_v26, val_main_cst_2]

/-- The output: values times weights. -/
theorem out_raw (R : Fin 16384) (C : Fin 1024) :
    val_main_v33 (F := Ideal) q k v (ix2 R C)
      = ∑ x : Fin 4352, val_main_v13 (F := Ideal) v (ix4 ⟨R.val / 4096, by omega⟩ x ⟨C.val / 512, by omega⟩ ⟨C.val % 128, by omega⟩)
          * val_main_v29 (F := Ideal) q k (ix5 ⟨R.val / 4096, by omega⟩ ⟨C.val / 512, by omega⟩ ⟨C.val / 128 % 4, by omega⟩ ⟨R.val % 4096, by omega⟩ x) := by
  pointwise [val_main_v33, val_main_v32, val_main_v31, val_main_v30]

/-- At real queries and keys every score is the real score. -/
theorem score_eq (hq : ∀ R C, q (ix2 R C) = ((EReal.toReal (q (ix2 R C)) : ℝ) : EReal)) (hk : ∀ R C, k (ix2 R C) = ((EReal.toReal (k (ix2 R C)) : ℝ) : EReal))
    (R : Fin 16384) (C : Fin 1024) (t : Fin 4352) :
    val_main_v18 (F := Ideal) q k (ix5 ⟨R.val / 4096, by omega⟩ ⟨C.val / 512, by omega⟩ ⟨C.val / 128 % 4, by omega⟩ ⟨R.val % 4096, by omega⟩ t)
      = ((score (fun r c => q (ix2 r c)) (fun r c => k (ix2 r c)) R C t.val : ℝ) : EReal) := by
  rw [score_raw, scale_val]
  unfold score
  rw [EReal.coe_mul, ← coe_sum]
  congr 1
  refine Finset.sum_congr rfl fun d _ => ?_
  rw [k_at, q_at, hk, hq, ← EReal.coe_mul]
  have e : ∀ (R R' : Fin 17408) (C C' : Fin 1024), R.val = R'.val → C.val = C'.val → q (ix2 R C) = q (ix2 R' C') :=
    fun R R' C C' hR hC => by rw [Fin.ext hR, Fin.ext hC]
  exact congrArg (fun z : EReal => ((EReal.toReal _ * EReal.toReal z : ℝ) : EReal))
    (e _ _ _ _ (by show R.val / 4096 * 4096 + R.val % 4096 = R.val; omega)
      (by show (C.val / 512 * 4 + C.val / 128 % 4) * 128 + d.val = 128 * (C.val / 128) + d.val; omega))

/-- And every row's maximum is real. -/
theorem max_real (hx : ∀ i, ∃ r : ℝ, val_main_v18 (F := Ideal) q k i = (r : EReal)) (b : Fin 4) (h : Fin 2) (g : Fin 4) (s : Fin 4096) :
    ∃ r : ℝ, val_main_v21 (F := Ideal) q k (ix4 b h g s) = (r : EReal) := by
  obtain ⟨r, hr⟩ := reduce_real (val_main_v18 (F := Ideal) q k) (val_main_cst_0 (F := Ideal)) reducesTo_S4x2x4x4096x4352_S4x2x4x4096_d4 h_S_
    (ix4 b h g s) ninf_val hx (ix5 b h g s 0) (by
      funext a
      match a with
      | 0 => exact Fin.ext (Shape.ReducesTo.drop_apply_val_of_eq reducesTo_S4x2x4x4096x4352_S4x2x4x4096_d4 _ 0 0)
      | 1 => exact Fin.ext (Shape.ReducesTo.drop_apply_val_of_eq reducesTo_S4x2x4x4096x4352_S4x2x4x4096_d4 _ 1 1)
      | 2 => exact Fin.ext (Shape.ReducesTo.drop_apply_val_of_eq reducesTo_S4x2x4x4096x4352_S4x2x4x4096_d4 _ 2 2)
      | 3 => exact Fin.ext (Shape.ReducesTo.drop_apply_val_of_eq reducesTo_S4x2x4x4096x4352_S4x2x4x4096_d4 _ 3 3))
  refine ⟨r, ?_⟩
  rw [val_main_v21_apply]
  have h20 : val_main_v20 (F := Ideal) (ix4 b h g s) = (⊥ : EReal) := by rw [val_main_v20_apply]; exact ninf_val
  show max (val_main_v20 (F := Ideal) (ix4 b h g s)) (val_main_v19 (F := Ideal) q k (ix4 b h g s)) = _
  rw [h20, max_eq_right bot_le]
  exact hr

/-- So the reference's result is the attention with the exponents shifted by some real number at each entry. -/
theorem out_eq (hq : ∀ R C, q (ix2 R C) = ((EReal.toReal (q (ix2 R C)) : ℝ) : EReal)) (hk : ∀ R C, k (ix2 R C) = ((EReal.toReal (k (ix2 R C)) : ℝ) : EReal))
    (R : Fin 16384) (C : Fin 1024) :
    ∃ U : ℝ, val_main_v33 (F := Ideal) q k v (ix2 R C) = attnAt (fun r c => q (ix2 r c)) (fun r c => k (ix2 r c)) (fun r c => v (ix2 r c)) R C U := by
  have hx : ∀ i, ∃ r : ℝ, val_main_v18 (F := Ideal) q k i = (r : EReal) := by
    intro i
    idx_vars i
    refine ⟨(∑ d : Fin 128, (EReal.toReal (k (ix2 (keyRow i0 i4.val) ⟨128 * i1.val + d.val, by omega⟩)))
      * (EReal.toReal (q (ix2 ⟨i0.val * 4096 + i3.val, by omega⟩ ⟨(i1.val * 4 + i2.val) * 128 + d.val, by omega⟩)))) * (11863283 / 134217728), ?_⟩
    rw [score_raw, scale_val, EReal.coe_mul, ← coe_sum]
    congr 1
    refine Finset.sum_congr rfl fun d _ => ?_
    rw [k_at, q_at, EReal.coe_mul, ← hk, ← hq]
  obtain ⟨U, hU⟩ := max_real q k hx ⟨R.val / 4096, by omega⟩ ⟨C.val / 512, by omega⟩ ⟨C.val / 128 % 4, by omega⟩ ⟨R.val % 4096, by omega⟩
  refine ⟨U, ?_⟩
  have he : ∀ t : Fin 4352, val_main_v25 (F := Ideal) q k (ix5 ⟨R.val / 4096, by omega⟩ ⟨C.val / 512, by omega⟩ ⟨C.val / 128 % 4, by omega⟩ ⟨R.val % 4096, by omega⟩ t)
      = ((Real.exp (score (fun r c => q (ix2 r c)) (fun r c => k (ix2 r c)) R C t.val - U) : ℝ) : EReal) := by
    intro t
    rw [exp_raw, hU, score_eq q k hq hk, ← EReal.coe_sub, Ideal.exp_coe]
  rw [out_raw]
  unfold attnAt
  refine Finset.sum_congr rfl fun t _ => ?_
  rw [v_at, soft_raw, he]
  simp only [he]

end Cert.AttnRefRead

end
-- ==== Proof.AttnClaim.lean ====
module

public import proofs.«01_k».proof.Proof.AttnFinal
public import proofs.«01_k».proof.Proof.AttnRef
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Attn.Frame
public import proofs.«01_k».proof.Proof.Gen.Pre_finite_scores
public import proofs.«01_k».proof.Defs
public import Idealize.ShloMosaic.Lib.Claim

/-! The claims about the attention kernel, put together from its run and the reference's run. -/

@[expose] public section

set_option maxRecDepth 16384

noncomputable section

namespace Cert.AttnClaim

open Idealize.ShloMosaic Idealize.ShloMosaic.TcCoe Idealize.SL.Sem

/-- The pattern 0x7F800000 is plus infinity. -/
theorem pos_inf : Ideal.ofBits .f32 0x7F800000#32 = ⊤ := by
  simp [Ideal.ofBits, Ideal.ieee]

/-- A number whose absolute value is less than plus infinity is a real number. -/
theorem real_of_lt (x : Ideal .f32) (h : Ideal.cmp .olt (max x (-x)) ⊤ = 1#1) : x = ((EReal.toReal x : ℝ) : EReal) := by
  have h' : max x (-x) < (⊤ : EReal) := by
    by_contra hn
    simp [Ideal.cmp, hn] at h
  have h1 := (max_lt_iff.mp h').1
  have h2 := (max_lt_iff.mp h').2
  refine (EReal.coe_toReal h1.ne ?_).symm
  intro hb
  rw [hb] at h2
  simp at h2

/-- The precondition makes every query and key a real number. -/
theorem finite_of_pre (q : FVec Ideal Cert.Pre_finite_scores.S17408x1024 .f32) (k v : FVec Ideal Cert.Pre_finite_scores.S17408x256 .f32)
    (h : (Cert.Pre_finite_scores.fn (F := Ideal) q k v).1 = (fun _ => 1#1) ∧ (Cert.Pre_finite_scores.fn (F := Ideal) q k v).2 = (fun _ => 1#1)) :
    (∀ i, q i = ((EReal.toReal (q i) : ℝ) : EReal)) ∧ (∀ i, k i = ((EReal.toReal (k i) : ℝ) : EReal)) := by
  refine ⟨fun i => real_of_lt _ ?_, fun i => real_of_lt _ ?_⟩
  · rw [← pos_inf]
    exact congrFun h.1 i
  · rw [← pos_inf]
    exact congrFun h.2 i

/-- The attention as compiled runs, keeps its arguments and leaves every counter at zero. -/
theorem frame_p : Cert.quiescent_Attn := fun m ρ _ => Cert.Attn.Gen.frame m ρ

/-- The idealized attention does the same. -/
theorem frame_pi : Cert.quiescent_AttnIdeal := fun m ρ _ => Cert.AttnIdeal.Gen.frame m ρ

/-- And so it does where the scores are finite. -/
theorem frame_pi_pre : Cert.quiescent_AttnIdeal_pre_finite_scores := fun m ρ _ => Cert.AttnIdeal.Gen.frame m ρ

/-- The reference attention runs, keeps its arguments and leaves every counter at zero. -/
theorem frame_ri : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- And so it does where the scores are finite. -/
theorem frame_ri_pre : Cert.quiescent_AttnRefIdeal_pre_finite_scores := fun m ρ _ => frame_ri m ρ trivial

/-- The scale that the idealized attention multiplies its queries by is the named constant's value. -/
theorem preserves : Cert.preserves_Attn_AttnIdeal :=
  IdealRules.named_const.statement Cert.AttnIdeal.κ "qk_scale" .f32 0x3E0293EE#32 _ rfl

/-- At queries and keys that are real numbers, the reference's result is the kernel's result. -/
theorem result_eq (m : (ℓ : Loc Cert.AttnIdeal.nD Cert.AttnIdeal.τ Cert.AttnIdeal.sig) → Buf (Elt Ideal) ℓ) (c : Dev Cert.AttnIdeal.nD)
    (hp : Cert.Pre_AttnIdeal_finite_scores m) :
    (Cert.AttnIdeal.Gen.dats m 0 c).arrAt 5 Cert.AttnIdeal.cfg0.N
      = Cert.AttnRefIdeal.Read.val_main_v33 (F := Ideal) (m ((c : Thread Cert.AttnIdeal.nD Cert.AttnIdeal.τ).loc Cert.AttnIdeal.main_arg0))
          (m ((c : Thread Cert.AttnIdeal.nD Cert.AttnIdeal.τ).loc Cert.AttnIdeal.main_arg1))
          (m ((c : Thread Cert.AttnIdeal.nD Cert.AttnIdeal.τ).loc Cert.AttnIdeal.main_arg2)) := by
  obtain ⟨hq, hk⟩ := finite_of_pre _ _ _ (hp c)
  have h := fun (R : Fin 16384) (C : Fin 1024) => Cert.AttnRefRead.out_eq
    (m ((c : Thread Cert.AttnIdeal.nD Cert.AttnIdeal.τ).loc Cert.AttnIdeal.main_arg0))
    (m ((c : Thread Cert.AttnIdeal.nD Cert.AttnIdeal.τ).loc Cert.AttnIdeal.main_arg1))
    (m ((c : Thread Cert.AttnIdeal.nD Cert.AttnIdeal.τ).loc Cert.AttnIdeal.main_arg2)) (fun R C => hq _) (fun R C => hk _) R C
  choose U hU using h
  rw [Cert.AttnBlock.final m c (fun R C => hq _) (fun R C => hk _) (fun i => U ⟨(i 0).val, (i 0).isLt⟩ ⟨(i 1).val, (i 1).isLt⟩)]
  funext i
  have e : i = ix2 ⟨(i 0).val, (i 0).isLt⟩ ⟨(i 1).val, (i 1).isLt⟩ := by
    funext d; fin_cases d <;> rfl
  conv_rhs => rw [e]
  exact (hU _ _).symm

/-- The idealized attention and the reference end with equal results. -/
theorem algebraic : Cert.algebraic_AttnIdeal_AttnRefIdeal_pre_finite_scores := by
  pair_intro
  · run_from Cert.AttnIdeal.Value.run_blocks (F := Ideal) m g
  · run_from Cert.AttnRefIdeal.Value.run (F := Ideal) m' g'
    rw [Cert.AttnRefIdeal.Read.val_main_v33_eq, (hagree c).1, (hagree c).2.1, (hagree c).2.2]
    exact (result_eq m c hpre).symm

end Cert.AttnClaim

end
-- ==== Proof.MlpRun.lean ====
module

public import proofs.«01_k».proof.Proof.Gen.MlpIdeal.Launch
public import proofs.«01_k».proof.Proof.Gen.MlpIdeal.Points
public import proofs.«01_k».proof.Proof.Gen.MlpIdeal.Skeleton
public import Idealize.ShloMosaic.Lib.Pipeline.FrameBody
public import Idealize.ShloMosaic.Lib.Ring
public import Idealize.ShloMosaic.Lib.Pipeline.Routed
public import Idealize.ShloMosaic.Lib.Tactic
public import Idealize.ShloMosaic.Lib.WordCmp

/-! The MLP kernel's body, at a row tile's first hidden tile (the residual rows' transfer started, the sum begun), at a
    later one (the sum continued) and at the last (the transfer waited for, the residual rows and the gate applied). -/

@[expose] public section

set_option maxRecDepth 16384

noncomputable section

namespace Cert.MlpRun

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- The residual rows, whole. -/
abbrev xM : Memref sig .tc .hbm S16384x2048 .f32 := Memref.whole main_arg1
/-- The buffer a row tile's residual rows are copied into. -/
abbrev sM : Memref sig .tc .vmem S1024x2048 .f32 := Memref.whole cc0_scratch0
/-- The 1024 residual rows at an offset. -/
abbrev srcAt (off : Fin 2 → ℕ) (h : ∀ a, off a + S1024x2048.size a ≤ S16384x2048.size a) : Memref sig .tc .hbm S1024x2048 .f32 :=
  xM.slice (Rect.unit (s := S16384x2048) off S1024x2048.size h) (fun _ => rfl)

/-- A buffer's elements under a view, held in full. -/
def heldOwn (c : Dev nD) {sp : Space} {S : Shape} {e : EltTy} (M : Memref sig .tc sp S e) (f : Buf (Elt F) (M.view.loc (c : Thread nD τ))) : sProp 𝕄 :=
  M.view.loc (c : Thread nD τ) ↦[M.view.set]{fullShare} f

/-- The kernel's transfer semaphore, at zero. -/
def cell0 (c : Dev nD) : sProp 𝕄 := semVal ((c : Thread nD τ), SemLoc.dma cc0_scratch1.sem) 0

/-- What the residual rows at an offset read as. -/
abbrev rowsAt (c : Dev nD) (off : Fin 2 → ℕ) (h : ∀ a, off a + S1024x2048.size a ≤ S16384x2048.size a)
    (fx : Buf (Elt F) (xM.view.loc (c : Thread nD τ))) : S1024x2048.Idx → Elt F .f32 :=
  ReadAs.same.apply ((srcAt off h).view.read (Elt F) fx)

/-- The transfer of the residual rows at an offset, in flight: it delivers the buffer holding those rows, and the rows. -/
def flight (c : Dev nD) (off : Fin 2 → ℕ) (h : ∀ a, off a + S1024x2048.size a ≤ S16384x2048.size a)
    (fx : Buf (Elt F) (xM.view.loc (c : Thread nD τ))) (fs : Buf (Elt F) (sM.view.loc (c : Thread nD τ))) : sProp 𝕄 :=
  Transfers.Flight countersEmb (c : Thread nD τ) (SemLoc.dma cc0_scratch1.sem) () 262144
    iprop((sM.view.loc (c : Thread nD τ) ↦[sM.view.set]{fullShare} sM.view.writes (Elt F) fs [⟨Rect.whole S1024x2048, rowsAt c off h fx⟩])
      ∗ ((srcAt off h).view.loc (c : Thread nD τ) ↦[(srcAt off h).view.set]{fullShare} fx))

variable (c : Dev nD) (i : grid0.Coords) (arg2 : Memref sig .tc .vmem S1024x2048 .bf16) (harg2 : arg2.IsWhole) (arg3 : Memref sig .tc .vmem S1x2048x1024 .bf16) (harg3 : arg3.IsWhole)
  (arg4 : Memref sig .tc .vmem S1x1024x2048 .bf16) (harg4 : arg4.IsWhole) (arg6 : Memref sig .tc .vmem S1x1x1x2048 .f32) (harg6 : arg6.IsWhole) (arg7 : Memref sig .tc .vmem S1024x2048 .f32) (harg7 : arg7.IsWhole)
  (x0 : Vec F S1024x2048 .bf16) (x1 : Vec F S1x2048x1024 .bf16) (x2 : Vec F S1x1024x2048 .bf16) (x3 : Vec F S1x1x1x2048 .f32)

/-- The four blocks the body reads, held at their contents. -/
def ins : sProp 𝕄 :=
  iprop(owns (c : Thread nD τ) arg2 fullShare x0 ∗ owns (c : Thread nD τ) arg3 fullShare x1 ∗ owns (c : Thread nD τ) arg4 fullShare x2
    ∗ owns (c : Thread nD τ) arg6 fullShare x3)

/-- The body as the pipeline calls it. -/
abbrev body : Prog (TpuEff nD τ sig (Elt F) Λ₀ .tc) PUnit :=
  cc0_mlp i arg2 harg2 arg3 harg3 arg4 harg4 xM (Memref.isWhole_whole _) arg6 harg6 arg7 harg7 sM (Memref.isWhole_whole _) cc0_scratch1

set_option maxHeartbeats 2000000 in
/-- At the first hidden tile the body starts the transfer and begins the sum. -/
def runFirst (hc1 : k0_cond1 i = 1#1) (hc2 : k0_cond2 i ≠ 1#1) (hc3 : k0_cond3 i ≠ 1#1) :
    { L : List (View.Piece (Elt F) S1024x2048 .f32) //
      ∀ (fx : Buf (Elt F) (xM.view.loc (c : Thread nD τ))) (fs : Buf (Elt F) (sM.view.loc (c : Thread nD τ))) (W : Waits sig Unit) (K : PUnit → sProp 𝕄),
        iprop(ins c arg2 arg3 arg4 arg6 x0 x1 x2 x3 ∗ (∃ d, owns (c : Thread nD τ) arg7 fullShare d)
            ∗ heldOwn c (srcAt (k0_off1 i) (k0_off1_inb i hc1)) fx ∗ heldOwn c sM fs ∗ cell0 c ∗ owes (c : Thread nD τ) 0 W
            ∗ (iprop(ins c arg2 arg3 arg4 arg6 x0 x1 x2 x3 ∗ (∃ f, arg7.view.loc (c : Thread nD τ) ↦[arg7.view.set]{fullShare} arg7.view.writes (Elt F) f L)
                ∗ flight c (k0_off1 i) (k0_off1_inb i hc1) fx fs ∗ (∃ W', owes (c : Thread nD τ) 0 W')) -∗ K ⟨⟩))
          ⊢ wp frame (wpE (defs₀ (F := F)) Variants.none c none) Set.univ (body i arg2 harg2 arg3 harg3 arg4 harg4 arg6 harg6 arg7 harg7) K } := by
  refine ⟨?_, fun fx fs W K => ?run⟩
  case run =>
    unfold body
    simp only [cc0_mlp_eq_skeleton]; unfold cc0_mlp_skel
    simp only [k0_part1_eq_skeleton, k0_part2_eq_skeleton, k0_part3_eq_skeleton, k0_part4_eq_skeleton]
    unfold ins owns
    iintro ⟨⟨⟨%f0, %hf0, H0⟩, ⟨%f1, %hf1, H1⟩, ⟨%f2, %hf2, H2⟩, ⟨%f3, %hf3, H3⟩⟩, ⟨%d5, %f5, -, H5⟩, Hx, Hs, Hd, HW, Hk⟩
    obtain rfl := harg2.eq_unread hf0; obtain rfl := harg3.eq_unread hf1; obtain rfl := harg4.eq_unread hf2; obtain rfl := harg6.eq_unread hf3
    rw [dif_pos hc1, dif_neg hc2, dif_neg hc3]
    unfold heldOwn cell0
    sl_exec
    sl_step
    iapply Hk
    isplitl [H0 H1 H2 H3]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      iexists _; isplitr; · ipureintro; exact harg6.read_unread _
      iexact H3
    isplitl [H5]; · iexists _; iexact H5
    isplitl [Hd]
    · unfold flight; iexact Hd
    iexists _; iexact HW

set_option maxHeartbeats 2000000 in
/-- At a later hidden tile the body adds to the sum. -/
def runMid (x4 : Vec F S1024x2048 .f32) (hc1 : k0_cond1 i ≠ 1#1) (hc2 : k0_cond2 i = 1#1) (hc3 : k0_cond3 i ≠ 1#1) :
    { L : List (View.Piece (Elt F) S1024x2048 .f32) //
      ∀ (W : Waits sig Unit) (K : PUnit → sProp 𝕄),
        iprop(ins c arg2 arg3 arg4 arg6 x0 x1 x2 x3 ∗ owns (c : Thread nD τ) arg7 fullShare x4 ∗ owes (c : Thread nD τ) 0 W
            ∗ (iprop(ins c arg2 arg3 arg4 arg6 x0 x1 x2 x3 ∗ (∃ f, arg7.view.loc (c : Thread nD τ) ↦[arg7.view.set]{fullShare} arg7.view.writes (Elt F) f L)
                ∗ (∃ W', owes (c : Thread nD τ) 0 W')) -∗ K ⟨⟩))
          ⊢ wp frame (wpE (defs₀ (F := F)) Variants.none c none) Set.univ (body i arg2 harg2 arg3 harg3 arg4 harg4 arg6 harg6 arg7 harg7) K } := by
  refine ⟨?_, fun W K => ?run⟩
  case run =>
    unfold body
    simp only [cc0_mlp_eq_skeleton]; unfold cc0_mlp_skel
    simp only [k0_part1_eq_skeleton, k0_part2_eq_skeleton, k0_part3_eq_skeleton, k0_part4_eq_skeleton]
    unfold ins owns
    iintro ⟨⟨⟨%f0, %hf0, H0⟩, ⟨%f1, %hf1, H1⟩, ⟨%f2, %hf2, H2⟩, ⟨%f3, %hf3, H3⟩⟩, ⟨%f5, %hf5, H5⟩, HW, Hk⟩
    obtain rfl := harg2.eq_unread hf0; obtain rfl := harg3.eq_unread hf1; obtain rfl := harg4.eq_unread hf2; obtain rfl := harg6.eq_unread hf3
    obtain rfl := harg7.eq_unread hf5
    rw [dif_neg hc1, dif_neg hc3]
    sl_exec
    sl_step
    iapply Hk
    isplitl [H0 H1 H2 H3]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      iexists _; isplitr; · ipureintro; exact harg6.read_unread _
      iexact H3
    isplitl [H5]; · iexists _; iexact H5
    iexists _; iexact HW

set_option maxHeartbeats 2000000 in
/-- At the last hidden tile the body waits for the residual rows, adds to the sum, and leaves the rows plus the gated sum. -/
def runLast (x4 : Vec F S1024x2048 .f32) (hc1 : k0_cond1 i ≠ 1#1) (hc2 : k0_cond2 i ≠ 1#1) (hc3 : k0_cond3 i = 1#1)
    (fx : Buf (Elt F) (xM.view.loc (c : Thread nD τ))) :
    { L : List (View.Piece (Elt F) S1024x2048 .f32) //
      ∀ (fs : Buf (Elt F) (sM.view.loc (c : Thread nD τ))) (W : Waits sig Unit) (K : PUnit → sProp 𝕄),
        iprop(ins c arg2 arg3 arg4 arg6 x0 x1 x2 x3 ∗ owns (c : Thread nD τ) arg7 fullShare x4
            ∗ flight c (k0_off2 i) (k0_off2_inb i hc3) fx fs ∗ owes (c : Thread nD τ) 0 W
            ∗ (iprop(ins c arg2 arg3 arg4 arg6 x0 x1 x2 x3 ∗ (∃ f, arg7.view.loc (c : Thread nD τ) ↦[arg7.view.set]{fullShare} arg7.view.writes (Elt F) f L)
                ∗ heldOwn c (srcAt (k0_off2 i) (k0_off2_inb i hc3)) fx ∗ (∃ f, heldOwn c sM f) ∗ cell0 c ∗ (∃ W', owes (c : Thread nD τ) 0 W')) -∗ K ⟨⟩))
          ⊢ wp frame (wpE (defs₀ (F := F)) Variants.none c none) Set.univ (body i arg2 harg2 arg3 harg3 arg4 harg4 arg6 harg6 arg7 harg7) K } := by
  refine ⟨?_, fun fs W K => ?run⟩
  case run =>
    unfold body
    simp only [cc0_mlp_eq_skeleton]; unfold cc0_mlp_skel
    simp only [k0_part1_eq_skeleton, k0_part2_eq_skeleton, k0_part3_eq_skeleton, k0_part4_eq_skeleton]
    unfold ins owns
    iintro ⟨⟨⟨%f0, %hf0, H0⟩, ⟨%f1, %hf1, H1⟩, ⟨%f2, %hf2, H2⟩, ⟨%f3, %hf3, H3⟩⟩, ⟨%f5, %hf5, H5⟩, HF, HW, Hk⟩
    obtain rfl := harg2.eq_unread hf0; obtain rfl := harg3.eq_unread hf1; obtain rfl := harg4.eq_unread hf2; obtain rfl := harg6.eq_unread hf3
    obtain rfl := harg7.eq_unread hf5
    rw [dif_neg hc1, dif_pos hc3]
    unfold flight
    sl_exec
    sl_step
    iapply Hk
    isplitl [H0 H1 H2 H3]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      iexists _; isplitr; · ipureintro; exact harg6.read_unread _
      iexact H3
    isplitl [H5]; · iexists _; iexact H5
    unfold heldOwn cell0
    isplitl [HF_src]; · iexact HF_src
    isplitl [HF_dst]; · iexists _; iexact HF_dst
    isplitl [HF]; · iexact HF
    iexists _; iexact HW

end Cert.MlpRun
end
-- ==== Proof.MlpFrame.lean ====
module

public import proofs.«01_k».proof.Proof.MlpRun
public import proofs.«01_k».proof.Proof.Gen.MlpIdeal.Frame

/-! The MLP kernel's launch: the transfer of each row tile's residual rows is carried from the tile's first hidden tile
    to its last, and the output block holds the sum of the hidden tiles so far. -/

@[expose] public section

set_option maxRecDepth 16384

noncomputable section

namespace Cert.MlpRun

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The points -/

/-- The first branch is taken at the first hidden block of a row tile. -/
theorem cond1_pos : ∀ t : Fin grid0.N, t.val % 8 = 0 → k0_cond1 (grid0.coords t) = 1#1 := by decide +kernel
/-- The first branch is taken at no other hidden block. -/
theorem cond1_neg : ∀ t : Fin grid0.N, t.val % 8 ≠ 0 → k0_cond1 (grid0.coords t) ≠ 1#1 := by decide +kernel
/-- The second branch is taken at the hidden blocks between the first and the last. -/
theorem cond2_pos : ∀ t : Fin grid0.N, t.val % 8 ≠ 0 → t.val % 8 ≠ 7 → k0_cond2 (grid0.coords t) = 1#1 := by decide +kernel
/-- The second branch is not taken at the first hidden block. -/
theorem cond2_first : ∀ t : Fin grid0.N, t.val % 8 = 0 → k0_cond2 (grid0.coords t) ≠ 1#1 := by decide +kernel
/-- The second branch is not taken at the last hidden block. -/
theorem cond2_last : ∀ t : Fin grid0.N, t.val % 8 = 7 → k0_cond2 (grid0.coords t) ≠ 1#1 := by decide +kernel
/-- The third branch is taken at the last hidden block of a row tile. -/
theorem cond3_pos : ∀ t : Fin grid0.N, t.val % 8 = 7 → k0_cond3 (grid0.coords t) = 1#1 := by decide +kernel
/-- The third branch is taken at no other hidden block. -/
theorem cond3_neg : ∀ t : Fin grid0.N, t.val % 8 ≠ 7 → k0_cond3 (grid0.coords t) ≠ 1#1 := by decide +kernel

/-- Row tile `b`'s first residual row. -/
def tileOff (b : ℕ) : Fin 2 → ℕ := ![1024 * (b % 16), 0]

/-- A row tile lies inside the residual rows. -/
theorem tileOff_inb (b : ℕ) : ∀ a, tileOff b a + S1024x2048.size a ≤ S16384x2048.size a := fun a =>
  match a with
  | 0 => show 1024 * (b % 16) + 1024 ≤ 16384 by omega
  | 1 => show 0 + 2048 ≤ 2048 by omega

/-- The copy that the first branch starts reads the row tile's rows. -/
theorem off1_tile : ∀ t : Fin grid0.N, k0_off1 (grid0.coords t) = tileOff (t.val / 8) := by decide +kernel
/-- The copy that the third branch waits for reads the row tile's rows. -/
theorem off2_tile : ∀ t : Fin grid0.N, k0_off2 (grid0.coords t) = tileOff (t.val / 8) := by decide +kernel

/-- A transfer in flight, its offset spelt otherwise. -/
theorem flight_congr (c : Dev nD) {off off' : Fin 2 → ℕ} (e : off = off') (h : ∀ a, off a + S1024x2048.size a ≤ S16384x2048.size a)
    (h' : ∀ a, off' a + S1024x2048.size a ≤ S16384x2048.size a) (fx : Buf (Elt F) (xM.view.loc (c : Thread nD τ)))
    (fs : Buf (Elt F) (sM.view.loc (c : Thread nD τ))) : (flight c off h fx fs : sProp 𝕄) ⊢ flight c off' h' fx fs := by
  subst e; exact .rfl

/-- A row tile held, its offset spelt otherwise. -/
theorem held_congr (c : Dev nD) {off off' : Fin 2 → ℕ} (e : off = off') (h : ∀ a, off a + S1024x2048.size a ≤ S16384x2048.size a)
    (h' : ∀ a, off' a + S1024x2048.size a ≤ S16384x2048.size a) (fx : Buf (Elt F) (xM.view.loc (c : Thread nD τ))) :
    (heldOwn c (srcAt off h) fx : sProp 𝕄) ⊢ heldOwn c (srcAt off' h') fx := by
  subst e; exact .rfl

/-! ## What the body leaves in the output block -/

section Leaves

variable (c : Dev nD) (i : grid0.Coords) (arg2 : Memref sig .tc .vmem S1024x2048 .bf16) (harg2 : arg2.IsWhole) (arg3 : Memref sig .tc .vmem S1x2048x1024 .bf16) (harg3 : arg3.IsWhole)
  (arg4 : Memref sig .tc .vmem S1x1024x2048 .bf16) (harg4 : arg4.IsWhole) (arg6 : Memref sig .tc .vmem S1x1x1x2048 .f32) (harg6 : arg6.IsWhole) (arg7 : Memref sig .tc .vmem S1024x2048 .f32) (harg7 : arg7.IsWhole)
  (x0 : Vec F S1024x2048 .bf16) (x1 : Vec F S1x2048x1024 .bf16) (x2 : Vec F S1x1024x2048 .bf16) (x3 : Vec F S1x1x1x2048 .f32)

/-- The first branch's writes cover the output block. -/
theorem coverFirst (hc1 : k0_cond1 i = 1#1) (hc2 : k0_cond2 i ≠ 1#1) (hc3 : k0_cond3 i ≠ 1#1) (y : S1024x2048.Idx) :
    ∃ pc ∈ (runFirst c i arg2 harg2 arg3 harg3 arg4 harg4 arg6 harg6 arg7 harg7 x0 x1 x2 x3 hc1 hc2 hc3).1, y ∈ pc.1.set :=
  View.cover_of_tiledL (runFirst c i arg2 harg2 arg3 harg3 arg4 harg4 arg6 harg6 arg7 harg7 x0 x1 x2 x3 hc1 hc2 hc3).1 S1024x512.size (by sl_kernel_rfl) y

/-- The second branch's writes cover the output block. -/
theorem coverMid (x4 : Vec F S1024x2048 .f32) (hc1 : k0_cond1 i ≠ 1#1) (hc2 : k0_cond2 i = 1#1) (hc3 : k0_cond3 i ≠ 1#1) (y : S1024x2048.Idx) :
    ∃ pc ∈ (runMid c i arg2 harg2 arg3 harg3 arg4 harg4 arg6 harg6 arg7 harg7 x0 x1 x2 x3 x4 hc1 hc2 hc3).1, y ∈ pc.1.set :=
  View.cover_of_tiledL (runMid c i arg2 harg2 arg3 harg3 arg4 harg4 arg6 harg6 arg7 harg7 x0 x1 x2 x3 x4 hc1 hc2 hc3).1 S1024x512.size (by sl_kernel_rfl) y

/-- The third branch's writes cover the output block. -/
theorem coverLast (x4 : Vec F S1024x2048 .f32) (hc1 : k0_cond1 i ≠ 1#1) (hc2 : k0_cond2 i ≠ 1#1) (hc3 : k0_cond3 i = 1#1)
    (fx : Buf (Elt F) (xM.view.loc (c : Thread nD τ))) (y : S1024x2048.Idx) :
    ∃ pc ∈ (runLast c i arg2 harg2 arg3 harg3 arg4 harg4 arg6 harg6 arg7 harg7 x0 x1 x2 x3 x4 hc1 hc2 hc3 fx).1, y ∈ pc.1.set :=
  View.cover_of_tiledL (runLast c i arg2 harg2 arg3 harg3 arg4 harg4 arg6 harg6 arg7 harg7 x0 x1 x2 x3 x4 hc1 hc2 hc3 fx).1 S1024x512.size (by sl_kernel_rfl) y

end Leaves

/-- The view an output block's contents are read through. -/
abbrev VO : View sig .tc .vmem S1024x2048 .f32 := (Memref.whole cc0_stg4_0 : Memref sig .tc .vmem S1024x2048 .f32).view

/-- A list of written pieces, read back. -/
def readBack (L : List (View.Piece (Elt F) S1024x2048 .f32)) : Vec F S1024x2048 .f32 :=
  VO.read (Elt F) (VO.writes (Elt F) VO.junk L)

/-- The staging buffer of the rows is a whole buffer. -/
abbrev hs0 (t : Fin cfg0.N) : (st0_0 t).IsWhole := hstage0_0 ((cfg0.slots t 0).cast nbuf0_0)
/-- The staging buffer of the first weights is a whole buffer. -/
abbrev hs1 (t : Fin cfg0.N) : (st0_1 t).IsWhole := hstage0_1 ((cfg0.slots t 1).cast nbuf0_1)
/-- The staging buffer of the second weights is a whole buffer. -/
abbrev hs2 (t : Fin cfg0.N) : (st0_2 t).IsWhole := hstage0_2 ((cfg0.slots t 2).cast nbuf0_2)
/-- The staging buffer of the gates is a whole buffer. -/
abbrev hs3 (t : Fin cfg0.N) : (st0_3 t).IsWhole := hstage0_3 ((cfg0.slots t 3).cast nbuf0_3)
/-- The staging buffer of the output is a whole buffer. -/
abbrev hs4 (t : Fin cfg0.N) : (st0_4 t).IsWhole := hstage0_4 ((cfg0.slots t 4).cast nbuf0_4)

/-- What the output block holds after the body at point `t`, from what it held before. -/
def stepAt (c : Dev nD) (t : Fin cfg0.N) (prev : Vec F S1024x2048 .f32) : Vec F S1024x2048 .f32 :=
  if h0 : t.val % 8 = 0 then
    readBack (runFirst c (grid0.coords t) (st0_0 t) (hs0 t) (st0_1 t) (hs1 t) (st0_2 t) (hs2 t) (st0_3 t) (hs3 t) (st0_4 t) (hs4 t)
      (iblk m c 0 t) (iblk m c 1 t) (iblk m c 2 t) (iblk m c 3 t) (cond1_pos t h0) (cond2_first t h0) (cond3_neg t (by omega))).1
  else if h7 : t.val % 8 = 7 then
    readBack (runLast c (grid0.coords t) (st0_0 t) (hs0 t) (st0_1 t) (hs1 t) (st0_2 t) (hs2 t) (st0_3 t) (hs3 t) (st0_4 t) (hs4 t)
      (iblk m c 0 t) (iblk m c 1 t) (iblk m c 2 t) (iblk m c 3 t) prev (cond1_neg t h0) (cond2_last t h7) (cond3_pos t h7) (V m c main_arg1)).1
  else
    readBack (runMid c (grid0.coords t) (st0_0 t) (hs0 t) (st0_1 t) (hs1 t) (st0_2 t) (hs2 t) (st0_3 t) (hs3 t) (st0_4 t) (hs4 t)
      (iblk m c 0 t) (iblk m c 1 t) (iblk m c 2 t) (iblk m c 3 t) prev (cond1_neg t h0) (cond2_pos t h0 h7) (cond3_neg t h7)).1

/-- What the output block holds after point `n`. -/
def accAt (c : Dev nD) : ℕ → Vec F S1024x2048 .f32
  | 0 => stepAt m c ⟨0, by decide⟩ (readBack [])
  | n + 1 => if h : n + 1 < cfg0.N then stepAt m c ⟨n + 1, h⟩ (accAt c n) else accAt c n

/-- After the first grid point, the output block is one step from what the point before left. -/
theorem accAt_pos (c : Dev nD) (t : Fin cfg0.N) (h : t.val ≠ 0) : accAt m c t.val = stepAt m c t (accAt m c (t.val - 1)) := by
  obtain ⟨n, hn⟩ := t
  cases n with
  | zero => exact absurd rfl h
  | succ n => exact dif_pos hn

/-- At the first hidden block of a row tile, the step does not depend on what the point before left. -/
theorem accAt_first (c : Dev nD) (t : Fin cfg0.N) (h : t.val % 8 = 0) (prev : Vec F S1024x2048 .f32) : accAt m c t.val = stepAt m c t prev := by
  have e : ∀ p, stepAt m c t p = stepAt m c t prev := fun p => by unfold stepAt; rw [dif_pos h, dif_pos h]
  by_cases h0 : t.val = 0
  · obtain ⟨n, hn⟩ := t
    obtain rfl : n = 0 := h0
    exact e _
  · rw [accAt_pos m c t h0]; exact e _

/-! ## The pipeline's proof data -/

/-- What is held between the points: between a row tile's first hidden tile and its last, that tile's transfer in flight
    and the other residual rows; elsewhere the residual rows, the buffer they go to and the semaphore at zero. -/
def between (c : Dev nD) (n : ℕ) : sProp 𝕄 :=
  if n % 8 = 0 then
    iprop((((c : Thread nD τ).loc main_arg1) ↦{fullShare} V m c main_arg1)
      ∗ (∃ f : Buf (Elt F) ((c : Thread nD τ).loc cc0_scratch0), ((c : Thread nD τ).loc cc0_scratch0) ↦{fullShare} f) ∗ cell0 c)
  else
    iprop((∃ fs, flight c (tileOff (n / 8)) (tileOff_inb (n / 8)) (V m c main_arg1) fs)
      ∗ (((c : Thread nD τ).loc main_arg1) ↦[Finset.univ \ (srcAt (tileOff (n / 8)) (tileOff_inb (n / 8))).view.set]{fullShare} V m c main_arg1))

/-- The data of the launch: what each window holds before and after each grid point, and what is carried between points. -/
def dats (_ : Fin 1) (c : Dev nD) : Dat τ (Elt F) Unit ℕ (Pipeline.UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val
  Φ p := iprop((∃ r, prngReg c r) ∗ between m c p.val)
  q _ := fullShare
  owed _ := 0

/-- Each window's array is the memory's at the launch. -/
theorem A_eq (c : Dev nD) (w : Fin cfg0.W) : (dats m 0 c).A w = V m c (Pipeline.arrRef spec0 w) := by
  dsimp only [dats]

/-- The body leaves the rows' block as it was. -/
theorem after_0 (c : Dev nD) (t : Fin cfg0.N) : (dats m 0 c).after 0 t = iblk m c 0 t := by dsimp only [dats]
/-- The body leaves the first weights' block as it was. -/
theorem after_1 (c : Dev nD) (t : Fin cfg0.N) : (dats m 0 c).after 1 t = iblk m c 1 t := by dsimp only [dats]
/-- The body leaves the second weights' block as it was. -/
theorem after_2 (c : Dev nD) (t : Fin cfg0.N) : (dats m 0 c).after 2 t = iblk m c 2 t := by dsimp only [dats]
/-- The body leaves the gates' block as it was. -/
theorem after_3 (c : Dev nD) (t : Fin cfg0.N) : (dats m 0 c).after 3 t = iblk m c 3 t := by dsimp only [dats]
/-- The body leaves the accumulated block in the output window. -/
theorem after_4 (c : Dev nD) (t : Fin cfg0.N) : (dats m 0 c).after 4 t = accAt m c t.val := by dsimp only [dats]

/-- The body finds the rows' block. -/
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- The body finds the first weights' block. -/
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- The body finds the second weights' block. -/
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- The body finds the gates' block. -/
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- The output block is written at every point. -/
theorem live4 : ∀ i : grid0.Coords, idle0 4 i = false := by decide +kernel

/-- After a row tile's first hidden tile the body finds the output block as it left it. -/
theorem before_4 (c : Dev nD) (t : Fin cfg0.N) (h : t.val % 8 ≠ 0) (d) : (dats m 0 c).before 4 t d = accAt m c (t.val - 1) := by
  have ht : t.val ≠ 0 := fun e => h (by rw [e])
  rw [(dats m 0 c).before_out_kept 4 rfl t ht (Bool.eq_false_iff.mpr fun e => absurd ((flush0_4 _).mp e) (by dsimp only; omega)) live4 (fun _ _ => rfl) d]
  exact after_4 m c _

/-! ## The body obligation -/

/-- What the body has at a grid point before it runs. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What the body leaves at a grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The invariant at a row tile's first point. -/
theorem between_idle (c : Dev nD) (n : ℕ) (h : n % 8 = 0) :
    between m c n = iprop((((c : Thread nD τ).loc main_arg1) ↦{fullShare} V m c main_arg1)
      ∗ (∃ f : Buf (Elt F) ((c : Thread nD τ).loc cc0_scratch0), ((c : Thread nD τ).loc cc0_scratch0) ↦{fullShare} f) ∗ cell0 c) := if_pos h

/-- The invariant while row tile `b`'s transfer flies. -/
theorem between_fly (c : Dev nD) (n b : ℕ) (h : n % 8 ≠ 0) (hb : n / 8 = b) :
    between m c n = iprop((∃ fs, flight c (tileOff b) (tileOff_inb b) (V m c main_arg1) fs)
      ∗ (((c : Thread nD τ).loc main_arg1) ↦[Finset.univ \ (srcAt (tileOff b) (tileOff_inb b)).view.set]{fullShare} V m c main_arg1)) := by
  subst hb; exact if_neg h

/-- The residual rows are a row tile's and the others'. -/
theorem rows_split (c : Dev nD) (b : ℕ) (fx : Buf (Elt F) (xM.view.loc (c : Thread nD τ))) :
    (((c : Thread nD τ).loc main_arg1) ↦{fullShare} fx : sProp 𝕄) ⊣⊢ iprop(heldOwn c (srcAt (tileOff b) (tileOff_inb b)) fx
      ∗ (((c : Thread nD τ).loc main_arg1) ↦[Finset.univ \ (srcAt (tileOff b) (tileOff_inb b)).view.set]{fullShare} fx)) :=
  pointsTo_split_subset (Finset.subset_univ _)

/-- The buffer for the residual rows, whole. -/
theorem scratch_whole (c : Dev nD) (f : Buf (Elt F) (sM.view.loc (c : Thread nD τ))) :
    (heldOwn c sM f : sProp 𝕄) = (((c : Thread nD τ).loc cc0_scratch0) ↦{fullShare} f) := by
  unfold heldOwn
  rw [show sM.view.set = Finset.univ from View.set_whole _]

/-- The body at a row tile's first hidden tile. -/
theorem sound_first (c : Dev nD) (t : Fin cfg0.N) (h0 : t.val % 8 = 0) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [after_0, after_1, after_2, after_3, after_4, accAt_first m c t h0 (readBack [])]
  rw [show (dats m 0 c).Φ t.castSucc = iprop((∃ r, prngReg c r) ∗ between m c t.val) from rfl,
    show (dats m 0 c).Φ t.succ = iprop((∃ r, prngReg c r) ∗ between m c (t.val + 1)) from rfl,
    between_idle m c _ h0, between_fly m c (t.val + 1) (t.val / 8) (by omega) (by omega)]
  unfold Dat.owesAt Pipeline.owesWithin
  rw [show (dats m 0 c).owed t.castSucc = 0 from rfl, show (dats m 0 c).owed t.succ = 0 from rfl]
  unfold stepAt; rw [dif_pos h0]
  iintro ⟨⟨Hg, ⟨Hx, ⟨%fs, Hs⟩, Hd⟩⟩, ⟨%W, -, HW⟩, ⟨%d0, H0⟩, ⟨%d1, H1⟩, ⟨%d2, H2⟩, ⟨%d3, H3⟩, ⟨%d4, H4⟩⟩
  ihave Hx := (rows_split c (t.val / 8) (V m c main_arg1)).1 $$ Hx
  icases Hx with ⟨Hx, Hr⟩
  iapply ((runFirst c (grid0.coords t) (st0_0 t) (hs0 t) (st0_1 t) (hs1 t) (st0_2 t) (hs2 t) (st0_3 t) (hs3 t) (st0_4 t) (hs4 t)
      (iblk m c 0 t) (iblk m c 1 t) (iblk m c 2 t) (iblk m c 3 t) (cond1_pos t h0) (cond2_first t h0) (cond3_neg t (by omega))).2 (V m c main_arg1) fs W _)
  isplitl [H0 H1 H2 H3]
  · unfold ins
    isplitl [H0]; · iexact H0
    isplitl [H1]; · iexact H1
    isplitl [H2]; · iexact H2
    iexact H3
  isplitl [H4]; · iexists _; iexact H4
  isplitl [Hx]; · iapply (held_congr c (off1_tile t).symm (tileOff_inb _) _ _); iexact Hx
  isplitl [Hs]; · rw [scratch_whole]; iexact Hs
  isplitl [Hd]; · iexact Hd
  isplitl [HW]; · iexact HW
  unfold ins
  iintro ⟨⟨H0, H1, H2, H3⟩, ⟨%e4, H4⟩, HF, ⟨%W', HW'⟩⟩
  isplitl [Hg Hr HF]
  · isplitl [Hg]; · iexact Hg
    isplitl [HF]; · iexists _; iapply (flight_congr c (off1_tile t) _ (tileOff_inb _) _ _); iexact HF
    iexact Hr
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverFirst c _ _ _ _ _ _ _ _ _ _ _ _ _ _ _ _ _ _)

/-- The body at a hidden tile between a row tile's first and last. -/
theorem sound_mid (c : Dev nD) (t : Fin cfg0.N) (h0 : t.val % 8 ≠ 0) (h7 : t.val % 8 ≠ 7) :
    bodyPre m c t ⊢ wp frame (wpE (defs₀ (F := F)) Variants.none c none) Set.univ (bodyAt0 t) (fun _ => bodyPost m c t) := by
  unfold bodyPre bodyPost bodyAt0
  simp only [before_0, before_1, before_2, before_3, before_4 m c t h0]
  rw [after_0, after_1, after_2, after_3, after_4, accAt_pos m c t (fun e => h0 (by rw [e]))]
  rw [show (dats m 0 c).Φ t.castSucc = iprop((∃ r, prngReg c r) ∗ between m c t.val) from rfl,
    show (dats m 0 c).Φ t.succ = iprop((∃ r, prngReg c r) ∗ between m c (t.val + 1)) from rfl,
    between_fly m c t.val (t.val / 8) h0 rfl, between_fly m c (t.val + 1) (t.val / 8) (by omega) (by omega)]
  unfold Dat.owesAt Pipeline.owesWithin
  rw [show (dats m 0 c).owed t.castSucc = 0 from rfl, show (dats m 0 c).owed t.succ = 0 from rfl]
  unfold stepAt; rw [dif_neg h0, dif_neg h7]
  iintro ⟨HΦ, ⟨%W, -, HW⟩, ⟨%d0, H0⟩, ⟨%d1, H1⟩, ⟨%d2, H2⟩, ⟨%d3, H3⟩, ⟨%d4, H4⟩⟩
  iapply ((runMid c (grid0.coords t) (st0_0 t) (hs0 t) (st0_1 t) (hs1 t) (st0_2 t) (hs2 t) (st0_3 t) (hs3 t) (st0_4 t) (hs4 t)
      (iblk m c 0 t) (iblk m c 1 t) (iblk m c 2 t) (iblk m c 3 t) (accAt m c (t.val - 1)) (cond1_neg t h0) (cond2_pos t h0 h7) (cond3_neg t h7)).2 W _)
  isplitl [H0 H1 H2 H3]
  · unfold ins
    isplitl [H0]; · iexact H0
    isplitl [H1]; · iexact H1
    isplitl [H2]; · iexact H2
    iexact H3
  isplitl [H4]; · iexact H4
  isplitl [HW]; · iexact HW
  unfold ins
  iintro ⟨⟨H0, H1, H2, H3⟩, ⟨%e4, H4⟩, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverMid c _ _ _ _ _ _ _ _ _ _ _ _ _ _ _ _ _ _ _)

/-- The body at a row tile's last hidden tile. -/
theorem sound_last (c : Dev nD) (t : Fin cfg0.N) (h7 : t.val % 8 = 7) :
    bodyPre m c t ⊢ wp frame (wpE (defs₀ (F := F)) Variants.none c none) Set.univ (bodyAt0 t) (fun _ => bodyPost m c t) := by
  have h0 : t.val % 8 ≠ 0 := by omega
  unfold bodyPre bodyPost bodyAt0
  simp only [before_0, before_1, before_2, before_3, before_4 m c t h0]
  rw [after_0, after_1, after_2, after_3, after_4, accAt_pos m c t (fun e => h0 (by rw [e]))]
  rw [show (dats m 0 c).Φ t.castSucc = iprop((∃ r, prngReg c r) ∗ between m c t.val) from rfl,
    show (dats m 0 c).Φ t.succ = iprop((∃ r, prngReg c r) ∗ between m c (t.val + 1)) from rfl,
    between_fly m c t.val (t.val / 8) h0 rfl, between_idle m c (t.val + 1) (by omega)]
  unfold Dat.owesAt Pipeline.owesWithin
  rw [show (dats m 0 c).owed t.castSucc = 0 from rfl, show (dats m 0 c).owed t.succ = 0 from rfl]
  unfold stepAt; rw [dif_neg h0, dif_pos h7]
  iintro ⟨⟨Hg, ⟨%fs, HF⟩, Hr⟩, ⟨%W, -, HW⟩, ⟨%d0, H0⟩, ⟨%d1, H1⟩, ⟨%d2, H2⟩, ⟨%d3, H3⟩, ⟨%d4, H4⟩⟩
  iapply ((runLast c (grid0.coords t) (st0_0 t) (hs0 t) (st0_1 t) (hs1 t) (st0_2 t) (hs2 t) (st0_3 t) (hs3 t) (st0_4 t) (hs4 t)
      (iblk m c 0 t) (iblk m c 1 t) (iblk m c 2 t) (iblk m c 3 t) (accAt m c (t.val - 1)) (cond1_neg t h0) (cond2_last t h7) (cond3_pos t h7) (V m c main_arg1)).2 fs W _)
  isplitl [H0 H1 H2 H3]
  · unfold ins
    isplitl [H0]; · iexact H0
    isplitl [H1]; · iexact H1
    isplitl [H2]; · iexact H2
    iexact H3
  isplitl [H4]; · iexact H4
  isplitl [HF]; · iapply (flight_congr c (off2_tile t).symm (tileOff_inb _) _ _ _); iexact HF
  isplitl [HW]; · iexact HW
  unfold ins
  iintro ⟨⟨H0, H1, H2, H3⟩, ⟨%e4, H4⟩, Hx, ⟨%f, Hs⟩, Hd, ⟨%W', HW'⟩⟩
  isplitl [Hg Hr Hx Hs Hd]
  · isplitl [Hg]; · iexact Hg
    isplitl [Hx Hr]
    · iapply (rows_split c (t.val / 8) (V m c main_arg1)).2
      isplitl [Hx]; · iapply (held_congr c (off2_tile t) _ (tileOff_inb _) _); iexact Hx
      iexact Hr
    isplitl [Hs]; · iexists f; rw [← scratch_whole]; iexact Hs
    iexact Hd
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverLast c _ _ _ _ _ _ _ _ _ _ _ _ _ _ _ _ _ _ _ _)

/-- At every grid point the body takes what it has before to what it leaves. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h7 : t.val % 8 = 7
    · exact sound_last m c t h7
    · exact sound_mid m c t h0 h7

/-- The body's definition at a grid point. -/
theorem defs₀_row (t : Fin cfg0.N) :
    defs₀ (F := F) .tc cfg0.body (cfg0.bodyArgs t (cfg0.slots t)) = bodyAt0 t := by
  unfold defs₀; rw [Defs.onTc_tc]

/-- The body meets the obligation of the pipeline at every grid point. -/
theorem body_obligation (c : Dev nD) : BodyObligation (dats (F := F) m 0 c) (defs₀ (F := F)) Variants.none () Set.univ := fun t => by
  rw [bigSep_W0, bigSep_W0, defs₀_row, show cfg0.idle 4 (cfg0.grid.coords t) = false from live4 _]
  exact triple_restated (sound_body m c t) rfl .rfl fun _ => .rfl

/-! ## The run -/

/-- The kernel's transfer semaphore. -/
abbrev osem0 : Fin 1 → SemLoc sig := fun j => (![SemLoc.dma 10] : Fin 1 → SemLoc sig) j
/-- The copy's counter is apart from the pipeline's counters. -/
theorem ownSemFacts0 : Pipeline.OwnSemFacts spec0 osem0 := by decide
/-- The counters that the launch owns beside the pipeline: the one of the copy. -/
theorem ownSems00_eq (c : Dev nD) :
    (Pipeline.ownSems0 (Ix := Unit) (Name := ℕ) (U := Pipeline.UC sig nD τ) (Lvl := ℕ) (Val := Elt F) (τ := τ) osem0 c : sProp 𝕄) = cell0 c := by
  rw [Pipeline.ownSems0_eq_of_list c osem0 [0] (by decide) (by decide)]; rfl

/-- What the launch gives and takes back is the invariant at a row tile's first point. -/
theorem ends_eq (c : Dev nD) (n : ℕ) (h : n % 8 = 0) :
    (Pipeline.Ends spec0 osem0 {main_arg1} c (V m c) : sProp 𝕄) ⊣⊢ iprop((∃ r, prngReg c r) ∗ between m c n) := by
  unfold Pipeline.Ends
  rw [Pipeline.routed_singleton, scopedRest0_eq, ownSems00_eq, between_idle m c n h]
  constructor
  · iintro ⟨Hx, Hd, Hs, Hg⟩
    isplitl [Hg]; · iexact Hg
    isplitl [Hx]; · iexact Hx
    isplitl [Hs]; · iexact Hs
    iexact Hd
  · iintro ⟨Hg, Hx, Hs, Hd⟩
    isplitl [Hx]; · iexact Hx
    isplitl [Hd]; · iexact Hd
    isplitl [Hs]; · iexact Hs
    iexact Hg

/-- @main up to its one region, at this algebra. -/
theorem hmain (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole launch: every array at what the library computes from the proof data, the residual rows as they were, every
    counter at zero. -/
theorem run_main : θ_run defs (onTc (τ := τ) (main (F := F))) (s₀ m ρ)
    (fun r => Pipeline.RoutedPost cfgs (dats m) 0 {main_arg1} (V m) (V m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m Variants.none) (hA := A_eq m) (R := {main_arg1}) (hR := by decide) (Y := V m)
    (hin := fun c => (ends_eq m c 0 rfl).1) (hout := fun c => (ends_eq m c 128 rfl).2)

/-- The argument arrays end as launched, and the result array holds the blocks written back. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v2) = (dats m 0 c).arrAt 4 cfg0.N)
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).2.1 main_arg1 (Finset.mem_singleton_self _)).trans (V_main_arg1 m c),
      ((h.1 c).1 3).trans (((dats m 0 c).arrAt_in 3 rfl _).trans ((A_eq m c 3).trans (V_main_arg2 m c))),
      ((h.1 c).2.2 main_arg3 (Finset.mem_sdiff.mpr ⟨Pipeline.mem_restRefs_of main_arg3 (by decide) (by decide), by decide⟩)).trans (V_main_arg3 m c),
      ((h.1 c).2.2 main_arg4 (Finset.mem_sdiff.mpr ⟨Pipeline.mem_restRefs_of main_arg4 (by decide) (by decide), by decide⟩)).trans (V_main_arg4 m c),
      (h.1 c).1 4⟩, h.2⟩) (run_main m ρ)

end Cert.MlpRun
end
-- ==== Proof.MlpStep.lean ====
module
public import proofs.«01_k».proof.Proof.MlpFrame
public import Idealize.ShloMosaic.Lib.Pipeline.ValueKit
public import Idealize.ShloMosaic.Lib.Pipeline.ReadBack

/-! What the MLP kernel's body leaves in the output block, entry by entry: the hidden tile's sums, added to those before,
    and at the last hidden tile the gated total added to the residual. -/

@[expose] public section
set_option maxRecDepth 16384
noncomputable section
namespace Cert.MlpRun
open Cert.MlpIdeal Cert.MlpIdeal.Gen
open Idealize.ShloMosaic Idealize.ShloMosaic.TcCoe Idealize.ShloMosaic.Tactic
open Idealize.SL Idealize.SL.Sem

/-- A hidden unit at a row: the row times the unit's column, clipped below at zero and squared. -/
def unit (x0 : FVec Ideal S1024x2048 .bf16) (x1 : FVec Ideal S1x2048x1024 .bf16) (i : Fin 1024) (k : Fin 1024) : EReal :=
  max (∑ d : Fin 2048, x0 (ix2 i d) * x1 (ix3 0 d k)) 0 * max (∑ d : Fin 2048, x0 (ix2 i d) * x1 (ix3 0 d k)) 0

/-- A hidden tile's part of the output. -/
def tileSum (x0 : FVec Ideal S1024x2048 .bf16) (x1 : FVec Ideal S1x2048x1024 .bf16) (x2 : FVec Ideal S1x1024x2048 .bf16)
    (i : Fin 1024) (j : Fin 2048) : EReal :=
  ∑ k : Fin 1024, unit x0 x1 i k * x2 (ix3 0 k j)

/-- The body takes a hidden tile's units in two halves. -/
theorem halves (x0 : FVec Ideal S1024x2048 .bf16) (x1 : FVec Ideal S1x2048x1024 .bf16) (x2 : FVec Ideal S1x1024x2048 .bf16)
    (a a' : Fin 1024) (b b' : Fin 2048) (ha : a' = a) (hb : b' = b) :
    (∑ k : Fin 512, max (∑ d : Fin 2048, x0 (ix2 a' d) * x1 (ix3 0 d ⟨k.val, by omega⟩)) 0
        * max (∑ d : Fin 2048, x0 (ix2 a' d) * x1 (ix3 0 d ⟨k.val, by omega⟩)) 0 * x2 (ix3 0 ⟨k.val, by omega⟩ b'))
      + (∑ k : Fin 512, max (∑ d : Fin 2048, x0 (ix2 a' d) * x1 (ix3 0 d ⟨512 + k.val, by omega⟩)) 0
        * max (∑ d : Fin 2048, x0 (ix2 a' d) * x1 (ix3 0 d ⟨512 + k.val, by omega⟩)) 0 * x2 (ix3 0 ⟨512 + k.val, by omega⟩ b'))
      = tileSum x0 x1 x2 a b := by
  subst ha hb
  exact (Fin.sum_univ_add (a := 512) (b := 512) (fun k : Fin 1024 => unit x0 x1 a' k * x2 (ix3 0 k b'))).symm

/-- A load of the residual rows' buffer, after their transfer, reads the array at the tile's place. -/
theorem rows_read (c : Dev nD) (off : Fin 2 → ℕ) (h : ∀ a, off a + S1024x2048.size a ≤ S16384x2048.size a) (fx : FVec Ideal S16384x2048 .f32)
    (o : ℕ) (inb : ∀ a, ![0, o] a + S1024x512.size a ≤ S1024x2048.size a) (x : S1024x512.Idx) (R : Fin 16384) (C : Fin 2048)
    (hR : R.val = off 0 + (x 0 : ℕ)) (hC : C.val = off 1 + o + (x 1 : ℕ)) :
    (View.whole cc0_scratch0).readCov [⟨Rect.whole S1024x2048, rowsAt (F := Ideal) c off h fx⟩]
        (Rect.unit (s := S1024x2048) ![0, o] S1024x512.size inb).toLoadRect x = fx (ix2 R C) := by
  have e := View.readCov_fill (Val := Elt Ideal) (View.whole cc0_scratch0) (off := fun _ => 0) (fun a => by simp) (rowsAt (F := Ideal) c off h fx) []
    (Rect.unit (s := S1024x2048) ![0, o] S1024x512.size inb) (fun _ => rfl)
  refine (congrFun e x).trans ?_
  clear e
  show fx _ = fx _
  refine congrArg fx ?_
  funext a
  fin_cases a
  · refine Fin.ext ?_
    show off 0 + 1 * (0 + 1 * (x 0 : ℕ)) = R.val
    omega
  · refine Fin.ext ?_
    show off 1 + 1 * (o + 1 * (x 1 : ℕ)) = C.val
    omega

section Step

variable (c : Dev nD) (i : grid0.Coords) (arg2 : Memref sig .tc .vmem S1024x2048 .bf16) (harg2 : arg2.IsWhole) (arg3 : Memref sig .tc .vmem S1x2048x1024 .bf16) (harg3 : arg3.IsWhole)
  (arg4 : Memref sig .tc .vmem S1x1024x2048 .bf16) (harg4 : arg4.IsWhole) (arg6 : Memref sig .tc .vmem S1x1x1x2048 .f32) (harg6 : arg6.IsWhole) (arg7 : Memref sig .tc .vmem S1024x2048 .f32) (harg7 : arg7.IsWhole)
  (x0 : FVec Ideal S1024x2048 .bf16) (x1 : FVec Ideal S1x2048x1024 .bf16) (x2 : FVec Ideal S1x1024x2048 .bf16) (x3 : FVec Ideal S1x1x1x2048 .f32) (x4 : FVec Ideal S1024x2048 .f32)

/-- After a row tile's first hidden tile the block holds its sums. -/
theorem first_at (hc1 hc2 hc3) (y : S1024x2048.Idx) (a : Fin 1024) (b : Fin 2048) (ha : (y 0 : ℕ) = a.val) (hb : (y 1 : ℕ) = b.val) :
    readBack (runFirst (F := Ideal) c i arg2 harg2 arg3 harg3 arg4 harg4 arg6 harg6 arg7 harg7 x0 x1 x2 x3 hc1 hc2 hc3).1 y = tileSum x0 x1 x2 a b := by
  unfold readBack
  frame_out
  canon_tiles x h
  all_goals
    pointwise [k0_pay1, k0_pay2, k0_pay7, k0_pay8, k0_pay6]
    exact halves x0 x1 x2 a _ b _ (Fin.ext (by omega)) (Fin.ext (by dsimp only; omega))

/-- A hidden tile between adds its sums. -/
theorem mid_at (hc1 hc2 hc3) (y : S1024x2048.Idx) (a : Fin 1024) (b : Fin 2048) (ha : (y 0 : ℕ) = a.val) (hb : (y 1 : ℕ) = b.val) :
    readBack (runMid (F := Ideal) c i arg2 harg2 arg3 harg3 arg4 harg4 arg6 harg6 arg7 harg7 x0 x1 x2 x3 x4 hc1 hc2 hc3).1 y
      = x4 (ix2 a b) + tileSum x0 x1 x2 a b := by
  unfold readBack
  frame_out
  canon_tiles x h
  all_goals
    pointwise [k0_pay3, k0_pay4, k0_pay9, k0_pay10, k0_pay11]
    exact congrArg₂ (· + ·) (congrArg₂ (fun p q => x4 (ix2 p q)) (Fin.ext (by omega)) (Fin.ext (by dsimp only; omega)))
      (halves x0 x1 x2 a _ b _ (Fin.ext (by omega)) (Fin.ext (by dsimp only; omega)))

/-- The last adds its sums, gates the total and adds it to the residual rows. -/
theorem last_at (hc1 hc2 hc3) (fx : FVec Ideal S16384x2048 .f32) (y : S1024x2048.Idx) (a : Fin 1024) (b : Fin 2048) (ha : (y 0 : ℕ) = a.val) (hb : (y 1 : ℕ) = b.val)
    (R : Fin 16384) (hR : R.val = k0_off2 i 0 + a.val) (h1' : k0_off2 i 1 = 0) :
    readBack (runLast (F := Ideal) c i arg2 harg2 arg3 harg3 arg4 harg4 arg6 harg6 arg7 harg7 x0 x1 x2 x3 x4 hc1 hc2 hc3 fx).1 y
      = fx (ix2 R b)
        + x3 (ix4 0 0 0 b) * (x4 (ix2 a b) + tileSum x0 x1 x2 a b) := by
  unfold readBack
  frame_out
  canon_tiles x h
  all_goals
    pointwise [k0_pay5, k0_pay13, k0_pay14, k0_pay15, k0_pay16, k0_pay12]
    refine congrArg₂ (· + ·) ?_ (congrArg₂ (· * ·) (congrArg (fun q => x3 (ix4 0 0 0 q)) (Fin.ext (by dsimp only; omega)))
      (congrArg₂ (· + ·) (congrArg₂ (fun p q => x4 (ix2 p q)) (Fin.ext (by omega)) (Fin.ext (by dsimp only; omega)))
      (halves x0 x1 x2 a _ b _ (Fin.ext (by omega)) (Fin.ext (by dsimp only; omega)))))
    exact rows_read c _ _ fx _ _ _ R b (by omega) (by omega)

end Step

end Cert.MlpRun

end
-- ==== Proof.MlpSpec.lean ====
module

public import Idealize.ShloMosaic.PureOps.Ideal
public import Idealize.ShloMosaic.Lib.Pipeline.ValueKit

/-! The MLP's result by row and column, from the arrays. -/

@[expose] public section

noncomputable section

namespace Cert.MlpSpec

open Idealize.ShloMosaic Idealize.ShloMosaic.TcCoe

/-- A hidden unit at a row: the row times the unit's column of the layer's first weights, clipped below at zero and squared. -/
def unitAt (H : FVec Ideal ⟨2, ![16384, 2048]⟩ .bf16) (W1 : FVec Ideal ⟨3, ![4, 2048, 8192]⟩ .f32) (R : Fin 16384) (n : Fin 8192) : EReal :=
  max (∑ d : Fin 2048, H (ix2 R d) * W1 (ix3 3 d n)) 0 * max (∑ d : Fin 2048, H (ix2 R d) * W1 (ix3 3 d n)) 0

/-- A hidden unit's term of the output at a row and a column. -/
def term (H : FVec Ideal ⟨2, ![16384, 2048]⟩ .bf16) (W1 : FVec Ideal ⟨3, ![4, 2048, 8192]⟩ .f32) (W2 : FVec Ideal ⟨3, ![4, 8192, 2048]⟩ .f32)
    (R : Fin 16384) (C : Fin 2048) (n : ℕ) : EReal :=
  if h : n < 8192 then unitAt H W1 R ⟨n, h⟩ * W2 (ix3 3 ⟨n, h⟩ C) else 0

/-- The result at a row and a column: the residual plus the row's gate times the sum over the hidden units. -/
def mlpAt (H : FVec Ideal ⟨2, ![16384, 2048]⟩ .bf16) (X : FVec Ideal ⟨2, ![16384, 2048]⟩ .f32) (M : FVec Ideal ⟨4, ![4, 8, 1, 12288]⟩ .f32)
    (W1 : FVec Ideal ⟨3, ![4, 2048, 8192]⟩ .f32) (W2 : FVec Ideal ⟨3, ![4, 8192, 2048]⟩ .f32) (R : Fin 16384) (C : Fin 2048) : EReal :=
  X (ix2 R C) + M (ix4 3 ⟨R.val / 4096, by omega⟩ 0 ⟨10240 + C.val, by omega⟩)
    * ∑ n : Fin 8192, unitAt H W1 R n * W2 (ix3 3 n C)

/-- The sum over the hidden units is the sum of the terms. -/
theorem sum_term (H : FVec Ideal ⟨2, ![16384, 2048]⟩ .bf16) (W1 : FVec Ideal ⟨3, ![4, 2048, 8192]⟩ .f32) (W2 : FVec Ideal ⟨3, ![4, 8192, 2048]⟩ .f32)
    (R : Fin 16384) (C : Fin 2048) :
    ∑ n : Fin 8192, unitAt H W1 R n * W2 (ix3 3 n C) = ∑ n ∈ Finset.range 8192, term H W1 W2 R C n := by
  rw [Finset.sum_range]
  refine Finset.sum_congr rfl fun n _ => ?_
  unfold term
  rw [dif_pos n.isLt]

end Cert.MlpSpec

end
-- ==== Proof.MlpFinal.lean ====
module

public import proofs.«01_k».proof.Proof.MlpStep
public import proofs.«01_k».proof.Proof.MlpSpec

/-! The MLP kernel's result array: what the blocks hold, the sum over the hidden tiles, and the array. -/

@[expose] public section

set_option maxRecDepth 16384

noncomputable section

namespace Cert.MlpRun

open Cert.MlpIdeal Cert.MlpIdeal.Gen Cert.MlpSpec
open Idealize.ShloMosaic Idealize.ShloMosaic.TcCoe Idealize.ShloMosaic.Tactic
open Idealize.SL Idealize.SL.Sem

variable (m : (ℓ : Loc nD τ sig) → Buf (Elt Ideal) ℓ)

/-- The MLP's input rows. -/
abbrev hA (c : Dev nD) : FVec Ideal S16384x2048 .bf16 := m ((c : Thread nD τ).loc main_arg0)
/-- The residual rows. -/
abbrev xA (c : Dev nD) : FVec Ideal S16384x2048 .f32 := m ((c : Thread nD τ).loc main_arg1)
/-- The modulations. -/
abbrev mA (c : Dev nD) : FVec Ideal S4x8x1x12288 .f32 := m ((c : Thread nD τ).loc main_arg2)
/-- The first weights. -/
abbrev uA (c : Dev nD) : FVec Ideal S4x2048x8192 .f32 := m ((c : Thread nD τ).loc main_arg3)
/-- The second weights. -/
abbrev wA (c : Dev nD) : FVec Ideal S4x8192x2048 .f32 := m ((c : Thread nD τ).loc main_arg4)

/-- The first weights as the region reads them. -/
theorem V_u (c : Dev nD) : (V m c main_v0 : FVec Ideal S4x2048x8192 .bf16) = fun i => uA m c i := by
  unfold V; after_results; try rfl

/-- The second weights as the region reads them. -/
theorem V_w (c : Dev nD) : (V m c main_v1 : FVec Ideal S4x8192x2048 .bf16) = fun i => wA m c i := by
  unfold V; after_results; try rfl

/-- The block that each window holds at a grid point, in the row tile's and the hidden block's numbers. -/
theorem idx_val : ∀ t : Fin cfg0.N, win0_0.index t = ![t.val / 8, 0] ∧ win0_1.index t = ![3, 0, t.val % 8]
    ∧ win0_2.index t = ![3, t.val % 8, 0] ∧ win0_3.index t = ![3, t.val / 32, 0, 5] ∧ win0_4.index t = ![t.val / 8, 0] :=
  (by decide +kernel : ∀ t : Fin grid0.N, _)

/-- An input block's entry. -/
theorem blk0 (c : Dev nD) (t : Fin cfg0.N) (x : S1024x2048.Idx) (R : Fin 16384) (C : Fin 2048)
    (hR : R.val = t.val / 8 * 1024 + (x 0 : ℕ)) (hC : C.val = (x 1 : ℕ)) :
    (iblk m c 0 t : FVec Ideal S1024x2048 .bf16) x = hA m c (ix2 R C) := by
  blk_simp [iblk, idx_val t]
  rw [V_main_arg0]
  show hA m c _ = _
  blk_ext [idx_val t]

/-- A block of the first weights' entry. -/
theorem blk1 (c : Dev nD) (t : Fin cfg0.N) (x : S1x2048x1024.Idx) (D : Fin 2048) (n : Fin 8192)
    (hD : D.val = (x 1 : ℕ)) (hn : n.val = t.val % 8 * 1024 + (x 2 : ℕ)) :
    (iblk m c 1 t : FVec Ideal S1x2048x1024 .bf16) x = uA m c (ix3 3 D n) := by
  blk_simp [iblk, idx_val t]
  rw [V_u]
  show uA m c _ = _
  blk_ext [idx_val t]

/-- A block of the second weights' entry. -/
theorem blk2 (c : Dev nD) (t : Fin cfg0.N) (x : S1x1024x2048.Idx) (n : Fin 8192) (C : Fin 2048)
    (hn : n.val = t.val % 8 * 1024 + (x 1 : ℕ)) (hC : C.val = (x 2 : ℕ)) :
    (iblk m c 2 t : FVec Ideal S1x1024x2048 .bf16) x = wA m c (ix3 3 n C) := by
  blk_simp [iblk, idx_val t]
  rw [V_w]
  show wA m c _ = _
  blk_ext [idx_val t]

/-- A gate block's entry. -/
theorem blk3 (c : Dev nD) (t : Fin cfg0.N) (x : S1x1x1x2048.Idx) (B : Fin 8) (C : Fin 12288)
    (hB : B.val = t.val / 32) (hC : C.val = 10240 + (x 3 : ℕ)) :
    (iblk m c 3 t : FVec Ideal S1x1x1x2048 .f32) x = mA m c (ix4 3 B 0 C) := by
  blk_simp [iblk, idx_val t]
  rw [V_main_arg2]
  show mA m c _ = _
  blk_ext [idx_val t]

/-- A point's input block. -/
abbrev b0 (c : Dev nD) (t : Fin cfg0.N) : FVec Ideal S1024x2048 .bf16 := iblk m c 0 t
/-- A point's block of the first weights. -/
abbrev b1 (c : Dev nD) (t : Fin cfg0.N) : FVec Ideal S1x2048x1024 .bf16 := iblk m c 1 t

/-- A point's hidden tile: the terms of its hidden units. -/
theorem tile_terms (c : Dev nD) (t : Fin cfg0.N) (a : Fin 1024) (b : Fin 2048) (R : Fin 16384) (hR : R.val = t.val / 8 * 1024 + a.val) :
    tileSum (iblk m c 0 t) (iblk m c 1 t) (iblk m c 2 t) a b
      = ∑ k ∈ Finset.range 1024, term (hA m c) (uA m c) (wA m c) R b (1024 * (t.val % 8) + k) := by
  unfold tileSum
  rw [Finset.sum_range]
  refine Finset.sum_congr rfl fun k _ => ?_
  have hk : 1024 * (t.val % 8) + k.val < 8192 := by omega
  unfold term
  rw [dif_pos hk]
  have e : ∑ d : Fin 2048, b0 m c t (ix2 a d) * b1 m c t (ix3 0 d k)
      = ∑ d : Fin 2048, hA m c (ix2 R d) * uA m c (ix3 3 d ⟨1024 * (t.val % 8) + k.val, hk⟩) :=
    Finset.sum_congr rfl fun d _ => congrArg₂ (· * ·) (blk0 m c t (ix2 a d) R d hR rfl)
      (blk1 m c t (ix3 0 d k) d ⟨1024 * (t.val % 8) + k.val, hk⟩ rfl (by show 1024 * (t.val % 8) + k.val = t.val % 8 * 1024 + k.val; omega))
  unfold unit unitAt
  rw [e, blk2 m c t (ix3 0 k b) ⟨1024 * (t.val % 8) + k.val, hk⟩ b (by show 1024 * (t.val % 8) + k.val = t.val % 8 * 1024 + k.val; omega) rfl]

/-- The output block before a row tile's last hidden tile: the terms of the hidden units so far. -/
theorem acc_terms (c : Dev nD) (n : ℕ) : ∀ (t : Fin cfg0.N), t.val = n → t.val % 8 ≠ 7 → ∀ (a : Fin 1024) (b : Fin 2048) (R : Fin 16384),
    R.val = t.val / 8 * 1024 + a.val →
    accAt m c t.val (ix2 a b) = ∑ k ∈ Finset.range (1024 * (t.val % 8) + 1024), term (hA m c) (uA m c) (wA m c) R b k := by
  induction n with
  | zero =>
    intro t ht h7 a b R hR
    have h0 : t.val % 8 = 0 := by rw [ht]
    rw [accAt_first m c t h0 (readBack [])]
    unfold stepAt; rw [dif_pos h0]
    refine (first_at c _ _ _ _ _ _ _ _ _ _ _ _ _ _ _ _ _ _ _ a b rfl rfl).trans ?_
    rw [tile_terms m c t a b R hR, h0]
    simp only [Nat.mul_zero, Nat.zero_add]
  | succ n ih =>
    intro t ht h7 a b R hR
    by_cases h0 : t.val % 8 = 0
    · rw [accAt_first m c t h0 (readBack [])]
      unfold stepAt; rw [dif_pos h0]
      refine (first_at c _ _ _ _ _ _ _ _ _ _ _ _ _ _ _ _ _ _ _ a b rfl rfl).trans ?_
      rw [tile_terms m c t a b R hR, h0]
      simp only [Nat.mul_zero, Nat.zero_add]
    · rw [accAt_pos m c t (by omega)]
      unfold stepAt; rw [dif_neg h0, dif_neg h7]
      refine (mid_at c _ _ _ _ _ _ _ _ _ _ _ _ _ _ _ _ _ _ _ _ a b rfl rfl).trans ?_
      have hp : t.val - 1 < cfg0.N := by have := t.isLt; omega
      rw [tile_terms m c t a b R hR, ih ⟨t.val - 1, hp⟩ (by show t.val - 1 = n; omega) (by show (t.val - 1) % 8 ≠ 7; omega) a b R
        (by show R.val = (t.val - 1) / 8 * 1024 + a.val; omega)]
      refine Eq.trans (congrArg (· + ∑ k ∈ Finset.range 1024, term (hA m c) (uA m c) (wA m c) R b (1024 * (t.val % 8) + k)) (congrArg (fun N => ∑ k ∈ Finset.range N, term (hA m c) (uA m c) (wA m c) R b k) ?_)) (Finset.sum_range_add _ (1024 * (t.val % 8)) 1024).symm
      show 1024 * ((t.val - 1) % 8) + 1024 = 1024 * (t.val % 8)
      omega

/-- The output block after a row tile's last hidden tile: the result's entry. -/
theorem acc_last (c : Dev nD) (t : Fin cfg0.N) (h7 : t.val % 8 = 7) (y : S1024x2048.Idx) (R : Fin 16384) (C : Fin 2048)
    (hR : R.val = t.val / 8 * 1024 + (y 0 : ℕ)) (hC : C.val = (y 1 : ℕ)) :
    accAt m c t.val y = mlpAt (hA m c) (xA m c) (mA m c) (uA m c) (wA m c) R C := by
  have h0 : t.val % 8 ≠ 0 := by omega
  have ht : t.val < 128 := lt_of_lt_of_eq t.isLt N_0
  have ho : k0_off2 (grid0.coords t) = tileOff (t.val / 8) := off2_tile t
  have hp : t.val - 1 < cfg0.N := by have := t.isLt; omega
  obtain ⟨a, ha⟩ : ∃ a : Fin 1024, (y 0 : ℕ) = a.val := ⟨y 0, rfl⟩
  rw [accAt_pos m c t (by omega)]
  unfold stepAt; rw [dif_neg h0, dif_pos h7]
  refine (last_at c _ _ _ _ _ _ _ _ _ _ _ _ _ _ _ _ _ _ _ _ _ a C ha hC.symm R
    (by rw [ho]; show R.val = 1024 * (t.val / 8 % 16) + a.val; omega) (by rw [ho]; rfl)).trans ?_
  rw [tile_terms m c t a C R (by omega), acc_terms m c (t.val - 1) ⟨t.val - 1, hp⟩ rfl (by show (t.val - 1) % 8 ≠ 7; omega) a C R
    (by show R.val = (t.val - 1) / 8 * 1024 + a.val; omega),
    blk3 m c t (ix4 0 0 0 C) ⟨R.val / 4096, by omega⟩ ⟨10240 + C.val, by omega⟩ (by show R.val / 4096 = t.val / 32; omega) rfl,
    V_main_arg1]
  unfold mlpAt
  rw [sum_term]
  refine congrArg₂ (· + ·) rfl (congrArg₂ (· * ·) rfl ?_)
  rw [h7, show 1024 * ((⟨t.val - 1, hp⟩ : Fin cfg0.N).val % 8) + 1024 = 7168 by show 1024 * ((t.val - 1) % 8) + 1024 = 7168; omega]
  exact (Finset.sum_range_add _ 7168 1024).symm

/-- The result as an array. -/
def mlpArr (c : Dev nD) : FVec Ideal S16384x2048 .f32 :=
  fun i => mlpAt (hA m c) (xA m c) (mA m c) (uA m c) (wA m c) ⟨(i 0).val, (i 0).isLt⟩ ⟨(i 1).val, (i 1).isLt⟩

/-- The kernel's result array. -/
theorem final (c : Dev nD) : (dats m 0 c).arrAt 4 cfg0.N = mlpArr m c := by
  refine (dats m 0 c).arrAt_eq_of_covers 4 _ (by decide +kernel) fun t hf y => ?_
  blk_simp
  rw [after_4]
  have ht : t.val < 128 := lt_of_lt_of_eq t.isLt N_0
  refine acc_last m c t ((flush0_4 t).mp hf) y _ _ ?_ ?_
  all_goals (blk_simp [idx_val t] <;> (dsimp only; omega))

end Cert.MlpRun

end
-- ==== Proof.MlpRef.lean ====
module

public import proofs.«01_k».proof.Proof.Gen.MlpRefIdeal.Read
public import proofs.«01_k».proof.Proof.MlpSpec

/-! The MLP reference's result, read at a row and a column. -/

@[expose] public section

set_option maxRecDepth 16384

noncomputable section

namespace Cert.MlpRefRead

open Idealize.ShloMosaic Idealize.ShloMosaic.TcCoe Idealize.SL.Sem
open Cert.MlpRefIdeal Cert.MlpRefIdeal.Gen Cert.MlpRefIdeal.Read Cert.MlpSpec

variable (H : FVec Ideal S16384x2048 .bf16) (X : FVec Ideal S16384x2048 .f32) (M : FVec Ideal S4x8x1x12288 .f32)
  (W1 : FVec Ideal S4x2048x8192 .f32) (W2 : FVec Ideal S4x8192x2048 .f32)

/-- A hidden unit of a batch's row. -/
theorem unit_at (b : Fin 4) (s : Fin 4096) (n : Fin 8192) :
    val_main_v8 (F := Ideal) H W1 (ix3 b s n) = unitAt H W1 ⟨b.val * 4096 + s.val, by omega⟩ n := by
  unfold unitAt
  pointwise [val_main_v8, val_main_v7, val_main_call0_v0, val_main_call0_cst, val_main_v6, val_main_v5, val_main_v4, val_main_v3, val_main_v2]

/-- The reference's result at a row and a column. -/
theorem out_at (R : Fin 16384) (C : Fin 2048) :
    val_main_v16 (F := Ideal) H X M W1 W2 (ix2 R C) = mlpAt H X M W1 W2 R C := by
  pointwise [val_main_v16, val_main_v15, val_main_v14, val_main_v13, val_main_v12, val_main_v1, val_main_v0]
  unfold mlpAt
  refine congrArg₂ (· + ·) rfl (congrArg₂ (· * ·) rfl ?_)
  pointwise [val_main_v11, val_main_v10, val_main_v9]
  refine Finset.sum_congr rfl fun n _ => congrArg₂ (· * ·) ?_ rfl
  rw [unit_at]
  exact congrArg (unitAt H W1 · n) (Fin.ext (by dsimp only; omega))

end Cert.MlpRefRead

end
-- ==== Proof.MlpClaim.lean ====
module

public import proofs.«01_k».proof.Proof.MlpFinal
public import proofs.«01_k».proof.Proof.MlpRef
public import proofs.«01_k».proof.Proof.Gen.Mlp.Launch
public import proofs.«01_k».proof.Proof.Gen.MlpRefIdeal.Run
public import proofs.«01_k».proof.Defs

/-! The certificate's claims of the MLP kernel. -/

@[expose] public section

set_option maxRecDepth 16384

noncomputable section

namespace Cert.MlpClaim

open Idealize.ShloMosaic Idealize.ShloMosaic.Tactic
open Idealize.SL Idealize.SL.Sem

/-- The idealized kernel leaves its arguments and counters as launched. -/
theorem frame_mi : Cert.quiescent_MlpIdeal := fun m ρ _ =>
  (θ_run Cert.MlpIdeal.defs _ _).mono (fun _ h => ⟨fun c => ⟨(h.1 c).1, (h.1 c).2.1, (h.1 c).2.2.1, (h.1 c).2.2.2.1, (h.1 c).2.2.2.2.1⟩, h.2⟩)
    (Cert.MlpRun.run_frame (F := Ideal) m ρ)

/-- The two body tables are one: the printed texts are the same. -/
theorem bodies_same {F : FTy → Type} [FloatOps F] : Cert.Mlp.defs₀ (F := F) = Cert.MlpIdeal.defs₀ (F := F) := by
  delta Cert.Mlp.defs₀ Cert.MlpIdeal.defs₀
  refine congrArg Defs.onTc (funext fun k => ?_)
  match k with
  | ⟨0, h⟩ => funext x; with_unfolding_all rfl
  | ⟨n + 1, h⟩ => exact absurd h (Nat.not_lt.2 (Nat.le_add_left _ _))

/-- So are the pipelines'. -/
theorem defs_same {F : FTy → Type} [FloatOps F] : Cert.Mlp.defs (F := F) = Cert.MlpIdeal.defs (F := F) :=
  congrArg (Pipeline.defs Cert.MlpIdeal.pcfgs) (bodies_same (F := F))

/-- And the host programs. -/
theorem main_same {F : FTy → Type} [FloatOps F] : Cert.Mlp.main (F := F) = Cert.MlpIdeal.main (F := F) := by
  with_unfolding_all rfl

/-- The kernel leaves its arguments and counters as launched. -/
theorem frame_m : Cert.quiescent_Mlp := fun m ρ _ => by
  have e := congrArg₂ (fun d p => θ_run d (onTc (τ := Cert.MlpIdeal.τ) p) ⟨m, fun _ => 0, ρ⟩) (defs_same (F := Bits)) (main_same (F := Bits))
  refine (congrFun (congrArg _ e) _).mpr ?_
  exact (θ_run Cert.MlpIdeal.defs _ _).mono (fun _ h => ⟨fun c => ⟨(h.1 c).1, (h.1 c).2.1, (h.1 c).2.2.1, (h.1 c).2.2.2.1, (h.1 c).2.2.2.2.1⟩, h.2⟩)
    (Cert.MlpRun.run_frame (F := Bits) m ρ)

/-- The reference runs, keeps its arguments and leaves every counter at zero. -/
theorem frame_mr : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- Idealizing the kernel rewrites no operation. -/
theorem preserves : Cert.preserves_Mlp_MlpIdeal := trivial

/-- The reference's result is the kernel's. -/
theorem result_eq (m : (ℓ : Loc Cert.MlpIdeal.nD Cert.MlpIdeal.τ Cert.MlpIdeal.sig) → Buf (Elt Ideal) ℓ) (c : Dev Cert.MlpIdeal.nD) :
    (Cert.MlpRun.dats m 0 c).arrAt 4 Cert.MlpIdeal.cfg0.N
      = Cert.MlpRefIdeal.Read.val_main_v16 (F := Ideal) (Cert.MlpRun.hA m c) (Cert.MlpRun.xA m c) (Cert.MlpRun.mA m c)
          (Cert.MlpRun.uA m c) (Cert.MlpRun.wA m c) := by
  rw [Cert.MlpRun.final]
  funext i
  have e : i = ix2 ⟨(i 0).val, (i 0).isLt⟩ ⟨(i 1).val, (i 1).isLt⟩ := by
    funext d; fin_cases d <;> rfl
  conv_rhs => rw [e]
  exact (Cert.MlpRefRead.out_at _ _ _ _ _ _ _).symm

/-- The idealized kernel's run, with its result array. -/
theorem run_result (m : (ℓ : Loc Cert.MlpIdeal.nD Cert.MlpIdeal.τ Cert.MlpIdeal.sig) → Buf (Elt Ideal) ℓ) (ρ : Dev Cert.MlpIdeal.nD → PrngReg) :
    θ_run (Cert.MlpIdeal.defs (F := Ideal)) (onTc (τ := Cert.MlpIdeal.τ) (Cert.MlpIdeal.main (F := Ideal))) ⟨m, fun _ => 0, ρ⟩ (fun r => ∀ c : Dev Cert.MlpIdeal.nD,
      r.2.mem ((c.tc : Thread Cert.MlpIdeal.nD Cert.MlpIdeal.τ).loc Cert.MlpIdeal.main_v2) = (Cert.MlpRun.dats m 0 c).arrAt 4 Cert.MlpIdeal.cfg0.N
      ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)) :=
  (θ_run Cert.MlpIdeal.defs _ _).mono (fun _ h c => ⟨(h.1 c).2.2.2.2.2, (h.1 c).1, (h.1 c).2.1, (h.1 c).2.2.1, (h.1 c).2.2.2.1, (h.1 c).2.2.2.2.1⟩)
    (Cert.MlpRun.run_frame (F := Ideal) m ρ)

/-- The idealized kernel and the reference end with equal results. -/
theorem algebraic : Cert.algebraic_MlpIdeal_MlpRefIdeal := by
  pair_intro
  · run_from run_result m g
  · run_from Cert.MlpRefIdeal.Value.run (F := Ideal) m' g'
    rw [Cert.MlpRefIdeal.Read.val_main_v16_eq]
    exact (result_eq m c).symm

end Cert.MlpClaim
end
-- ==== Proof.MergeSpec.lean ====
module

public import Idealize.ShloMosaic.PureOps.Ideal
public import Idealize.ShloMosaic.Lib.Pipeline.ValueKit

/-! The output projection's two results by row and column, from the arrays. -/

@[expose] public section

noncomputable section

namespace Cert.MergeSpec

open Idealize.ShloMosaic Idealize.ShloMosaic.TcCoe

/-- A row's entry divided by the root of the row's mean square, and times a gain. The row's length is given as a float word. -/
def rmsOf {n : ℕ} (len : BitVec 32) (x g : Fin n → EReal) (j : Fin n) : EReal :=
  x j * Ideal.rsqrt (Ideal.div (∑ k, x k * x k) (Ideal.ofBits .f32 len) + Ideal.ofBits .f32 0x358637BD#32) * g j

/-- The row before in the same batch, or zero. -/
def prevAt (Z : FVec Ideal ⟨2, ![17408, 1024]⟩ .bf16) (R : Fin 16384) (C : Fin 1024) : EReal :=
  if R.val % 4096 = 0 then 0 else Z (ix2 ⟨R.val - 1, by omega⟩ C)

/-- The row after in the same batch, or zero. -/
def nextAt (Z : FVec Ideal ⟨2, ![17408, 1024]⟩ .bf16) (R : Fin 16384) (C : Fin 1024) : EReal :=
  if R.val % 4096 = 4095 then 0 else Z (ix2 ⟨R.val + 1, by omega⟩ C)

/-- The gated convolution of width three along a batch's rows. -/
def convAt (Z G : FVec Ideal ⟨2, ![17408, 1024]⟩ .bf16) (K : FVec Ideal ⟨2, ![3, 1024]⟩ .f32) (B : FVec Ideal ⟨2, ![1, 1024]⟩ .f32)
    (R : Fin 16384) (C : Fin 1024) : EReal :=
  G (ix2 ⟨R.val, by omega⟩ C) * (prevAt Z R C * K (ix2 0 C) + Z (ix2 ⟨R.val, by omega⟩ C) * K (ix2 1 C) + nextAt Z R C * K (ix2 2 C) + B (ix2 0 C))

/-- A row of the joined heads: the attention's columns normalised, then the convolution's. -/
def headAt (A : FVec Ideal ⟨2, ![16384, 1024]⟩ .bf16) (Z G : FVec Ideal ⟨2, ![17408, 1024]⟩ .bf16) (K : FVec Ideal ⟨2, ![3, 1024]⟩ .f32)
    (B AG CG : FVec Ideal ⟨2, ![1, 1024]⟩ .f32) (R : Fin 16384) (k : Fin 2048) : EReal :=
  if h : k.val < 1024 then rmsOf 0x44800000#32 (fun j => A (ix2 R j)) (fun j => AG (ix2 0 j)) ⟨k.val, h⟩
  else rmsOf 0x44800000#32 (convAt Z G K B R) (fun j => CG (ix2 0 j)) ⟨k.val - 1024, by omega⟩

/-- The new residual row: the old one plus the gate times the joined heads' product with the layer's weights. -/
def newAt (X : FVec Ideal ⟨2, ![17408, 2048]⟩ .f32) (A : FVec Ideal ⟨2, ![16384, 1024]⟩ .bf16) (Z G : FVec Ideal ⟨2, ![17408, 1024]⟩ .bf16)
    (M : FVec Ideal ⟨4, ![4, 8, 1, 12288]⟩ .f32) (K : FVec Ideal ⟨2, ![3, 1024]⟩ .f32) (B AG CG : FVec Ideal ⟨2, ![1, 1024]⟩ .f32)
    (W : FVec Ideal ⟨3, ![4, 2048, 2048]⟩ .f32) (R : Fin 16384) (C : Fin 2048) : EReal :=
  X (ix2 ⟨R.val, by omega⟩ C) + M (ix4 3 ⟨R.val / 4096, by omega⟩ 0 ⟨4096 + C.val, by omega⟩) * ∑ k : Fin 2048, headAt A Z G K B AG CG R k * W (ix3 3 k C)

/-- The row that the feed-forward part reads: the new residual row normalised, scaled and shifted. -/
def modAt (X : FVec Ideal ⟨2, ![17408, 2048]⟩ .f32) (A : FVec Ideal ⟨2, ![16384, 1024]⟩ .bf16) (Z G : FVec Ideal ⟨2, ![17408, 1024]⟩ .bf16)
    (M : FVec Ideal ⟨4, ![4, 8, 1, 12288]⟩ .f32) (K : FVec Ideal ⟨2, ![3, 1024]⟩ .f32) (B AG CG : FVec Ideal ⟨2, ![1, 1024]⟩ .f32)
    (W : FVec Ideal ⟨3, ![4, 2048, 2048]⟩ .f32) (NG : FVec Ideal ⟨2, ![1, 2048]⟩ .f32) (R : Fin 16384) (C : Fin 2048) : EReal :=
  rmsOf 0x45000000#32 (newAt X A Z G M K B AG CG W R) (fun j => NG (ix2 0 j)) C
      * (1 + M (ix4 3 ⟨R.val / 4096, by omega⟩ 0 ⟨8192 + C.val, by omega⟩))
    + M (ix4 3 ⟨R.val / 4096, by omega⟩ 0 ⟨6144 + C.val, by omega⟩)

end Cert.MergeSpec

end
-- ==== Proof.MergeStep.lean ====
module

public import proofs.«01_k».proof.Proof.Gen.MergeIdeal.Value
public import proofs.«01_k».proof.Proof.MergeSpec
public import Idealize.ShloMosaic.Lib.Pipeline.ValueKit
public import Idealize.ShloMosaic.Lib.Pipeline.ReadBack
public import Idealize.ShloMosaic.Lib.WordCmp

/-! What the output projection's body leaves in its two output blocks, entry by entry. -/

@[expose] public section

set_option maxRecDepth 16384

noncomputable section

namespace Cert.MergeRun

open Cert.MergeIdeal Cert.MergeIdeal.Gen Cert.MergeSpec
open Idealize.ShloMosaic Idealize.ShloMosaic.TcCoe Idealize.ShloMosaic.Tactic
open Idealize.SL Idealize.SL.Sem
open Idealize.ShloMosaic.WordCmp

/-- The grid has 32 points. -/
theorem coord_lt (i : grid0.Coords) : (i 0).val < 32 := (i 0).isLt

/-- A row's place among the rows. -/
theorem pay3_at (i : grid0.Coords) (r : Fin 512) :
    k0_pay3 i (ix2 r 0) = BitVec.ofNat 32 (512 * (i 0).val + r.val) := by
  have hi := coord_lt i
  pointwise [k0_pay3]
  refine BitVec.eq_of_toNat_eq ?_
  show (BitVec.ofNat 32 (i 0).val * 512#32 + BitVec.ofNat 32 r.val).toNat = _
  simp only [BitVec.toNat_add, BitVec.toNat_mul, BitVec.toNat_ofNat]
  omega

/-- The rows are all before the context's, so a batch has 4096 of them. -/
theorem pay4_at (i : grid0.Coords) (r : Fin 512) : k0_pay4 i (ix2 r 0) = 4096#32 := by
  have hi := coord_lt i
  pointwise [k0_pay4]
  rw [pay3_at, show (16384#32) = BitVec.ofNat 32 16384 from rfl, cmpi_sge_ofNat (by omega) (by omega), decide_eq_false (by omega)]
  rfl

/-- A row's place in its batch. -/
theorem pay5_at (i : grid0.Coords) (r : Fin 512) :
    k0_pay5 i (ix2 r 0) = BitVec.ofNat 32 ((512 * (i 0).val + r.val) % 4096) := by
  have hi := coord_lt i
  pointwise [k0_pay5]
  rw [pay3_at, pay4_at]
  refine BitVec.eq_of_toNat_eq ?_
  show (BitVec.ofNat 32 (512 * (i 0).val + r.val) &&& 4095#32).toNat = _
  rw [BitVec.toNat_and]
  simp only [BitVec.toNat_ofNat]
  rw [show 4095 % 2 ^ 32 = 2 ^ 12 - 1 from rfl, Nat.and_two_pow_sub_one_eq_mod]
  omega

/-- The attention's rows are the latent ones. -/
theorem pay2_eq (i : grid0.Coords) (v2 v3 : FVec Ideal S512x1024 .bf16) : k0_pay2 (F := Ideal) i v2 v3 = v3 := by
  have hi := coord_lt i
  have e : Scalar.muli (BitVec.ofNat 32 (i 0).val) 512#32 = BitVec.ofNat 32 (512 * (i 0).val) := by
    refine BitVec.eq_of_toNat_eq ?_
    show (BitVec.ofNat 32 (i 0).val * 512#32).toNat = _
    simp only [BitVec.toNat_mul, BitVec.toNat_ofNat]
    omega
  unfold k0_pay2
  dsimp only
  rw [e]
  unfold Scalar.cmpi
  rw [show (16384#32) = BitVec.ofNat 32 16384 from rfl, cmpi_sge_ofNat (by omega) (by omega), decide_eq_false (by omega)]
  rfl

/-- The row before a block's row, in the block or its last row before, or zero at a batch's first. -/
def prevBlk (n : ℕ) (z : FVec Ideal S512x1024 .bf16) (p : FVec Ideal S1x1024 .bf16) (r : Fin 512) (C : Fin 1024) : EReal :=
  if (512 * n + r.val) % 4096 = 0 then 0 else if r.val = 0 then p (ix2 0 C) else z (ix2 ⟨r.val - 1, by omega⟩ C)

/-- The row after, likewise. -/
def nextBlk (n : ℕ) (z : FVec Ideal S512x1024 .bf16) (q : FVec Ideal S1x1024 .bf16) (r : Fin 512) (C : Fin 1024) : EReal :=
  if h : r.val = 511 then if (512 * n + r.val) % 4096 = 4095 then 0 else q (ix2 0 C) else z (ix2 ⟨r.val + 1, by omega⟩ C)

/-- A test for equality, as a word. -/
theorem select_ne {α : Type} (a b : ℕ) (ha : a < 2 ^ 32) (hb : b < 2 ^ 32) (x y : α) :
    Scalar.select (IntOp.cmpi .ne (BitVec.ofNat 32 a) (BitVec.ofNat 32 b)) x y = if a = b then y else x := by
  rw [cmpi_ne_ofNat ha hb]
  by_cases h : a = b
  · rw [if_pos h, decide_eq_false (by simpa using h)]; rfl
  · rw [if_neg h, decide_eq_true h]; rfl

/-- And its negation. -/
theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  rw [cmpi_eq_ofNat ha hb]
  by_cases h : a = b
  · rw [if_pos h, decide_eq_true h]; rfl
  · rw [if_neg h, decide_eq_false h]; rfl

/-- The rows before. -/
theorem pay7_at (i : grid0.Coords) (z : FVec Ideal S512x1024 .bf16) (p : FVec Ideal S1x1024 .bf16) (r : Fin 512) (C : Fin 1024) :
    k0_pay7 (F := Ideal) i z p (ix2 r C) = prevBlk (i 0).val z p r C := by
  pointwise [k0_pay7, k0_pay6]
  rw [pay5_at, select_ne _ 0 (by omega) (by omega), select_eq _ 0 (by omega) (by omega)]
  unfold prevBlk
  split
  · rfl
  · split
    · rfl
    · exact congrArg (fun a => z (ix2 a C)) (Fin.ext (by dsimp only; omega))

/-- The gated convolution of a block. -/
def convBlk (n : ℕ) (z g : FVec Ideal S512x1024 .bf16) (p q : FVec Ideal S1x1024 .bf16) (k0 k1 k2 b : FVec Ideal S1x1024 .f32) (r : Fin 512) (C : Fin 1024) : EReal :=
  g (ix2 r C) * (prevBlk n z p r C * k0 (ix2 0 C) + z (ix2 r C) * k1 (ix2 0 C) + nextBlk n z q r C * k2 (ix2 0 C) + b (ix2 0 C))

/-- It is the body's. -/
theorem pay9_at (i : grid0.Coords) (z g : FVec Ideal S512x1024 .bf16) (p q : FVec Ideal S1x1024 .bf16) (k0 k1 k2 b : FVec Ideal S1x1024 .f32) (r : Fin 512) (C : Fin 1024) :
    k0_pay9 (F := Ideal) (k0_pay4 i) (k0_pay5 i) (k0_pay6 z) (k0_pay7 i z p) k0_pay8 q k0 k1 k2 b g (ix2 r C)
      = convBlk (i 0).val z g p q k0 k1 k2 b r C := by
  pointwise [k0_pay9, k0_pay8, k0_pay6]
  rw [pay5_at, pay4_at, pay7_at, show IntOp.subi 4096#32 1#32 = BitVec.ofNat 32 4095 from rfl, select_ne _ 4095 (by omega) (by omega), select_eq _ 511 (by omega) (by omega)]
  unfold convBlk
  refine congrArg (fun e => g (ix2 r C) * (prevBlk (i 0).val z p r C * k0 (ix2 0 C) + z (ix2 r C) * k1 (ix2 0 C) + e + b (ix2 0 C))) ?_
  unfold nextBlk
  by_cases h : r.val = 511
  · rw [dif_pos h, if_pos h]
    split
    · exact (zero_mul _).symm
    · rfl
  · rw [dif_neg h, if_neg h, if_neg (by omega)]
    exact congrArg (fun a => z (ix2 a C) * k2 (ix2 0 C)) (Fin.ext (by dsimp only; omega))

/-- The attention's columns, normalised. -/
theorem pay12_at (v4 : FVec Ideal S512x1024 .bf16) (v70 : FVec Ideal S1x1024 .f32) (r : Fin 512) (C : Fin 1024) :
    k0_pay12 (F := Ideal) (k0_pay10 v4) v70 (k0_pay11 v4) (ix2 r C) = rmsOf 0x44800000#32 (fun j => v4 (ix2 r j)) (fun j => v70 (ix2 0 j)) C := by
  pointwise [k0_pay12, k0_pay10, k0_pay11]
  unfold rmsOf
  rfl

/-- The convolution's columns, normalised. -/
theorem pay13_at (v4 : FVec Ideal S512x1024 .f32) (v70 : FVec Ideal S1x1024 .f32) (r : Fin 512) (C : Fin 1024) :
    k0_pay13 (F := Ideal) v4 v70 (ix2 r C) = rmsOf 0x44800000#32 (fun j => v4 (ix2 r j)) (fun j => v70 (ix2 0 j)) C := by
  pointwise [k0_pay13]
  unfold rmsOf
  rfl

/-- The new residual rows. -/
theorem pay14_at (cat : FVec Ideal S512x2048 .bf16) (w : FVec Ideal S1x2048x2048 .bf16) (x : FVec Ideal S512x2048 .f32) (g : FVec Ideal S1x1x1x2048 .f32) (r : Fin 512) (C : Fin 2048) :
    k0_pay14 (F := Ideal) cat w x g (ix2 r C) = x (ix2 r C) + g (ix4 0 0 0 C) * ∑ k : Fin 2048, cat (ix2 r k) * w (ix3 0 k C) := by
  pointwise [k0_pay14]

/-- The rows that the feed-forward part reads. -/
theorem pay1_at (x : FVec Ideal S512x2048 .f32) (ng : FVec Ideal S1x2048 .f32) (sc sh : FVec Ideal S1x1x1x2048 .f32) (r : Fin 512) (C : Fin 2048) :
    k0_pay1 (F := Ideal) x ng sc sh (ix2 r C) = rmsOf 0x45000000#32 (fun j => x (ix2 r j)) (fun j => ng (ix2 0 j)) C * (1 + sc (ix4 0 0 0 C)) + sh (ix4 0 0 0 C) := by
  pointwise [k0_pay1]
  unfold rmsOf
  rfl

/-- The scratch after its two stores: the attention's columns, then the convolution's. -/
theorem cat_at (v : View sig .tc .vmem S512x2048 .bf16) (P Q : FVec Ideal S512x1024 .bf16)
    (inb : ∀ a, ![0, 0] a + ![512, 2048] a ≤ S512x2048.size a) (r : Fin 512) (k : Fin 2048) :
    (v.readCov (Val := Elt Ideal) [⟨Rect.unit (s := S512x2048) ![0, 1024] ![512, 1024] inb_S512x2048_S512x1024_0_1024, Q⟩,
        ⟨Rect.unit (s := S512x2048) ![0, 0] ![512, 1024] inb_S512x2048_S512x1024_0_0, P⟩]
      (Rect.unit (s := S512x2048) ![0, 0] ![512, 2048] inb).toLoadRect : FVec Ideal S512x2048 .bf16) (ix2 r k)
      = if h : k.val < 1024 then P (ix2 r ⟨k.val, h⟩) else Q (ix2 r ⟨k.val - 1024, by omega⟩) := by
  rw [View.readCov_eq_canon']
  have e : (fun j => (Rect.unit (s := S512x2048) ![0, 0] ![512, 2048] inb).toLoadRect.idx j) (ix2 r k) = ix2 r k := by
    funext a
    fin_cases a
    · refine Fin.ext ?_
      show 0 + 1 * r.val = r.val
      omega
    · refine Fin.ext ?_
      show 0 + 1 * k.val = k.val
      omega
  show View.canon _ ((fun j => (Rect.unit (s := S512x2048) ![0, 0] ![512, 2048] inb).toLoadRect.idx j) (ix2 r k)) = _
  rw [e]
  canon_tiles x h
  · have h1' : k.val = 1024 + (x 1 : ℕ) := h1
    rw [dif_neg (by omega)]
    refine congrArg Q ?_
    funext a
    fin_cases a
    · exact Fin.ext h0.symm
    · exact Fin.ext (by show (x 1 : ℕ) = k.val - 1024; omega)
  · have h1' : k.val = (x 1 : ℕ) := h1
    rw [dif_pos (by omega)]
    refine congrArg P ?_
    funext a
    fin_cases a
    · exact Fin.ext h0.symm
    · exact Fin.ext h1.symm

/-- A block's joined heads. -/
def headBlk (n : ℕ) (a z g : FVec Ideal S512x1024 .bf16) (p q : FVec Ideal S1x1024 .bf16) (k0 k1 k2 b ag cg : FVec Ideal S1x1024 .f32) (r : Fin 512) (k : Fin 2048) : EReal :=
  if h : k.val < 1024 then rmsOf 0x44800000#32 (fun j => a (ix2 r j)) (fun j => ag (ix2 0 j)) ⟨k.val, h⟩
  else rmsOf 0x44800000#32 (convBlk n z g p q k0 k1 k2 b r) (fun j => cg (ix2 0 j)) ⟨k.val - 1024, by omega⟩

/-- The last of the sixteen rows before a block. -/
abbrev rowBefore (x : FVec Ideal S16x1024 .bf16) : FVec Ideal S1x1024 .bf16 :=
  View.ld (Val := Elt Ideal) (e' := .bf16) x (Rect.unit (s := S16x1024) ![15, 0] ![1, 1024] inb_S16x1024_S1x1024_15_0)
/-- The first of the sixteen rows after it. -/
abbrev rowAfter (x : FVec Ideal S16x1024 .bf16) : FVec Ideal S1x1024 .bf16 :=
  View.ld (Val := Elt Ideal) (e' := .bf16) x (Rect.unit (s := S16x1024) ![0, 0] ![1, 1024] inb_S16x1024_S1x1024_0_0)
/-- The convolution's weights of the row before. -/
abbrev tap0 (x : FVec Ideal S3x1024 .f32) : FVec Ideal S1x1024 .f32 :=
  View.ld (Val := Elt Ideal) (e' := .f32) x (Rect.unit (s := S3x1024) ![0, 0] ![1, 1024] inb_S3x1024_S1x1024_0_0)
/-- Of the row itself. -/
abbrev tap1 (x : FVec Ideal S3x1024 .f32) : FVec Ideal S1x1024 .f32 :=
  View.ld (Val := Elt Ideal) (e' := .f32) x (Rect.unit (s := S3x1024) ![1, 0] ![1, 1024] inb_S3x1024_S1x1024_1_0)
/-- Of the row after. -/
abbrev tap2 (x : FVec Ideal S3x1024 .f32) : FVec Ideal S1x1024 .f32 :=
  View.ld (Val := Elt Ideal) (e' := .f32) x (Rect.unit (s := S3x1024) ![2, 0] ![1, 1024] inb_S3x1024_S1x1024_2_0)

section Step

variable (c : Dev nD) (i : grid0.Coords) (arg1 : Memref sig .tc .vmem S512x2048 .f32) (harg1 : arg1.IsWhole)
  (arg2 : Memref sig .tc .vmem S16x2048 .f32) (harg2 : arg2.IsWhole) (arg3 : Memref sig .tc .vmem S512x1024 .bf16) (harg3 : arg3.IsWhole)
  (arg4 : Memref sig .tc .vmem S512x1024 .bf16) (harg4 : arg4.IsWhole) (arg5 : Memref sig .tc .vmem S512x1024 .bf16) (harg5 : arg5.IsWhole)
  (arg6 : Memref sig .tc .vmem S16x1024 .bf16) (harg6 : arg6.IsWhole) (arg7 : Memref sig .tc .vmem S16x1024 .bf16) (harg7 : arg7.IsWhole)
  (arg8 : Memref sig .tc .vmem S512x1024 .bf16) (harg8 : arg8.IsWhole) (arg9 : Memref sig .tc .vmem S3x1024 .f32) (harg9 : arg9.IsWhole)
  (arg10 : Memref sig .tc .vmem S1x1024 .f32) (harg10 : arg10.IsWhole) (arg11 : Memref sig .tc .vmem S1x1024 .f32) (harg11 : arg11.IsWhole)
  (arg12 : Memref sig .tc .vmem S1x1024 .f32) (harg12 : arg12.IsWhole) (arg13 : Memref sig .tc .vmem S1x2048x2048 .bf16) (harg13 : arg13.IsWhole)
  (arg14 : Memref sig .tc .vmem S1x1x1x2048 .f32) (harg14 : arg14.IsWhole) (arg15 : Memref sig .tc .vmem S1x1x1x2048 .f32) (harg15 : arg15.IsWhole)
  (arg16 : Memref sig .tc .vmem S1x1x1x2048 .f32) (harg16 : arg16.IsWhole) (arg17 : Memref sig .tc .vmem S1x2048 .f32) (harg17 : arg17.IsWhole)
  (arg18 : Memref sig .tc .vmem S512x2048 .f32) (harg18 : arg18.IsWhole) (arg19 : Memref sig .tc .vmem S512x2048 .bf16) (harg19 : arg19.IsWhole)
  (arg20 : Memref sig .tc .vmem S512x2048 .bf16) (harg20 : arg20.IsWhole)
  (x0 : FVec Ideal S512x2048 .f32) (x1 : FVec Ideal S16x2048 .f32) (x2 : FVec Ideal S512x1024 .bf16) (x3 : FVec Ideal S512x1024 .bf16)
  (x4 : FVec Ideal S512x1024 .bf16) (x5 : FVec Ideal S16x1024 .bf16) (x6 : FVec Ideal S16x1024 .bf16) (x7 : FVec Ideal S512x1024 .bf16)
  (x8 : FVec Ideal S3x1024 .f32) (x9 : FVec Ideal S1x1024 .f32) (x10 : FVec Ideal S1x1024 .f32) (x11 : FVec Ideal S1x1024 .f32)
  (x12 : FVec Ideal S1x2048x2048 .bf16) (x13 : FVec Ideal S1x1x1x2048 .f32) (x14 : FVec Ideal S1x1x1x2048 .f32) (x15 : FVec Ideal S1x1x1x2048 .f32)
  (x16 : FVec Ideal S1x2048 .f32)

/-- A block's new residual row. -/
def newBlk (r : Fin 512) (C : Fin 2048) : EReal :=
  x0 (ix2 r C) + x13 (ix4 0 0 0 C) * ∑ k : Fin 2048, headBlk (i 0).val x2 x4 x7 (rowBefore x5) (rowAfter x6) (tap0 x8) (tap1 x8) (tap2 x8) x9 x10 x11 r k * x12 (ix3 0 k C)

/-- The body leaves it in the first output block. -/
theorem out17_at (r : Fin 512) (C : Fin 2048) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 (ix2 r C) = newBlk i x0 x2 x4 x5 x6 x7 x8 x9 x10 x11 x12 x13 r C := by
  unfold out0_A_17
  frame_out
  refine (pay14_at _ _ _ _ r C).trans ?_
  unfold newBlk
  refine congrArg (fun e => x0 (ix2 r C) + x13 (ix4 0 0 0 C) * e) (Finset.sum_congr rfl fun k _ => congrArg (· * x12 (ix3 0 k C)) ?_)
  refine (cat_at _ _ _ _ r k).trans ?_
  unfold headBlk
  split
  · refine (pay12_at _ _ r _).trans ?_
    rw [pay2_eq]
  · refine (pay13_at _ _ r _).trans ?_
    exact congrArg (fun f => rmsOf 0x44800000#32 f (fun j => x11 (ix2 0 j)) _) (funext fun j => pay9_at i x4 x7 (rowBefore x5) (rowAfter x6) (tap0 x8) (tap1 x8) (tap2 x8) x9 r j)

/-- And the row that the feed-forward part reads in the second. -/
theorem out18_at (r : Fin 512) (C : Fin 2048) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 (ix2 r C)
      = rmsOf 0x45000000#32 (newBlk i x0 x2 x4 x5 x6 x7 x8 x9 x10 x11 x12 x13 r) (fun j => x16 (ix2 0 j)) C * (1 + x15 (ix4 0 0 0 C)) + x14 (ix4 0 0 0 C) := by
  have e := fun j : Fin 2048 => out17_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 r j
  revert e
  unfold out0_A_17 out0_A_18
  frame_out
  intro e
  refine (pay1_at _ _ _ _ r C).trans ?_
  exact congrArg (fun f => rmsOf 0x45000000#32 f (fun j => x16 (ix2 0 j)) C * (1 + x15 (ix4 0 0 0 C)) + x14 (ix4 0 0 0 C)) (funext e)

end Step

end Cert.MergeRun

end
-- ==== Proof.MergeFinal.lean ====
module

public import proofs.«01_k».proof.Proof.MergeStep

/-! The output projection's two result arrays: what the blocks hold, and the arrays. -/

@[expose] public section

set_option maxRecDepth 16384

noncomputable section

namespace Cert.MergeRun

open Cert.MergeIdeal Cert.MergeIdeal.Gen Cert.MergeSpec
open Idealize.ShloMosaic Idealize.ShloMosaic.TcCoe Idealize.ShloMosaic.Tactic
open Idealize.SL Idealize.SL.Sem

variable (m : (ℓ : Loc nD τ sig) → Buf (Elt Ideal) ℓ)

/-- The residual rows. -/
abbrev xA (c : Dev nD) : FVec Ideal S17408x2048 .f32 := m ((c : Thread nD τ).loc main_arg0)
/-- The attention's rows. -/
abbrev aA (c : Dev nD) : FVec Ideal S16384x1024 .bf16 := m ((c : Thread nD τ).loc main_arg1)
/-- The convolution's rows. -/
abbrev zA (c : Dev nD) : FVec Ideal S17408x1024 .bf16 := m ((c : Thread nD τ).loc main_arg3)
/-- The convolution's gates. -/
abbrev gA (c : Dev nD) : FVec Ideal S17408x1024 .bf16 := m ((c : Thread nD τ).loc main_arg4)
/-- The modulations. -/
abbrev mA (c : Dev nD) : FVec Ideal S4x8x1x12288 .f32 := m ((c : Thread nD τ).loc main_arg5)
/-- The convolution's weights. -/
abbrev kA (c : Dev nD) : FVec Ideal S3x1024 .f32 := m ((c : Thread nD τ).loc main_arg6)
/-- The convolution's bias. -/
abbrev bA (c : Dev nD) : FVec Ideal S1x1024 .f32 := m ((c : Thread nD τ).loc main_arg7)
/-- The attention's gain. -/
abbrev agA (c : Dev nD) : FVec Ideal S1x1024 .f32 := m ((c : Thread nD τ).loc main_arg8)
/-- The convolution's gain. -/
abbrev cgA (c : Dev nD) : FVec Ideal S1x1024 .f32 := m ((c : Thread nD τ).loc main_arg9)
/-- The projection's weights. -/
abbrev wA (c : Dev nD) : FVec Ideal S4x2048x2048 .f32 := m ((c : Thread nD τ).loc main_arg10)
/-- The feed-forward part's gain. -/
abbrev ngA (c : Dev nD) : FVec Ideal S1x2048 .f32 := m ((c : Thread nD τ).loc main_arg11)

/-- The projection's weights as the region reads them. -/
theorem V_w (c : Dev nD) : (V m c main_v0 : FVec Ideal S4x2048x2048 .bf16) = fun i => wA m c i := by
  unfold V; after_results; try rfl

/-- The block that each window holds at a grid point. -/
theorem idx_val : ∀ t : Fin cfg0.N, win0_0.index t = ![t.val, 0] ∧ win0_2.index t = ![t.val, 0] ∧ win0_4.index t = ![t.val, 0]
    ∧ win0_5.index t = ![32 * t.val - 1, 0] ∧ win0_6.index t = ![32 * t.val + 32, 0] ∧ win0_7.index t = ![t.val, 0]
    ∧ win0_8.index t = ![0, 0] ∧ win0_9.index t = ![0, 0] ∧ win0_10.index t = ![0, 0] ∧ win0_11.index t = ![0, 0]
    ∧ win0_12.index t = ![3, 0, 0] ∧ win0_13.index t = ![3, t.val / 8, 0, 2] ∧ win0_14.index t = ![3, t.val / 8, 0, 3]
    ∧ win0_15.index t = ![3, t.val / 8, 0, 4] ∧ win0_16.index t = ![0, 0] ∧ win0_17.index t = ![t.val, 0] ∧ win0_18.index t = ![t.val, 0] :=
  (by decide +kernel : ∀ t : Fin grid0.N, _)

/-- A grid point's coordinate is its number. -/
theorem coord_val : ∀ t : Fin cfg0.N, (grid0.coords t 0).val = t.val := (by decide +kernel : ∀ t : Fin grid0.N, _)

/-- A residual block's entry. -/
theorem blk0 (c : Dev nD) (t : Fin cfg0.N) (r : Fin 512) (C : Fin 2048) (R : Fin 17408) (hR : R.val = 512 * t.val + r.val) :
    (iblk m c 0 t : FVec Ideal S512x2048 .f32) (ix2 r C) = xA m c (ix2 R C) := by
  blk_simp [iblk, idx_val t]
  rw [V_main_arg0]
  show xA m c _ = _
  blk_ext [idx_val t]

/-- An attention block's entry. -/
theorem blk2 (c : Dev nD) (t : Fin cfg0.N) (r : Fin 512) (C : Fin 1024) (R : Fin 16384) (hR : R.val = 512 * t.val + r.val) :
    (iblk m c 2 t : FVec Ideal S512x1024 .bf16) (ix2 r C) = aA m c (ix2 R C) := by
  blk_simp [iblk, idx_val t]
  rw [V_main_arg1]
  show aA m c _ = _
  blk_ext [idx_val t]

/-- A convolution block's entry. -/
theorem blk4 (c : Dev nD) (t : Fin cfg0.N) (r : Fin 512) (C : Fin 1024) (R : Fin 17408) (hR : R.val = 512 * t.val + r.val) :
    (iblk m c 4 t : FVec Ideal S512x1024 .bf16) (ix2 r C) = zA m c (ix2 R C) := by
  blk_simp [iblk, idx_val t]
  rw [V_main_arg3]
  show zA m c _ = _
  blk_ext [idx_val t]

/-- The row before a block. -/
theorem blk5 (c : Dev nD) (t : Fin cfg0.N) (C : Fin 1024) (R : Fin 17408) (h : 0 < t.val) (hR : R.val = 512 * t.val - 1) :
    (iblk m c 5 t : FVec Ideal S16x1024 .bf16) (ix2 15 C) = zA m c (ix2 R C) := by
  blk_simp [iblk, idx_val t]
  rw [V_main_arg3]
  show zA m c _ = _
  blk_ext [idx_val t]

/-- The row after a block. -/
theorem blk6 (c : Dev nD) (t : Fin cfg0.N) (C : Fin 1024) (R : Fin 17408) (hR : R.val = 512 * t.val + 512) :
    (iblk m c 6 t : FVec Ideal S16x1024 .bf16) (ix2 0 C) = zA m c (ix2 R C) := by
  blk_simp [iblk, idx_val t]
  rw [V_main_arg3]
  show zA m c _ = _
  blk_ext [idx_val t]

/-- A gate block's entry. -/
theorem blk7 (c : Dev nD) (t : Fin cfg0.N) (r : Fin 512) (C : Fin 1024) (R : Fin 17408) (hR : R.val = 512 * t.val + r.val) :
    (iblk m c 7 t : FVec Ideal S512x1024 .bf16) (ix2 r C) = gA m c (ix2 R C) := by
  blk_simp [iblk, idx_val t]
  rw [V_main_arg4]
  show gA m c _ = _
  blk_ext [idx_val t]

/-- The convolution's weights. -/
theorem blk8 (c : Dev nD) (t : Fin cfg0.N) (k : Fin 3) (C : Fin 1024) :
    (iblk m c 8 t : FVec Ideal S3x1024 .f32) (ix2 k C) = kA m c (ix2 k C) := by
  blk_simp [iblk, idx_val t]
  rw [V_main_arg6]
  show kA m c _ = _
  blk_ext [idx_val t]

/-- Its bias. -/
theorem blk9 (c : Dev nD) (t : Fin cfg0.N) (C : Fin 1024) :
    (iblk m c 9 t : FVec Ideal S1x1024 .f32) (ix2 0 C) = bA m c (ix2 0 C) := by
  blk_simp [iblk, idx_val t]
  rw [V_main_arg7]
  show bA m c _ = _
  blk_ext [idx_val t]

/-- The attention's gain. -/
theorem blk10 (c : Dev nD) (t : Fin cfg0.N) (C : Fin 1024) :
    (iblk m c 10 t : FVec Ideal S1x1024 .f32) (ix2 0 C) = agA m c (ix2 0 C) := by
  blk_simp [iblk, idx_val t]
  rw [V_main_arg8]
  show agA m c _ = _
  blk_ext [idx_val t]

/-- The convolution's gain. -/
theorem blk11 (c : Dev nD) (t : Fin cfg0.N) (C : Fin 1024) :
    (iblk m c 11 t : FVec Ideal S1x1024 .f32) (ix2 0 C) = cgA m c (ix2 0 C) := by
  blk_simp [iblk, idx_val t]
  rw [V_main_arg9]
  show cgA m c _ = _
  blk_ext [idx_val t]

/-- The projection's weights. -/
theorem blk12 (c : Dev nD) (t : Fin cfg0.N) (k C : Fin 2048) :
    (iblk m c 12 t : FVec Ideal S1x2048x2048 .bf16) (ix3 0 k C) = wA m c (ix3 3 k C) := by
  blk_simp [iblk, idx_val t]
  rw [V_w]
  show wA m c _ = _
  blk_ext [idx_val t]

/-- The gate of the attention and convolution. -/
theorem blk13 (c : Dev nD) (t : Fin cfg0.N) (C : Fin 2048) (B : Fin 8) (D : Fin 12288) (hB : B.val = t.val / 8) (hD : D.val = 4096 + C.val) :
    (iblk m c 13 t : FVec Ideal S1x1x1x2048 .f32) (ix4 0 0 0 C) = mA m c (ix4 3 B 0 D) := by
  blk_simp [iblk, idx_val t]
  rw [V_main_arg5]
  show mA m c _ = _
  blk_ext [idx_val t]

/-- The feed-forward part's shift. -/
theorem blk14 (c : Dev nD) (t : Fin cfg0.N) (C : Fin 2048) (B : Fin 8) (D : Fin 12288) (hB : B.val = t.val / 8) (hD : D.val = 6144 + C.val) :
    (iblk m c 14 t : FVec Ideal S1x1x1x2048 .f32) (ix4 0 0 0 C) = mA m c (ix4 3 B 0 D) := by
  blk_simp [iblk, idx_val t]
  rw [V_main_arg5]
  show mA m c _ = _
  blk_ext [idx_val t]

/-- The feed-forward part's scale. -/
theorem blk15 (c : Dev nD) (t : Fin cfg0.N) (C : Fin 2048) (B : Fin 8) (D : Fin 12288) (hB : B.val = t.val / 8) (hD : D.val = 8192 + C.val) :
    (iblk m c 15 t : FVec Ideal S1x1x1x2048 .f32) (ix4 0 0 0 C) = mA m c (ix4 3 B 0 D) := by
  blk_simp [iblk, idx_val t]
  rw [V_main_arg5]
  show mA m c _ = _
  blk_ext [idx_val t]

/-- The feed-forward part's gain. -/
theorem blk16 (c : Dev nD) (t : Fin cfg0.N) (C : Fin 2048) :
    (iblk m c 16 t : FVec Ideal S1x2048 .f32) (ix2 0 C) = ngA m c (ix2 0 C) := by
  blk_simp [iblk, idx_val t]
  rw [V_main_arg11]
  show ngA m c _ = _
  blk_ext [idx_val t]

/-- A block's row before it, read. -/
theorem rowBefore_at (x : FVec Ideal S16x1024 .bf16) (C : Fin 1024) : rowBefore x (ix2 0 C) = x (ix2 15 C) := by
  refine congrArg x ?_
  funext a
  fin_cases a <;> refine Fin.ext ?_
  · rfl
  · show 0 + 1 * C.val = C.val
    omega

/-- A block's row after it, read. -/
theorem rowAfter_at (x : FVec Ideal S16x1024 .bf16) (C : Fin 1024) : rowAfter x (ix2 0 C) = x (ix2 0 C) := by
  refine congrArg x ?_
  funext a
  fin_cases a <;> refine Fin.ext ?_
  · rfl
  · show 0 + 1 * C.val = C.val
    omega

/-- The convolution's weights of the row before, read. -/
theorem tap0_at (x : FVec Ideal S3x1024 .f32) (C : Fin 1024) : tap0 x (ix2 0 C) = x (ix2 0 C) := by
  refine congrArg x ?_
  funext a
  fin_cases a <;> refine Fin.ext ?_
  · rfl
  · show 0 + 1 * C.val = C.val
    omega

/-- Of the row itself, read. -/
theorem tap1_at (x : FVec Ideal S3x1024 .f32) (C : Fin 1024) : tap1 x (ix2 0 C) = x (ix2 1 C) := by
  refine congrArg x ?_
  funext a
  fin_cases a <;> refine Fin.ext ?_
  · rfl
  · show 0 + 1 * C.val = C.val
    omega

/-- Of the row after, read. -/
theorem tap2_at (x : FVec Ideal S3x1024 .f32) (C : Fin 1024) : tap2 x (ix2 0 C) = x (ix2 2 C) := by
  refine congrArg x ?_
  funext a
  fin_cases a <;> refine Fin.ext ?_
  · rfl
  · show 0 + 1 * C.val = C.val
    omega

/-- The row before a block's row is the array's. -/
theorem prev_eq (c : Dev nD) (t : Fin cfg0.N) (r : Fin 512) (C : Fin 1024) (R : Fin 16384) (hR : R.val = 512 * t.val + r.val) :
    prevBlk t.val (iblk m c 4 t) (rowBefore (iblk m c 5 t)) r C = prevAt (zA m c) R C := by
  unfold prevBlk prevAt
  rw [← hR]
  split
  · rfl
  · split
    · exact (rowBefore_at _ C).trans (blk5 m c t C _ (by omega) (by dsimp only; omega))
    · exact blk4 m c t _ C _ (by dsimp only; omega)

/-- And the row after it. -/
theorem next_eq (c : Dev nD) (t : Fin cfg0.N) (r : Fin 512) (C : Fin 1024) (R : Fin 16384) (hR : R.val = 512 * t.val + r.val) :
    nextBlk t.val (iblk m c 4 t) (rowAfter (iblk m c 6 t)) r C = nextAt (zA m c) R C := by
  have hr := r.isLt
  unfold nextBlk nextAt
  rw [← hR]
  by_cases h : r.val = 511
  · rw [dif_pos h]
    split
    · rfl
    · exact (rowAfter_at _ C).trans (blk6 m c t C _ (by dsimp only; omega))
  · rw [dif_neg h, if_neg (by omega)]
    exact blk4 m c t _ C _ (by dsimp only; omega)

/-- A block's gated convolution is the array's. -/
theorem conv_eq (c : Dev nD) (t : Fin cfg0.N) (r : Fin 512) (R : Fin 16384) (hR : R.val = 512 * t.val + r.val) :
    convBlk t.val (iblk m c 4 t) (iblk m c 7 t) (rowBefore (iblk m c 5 t)) (rowAfter (iblk m c 6 t)) (tap0 (iblk m c 8 t)) (tap1 (iblk m c 8 t))
      (tap2 (iblk m c 8 t)) (iblk m c 9 t) r = convAt (zA m c) (gA m c) (kA m c) (bA m c) R := by
  funext C
  unfold convBlk convAt
  rw [prev_eq m c t r C R hR, next_eq m c t r C R hR]
  refine congrArg₂ (· * ·) (blk7 m c t r C _ hR) (congrArg₂ (· + ·) (congrArg₂ (· + ·) (congrArg₂ (· + ·) (congrArg₂ (· * ·) rfl ?_)
    (congrArg₂ (· * ·) (blk4 m c t r C _ hR) ?_)) (congrArg₂ (· * ·) rfl ?_)) (blk9 m c t C))
  · exact (tap0_at _ C).trans (blk8 m c t 0 C)
  · exact (tap1_at _ C).trans (blk8 m c t 1 C)
  · exact (tap2_at _ C).trans (blk8 m c t 2 C)

/-- A block's joined heads are the array's. -/
theorem head_eq (c : Dev nD) (t : Fin cfg0.N) (r : Fin 512) (k : Fin 2048) (R : Fin 16384) (hR : R.val = 512 * t.val + r.val) :
    headBlk t.val (iblk m c 2 t) (iblk m c 4 t) (iblk m c 7 t) (rowBefore (iblk m c 5 t)) (rowAfter (iblk m c 6 t)) (tap0 (iblk m c 8 t))
      (tap1 (iblk m c 8 t)) (tap2 (iblk m c 8 t)) (iblk m c 9 t) (iblk m c 10 t) (iblk m c 11 t) r k
      = headAt (aA m c) (zA m c) (gA m c) (kA m c) (bA m c) (agA m c) (cgA m c) R k := by
  unfold headBlk headAt
  split
  · exact congrArg₂ (fun f g => rmsOf 0x44800000#32 f g _) (funext fun j => blk2 m c t r j R hR) (funext fun j => blk10 m c t j)
  · exact congrArg₂ (fun f g => rmsOf 0x44800000#32 f g _) (conv_eq m c t r R hR) (funext fun j => blk11 m c t j)

/-- A block's new residual row is the array's. -/
theorem new_eq (c : Dev nD) (t : Fin cfg0.N) (r : Fin 512) (R : Fin 16384) (hR : R.val = 512 * t.val + r.val) :
    newBlk (grid0.coords t) (iblk m c 0 t) (iblk m c 2 t) (iblk m c 4 t) (iblk m c 5 t) (iblk m c 6 t) (iblk m c 7 t) (iblk m c 8 t) (iblk m c 9 t)
      (iblk m c 10 t) (iblk m c 11 t) (iblk m c 12 t) (iblk m c 13 t) r
      = newAt (xA m c) (aA m c) (zA m c) (gA m c) (mA m c) (kA m c) (bA m c) (agA m c) (cgA m c) (wA m c) R := by
  funext C
  unfold newBlk newAt
  rw [coord_val t]
  refine congrArg₂ (· + ·) (blk0 m c t r C _ hR) (congrArg₂ (· * ·) (blk13 m c t C _ _ (by dsimp only; omega) rfl)
    (Finset.sum_congr rfl fun k _ => congrArg₂ (· * ·) (head_eq m c t r k R hR) (blk12 m c t k C)))

/-- The first result as an array. -/
def newArr (c : Dev nD) : FVec Ideal S16384x2048 .f32 :=
  fun i => newAt (xA m c) (aA m c) (zA m c) (gA m c) (mA m c) (kA m c) (bA m c) (agA m c) (cgA m c) (wA m c) ⟨(i 0).val, (i 0).isLt⟩ ⟨(i 1).val, (i 1).isLt⟩

/-- The second result as an array. -/
def modArr (c : Dev nD) : FVec Ideal S16384x2048 .bf16 :=
  fun i => modAt (xA m c) (aA m c) (zA m c) (gA m c) (mA m c) (kA m c) (bA m c) (agA m c) (cgA m c) (wA m c) (ngA m c)
    ⟨(i 0).val, (i 0).isLt⟩ ⟨(i 1).val, (i 1).isLt⟩

/-- A point's first output block, by name. -/
theorem outs1_eq (c : Dev nD) (t : Fin cfg0.N) : (outsAt0 m c t).1 = out0_A_17 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by
  unfold outsAt0
  dsimp only

/-- A point's second output block, by name. -/
theorem outs2_eq (c : Dev nD) (t : Fin cfg0.N) : (outsAt0 m c t).2 = out0_A_18 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by
  unfold outsAt0
  dsimp only

/-- A point's first output block. -/
theorem outs1 (c : Dev nD) (t : Fin cfg0.N) (y : S512x2048.Idx) (R : Fin 16384) (C : Fin 2048) (hR : R.val = 512 * t.val + (y 0 : ℕ)) (hC : C.val = (y 1 : ℕ)) :
    (outsAt0 m c t).1 y = newAt (xA m c) (aA m c) (zA m c) (gA m c) (mA m c) (kA m c) (bA m c) (agA m c) (cgA m c) (wA m c) R C := by
  have e : y = ix2 (⟨(y 0 : ℕ), (y 0).isLt⟩ : Fin 512) C := by
    funext d
    fin_cases d
    · rfl
    · exact Fin.ext hC.symm
  rw [e]
  rw [outs1_eq]
  have o := out17_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ⟨(y 0 : ℕ), (y 0).isLt⟩ C
  refine o.trans ?_
  exact congrFun (new_eq m c t _ R hR) C

/-- A point's second output block. -/
theorem outs2 (c : Dev nD) (t : Fin cfg0.N) (y : S512x2048.Idx) (R : Fin 16384) (C : Fin 2048) (hR : R.val = 512 * t.val + (y 0 : ℕ)) (hC : C.val = (y 1 : ℕ)) :
    (outsAt0 m c t).2 y = modAt (xA m c) (aA m c) (zA m c) (gA m c) (mA m c) (kA m c) (bA m c) (agA m c) (cgA m c) (wA m c) (ngA m c) R C := by
  have e : y = ix2 (⟨(y 0 : ℕ), (y 0).isLt⟩ : Fin 512) C := by
    funext d
    fin_cases d
    · rfl
    · exact Fin.ext hC.symm
  have h0 : (y 0 : ℕ) < 512 := (y 0).isLt
  rw [e]
  rw [outs2_eq]
  have o := out18_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) ⟨(y 0 : ℕ), (y 0).isLt⟩ C
  refine o.trans ?_
  unfold modAt
  rw [new_eq m c t ⟨(y 0 : ℕ), (y 0).isLt⟩ R hR]
  refine congrArg₂ (· + ·) (congrArg₂ (· * ·) (congrArg (fun g => rmsOf 0x45000000#32 _ g C) (funext fun j => blk16 m c t j))
    (congrArg (1 + ·) (blk15 m c t C _ _ (by dsimp only; omega) rfl))) (blk14 m c t C _ _ (by dsimp only; omega) rfl)

/-- The kernel's first result array. -/
theorem final17 (c : Dev nD) : (dats m 0 c).arrAt 17 cfg0.N = newArr m c := by
  refine (dats m 0 c).arrAt_eq_of_covers 17 _ (by decide +kernel) fun t hf y => ?_
  blk_simp
  rw [after0_17]
  refine outs1 m c t y _ _ ?_ ?_
  all_goals (blk_simp [idx_val t] <;> (dsimp only; omega))

/-- The kernel's second result array. -/
theorem final18 (c : Dev nD) : (dats m 0 c).arrAt 18 cfg0.N = modArr m c := by
  refine (dats m 0 c).arrAt_eq_of_covers 18 _ (by decide +kernel) fun t hf y => ?_
  blk_simp
  rw [after0_18]
  refine outs2 m c t y _ _ ?_ ?_
  all_goals (blk_simp [idx_val t] <;> (dsimp only; omega))

end Cert.MergeRun

end
-- ==== Proof.MergeRef.lean ====
module

public import proofs.«01_k».proof.Proof.Gen.MergeRefIdeal.Read
public import proofs.«01_k».proof.Proof.MergeSpec

/-! The output projection's reference, read at a row and a column. -/

@[expose] public section

set_option maxRecDepth 16384

noncomputable section

namespace Cert.MergeRefRead

open Idealize.ShloMosaic Idealize.ShloMosaic.TcCoe Idealize.SL.Sem
open Cert.MergeRefIdeal Cert.MergeRefIdeal.Gen Cert.MergeRefIdeal.Read Cert.MergeSpec

variable (X : FVec Ideal S17408x2048 .f32) (A : FVec Ideal S16384x1024 .bf16) (Z G : FVec Ideal S17408x1024 .bf16)
  (M : FVec Ideal S4x8x1x12288 .f32) (K : FVec Ideal S3x1024 .f32) (B AG CG : FVec Ideal S1x1024 .f32)
  (W : FVec Ideal S4x2048x2048 .f32) (NG : FVec Ideal S1x2048 .f32)

/-- The gated convolution at a batch's row. -/
theorem conv_at (b : Fin 4) (s : Fin 4096) (C : Fin 1024) :
    val_main_v37 (F := Ideal) Z G K B (ix3 b s C) = convAt Z G K B ⟨b.val * 4096 + s.val, by omega⟩ C := by
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11,
    val_main_v10, val_main_v9, val_main_v8, val_main_v7, val_main_v6, val_main_call0_v0, val_main_c]
  have hz : FloatOps.sitofp (F := Ideal) .f32 0#32 = (0 : EReal) := by
    show ((((0#32 : BitVec 32).toInt : ℝ)) : EReal) = 0
    simp
  have hb := b.isLt
  have hs := s.isLt
  unfold convAt
  have hp : (if h : 1 ≤ s.val ∧ s.val - 1 < 4096 then Z (ix2 ⟨b.val * 4096 + (s.val - 1), by omega⟩ C) else FloatOps.sitofp (F := Ideal) .f32 0#32)
      = prevAt Z ⟨b.val * 4096 + s.val, by omega⟩ C := by
    unfold prevAt
    by_cases h : s.val = 0
    · rw [dif_neg (by omega), if_pos (by show (b.val * 4096 + s.val) % 4096 = 0; omega)]
      exact hz
    · rw [dif_pos (by omega), if_neg (by show ¬(b.val * 4096 + s.val) % 4096 = 0; omega)]
      exact congrArg (fun r => Z (ix2 r C)) (Fin.ext (by show b.val * 4096 + (s.val - 1) = b.val * 4096 + s.val - 1; omega))
  have hn : (if h : 1 ≤ 2 + s.val ∧ 2 + s.val - 1 < 4096 then Z (ix2 ⟨b.val * 4096 + (2 + s.val - 1), by omega⟩ C) else FloatOps.sitofp (F := Ideal) .f32 0#32)
      = nextAt Z ⟨b.val * 4096 + s.val, by omega⟩ C := by
    unfold nextAt
    by_cases h : s.val = 4095
    · rw [dif_neg (by omega), if_pos (by show (b.val * 4096 + s.val) % 4096 = 4095; omega)]
      exact hz
    · rw [dif_pos (by omega), if_neg (by show ¬(b.val * 4096 + s.val) % 4096 = 4095; omega)]
      exact congrArg (fun r => Z (ix2 r C)) (Fin.ext (by show b.val * 4096 + (2 + s.val - 1) = b.val * 4096 + s.val + 1; omega))
  rw [← hp, ← hn]

/-- The normalised attention at a batch's row. -/
theorem attn_at (b : Fin 4) (s : Fin 4096) (C : Fin 1024) :
    val_main_v53 (F := Ideal) A AG (ix3 b s C)
      = rmsOf 0x44800000#32 (fun j => A (ix2 ⟨b.val * 4096 + s.val, by omega⟩ j)) (fun j => AG (ix2 0 j)) C := by
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_cst, val_main_cst_0, val_main_cst_1]
  unfold rmsOf
  rfl

/-- The normalised convolution at a batch's row. -/
theorem cnorm_at (b : Fin 4) (s : Fin 4096) (C : Fin 1024) :
    val_main_v67 (F := Ideal) Z G K B CG (ix3 b s C)
      = rmsOf 0x44800000#32 (convAt Z G K B ⟨b.val * 4096 + s.val, by omega⟩) (fun j => CG (ix2 0 j)) C := by
  pointwise [val_main_v67, val_main_v66, val_main_v65, val_main_v64, val_main_v63, val_main_v62, val_main_v61, val_main_v60, val_main_v59,
    val_main_v58, val_main_v57, val_main_v56, val_main_v55, val_main_v54, val_main_cst_2, val_main_cst_3, val_main_cst_4]
  simp only [conv_at]
  unfold rmsOf
  rfl

/-- The joined heads at a batch's row. -/
theorem head_at (b : Fin 4) (s : Fin 4096) (k : Fin 2048) :
    val_main_v68 (F := Ideal) A Z G K B AG CG (ix3 b s k) = headAt A Z G K B AG CG ⟨b.val * 4096 + s.val, by omega⟩ k := by
  pointwise [val_main_v68]
  simp only [attn_at, cnorm_at]
  unfold headAt
  rfl

/-- The new residual row. -/
theorem new_at (b : Fin 4) (s : Fin 4096) (C : Fin 2048) :
    val_main_v76 (F := Ideal) X A Z G M K B AG CG W (ix3 b s C) = newAt X A Z G M K B AG CG W ⟨b.val * 4096 + s.val, by omega⟩ C := by
  pointwise [val_main_v76, val_main_v75, val_main_v74, val_main_v73, val_main_v72, val_main_v71, val_main_v70, val_main_v69, val_main_v1, val_main_v0]
  simp only [head_at]
  unfold newAt
  have hq : (b.val * 4096 + s.val) / 4096 = b.val := by omega
  simp only [hq]

/-- The row that the feed-forward part reads. -/
theorem mod_at (b : Fin 4) (s : Fin 4096) (C : Fin 2048) :
    val_main_v96 (F := Ideal) X A Z G M K B AG CG W NG (ix3 b s C) = modAt X A Z G M K B AG CG W NG ⟨b.val * 4096 + s.val, by omega⟩ C := by
  pointwise [val_main_v96, val_main_v95, val_main_v94, val_main_v93, val_main_v92, val_main_v91, val_main_v90, val_main_v89, val_main_v88, val_main_v87,
    val_main_v86, val_main_v85, val_main_v84, val_main_v83, val_main_v82, val_main_v81, val_main_v80, val_main_v79, val_main_v78, val_main_v77,
    val_main_cst_5, val_main_cst_6, val_main_cst_7, val_main_cst_8, val_main_v2, val_main_v3, val_main_v4, val_main_v5]
  simp only [new_at]
  unfold modAt rmsOf
  have hq : (b.val * 4096 + s.val) / 4096 = b.val := by omega
  simp only [hq]

/-- The first result, by row and column. -/
theorem new_rows (R : Fin 16384) (C : Fin 2048) :
    val_main_v97 (F := Ideal) X A Z G M K B AG CG W (ix2 R C) = newAt X A Z G M K B AG CG W R C := by
  pointwise [val_main_v97]
  refine (new_at X A Z G M K B AG CG W _ _ C).trans ?_
  exact congrArg (fun r => newAt X A Z G M K B AG CG W r C) (Fin.ext (by dsimp only; omega))

/-- The second result, by row and column. -/
theorem mod_rows (R : Fin 16384) (C : Fin 2048) :
    val_main_v99 (F := Ideal) X A Z G M K B AG CG W NG (ix2 R C) = modAt X A Z G M K B AG CG W NG R C := by
  pointwise [val_main_v99, val_main_v98]
  refine (mod_at X A Z G M K B AG CG W NG _ _ C).trans ?_
  exact congrArg (fun r => modAt X A Z G M K B AG CG W NG r C) (Fin.ext (by dsimp only; omega))

end Cert.MergeRefRead

end
-- ==== Proof.MergeClaim.lean ====
module

public import proofs.«01_k».proof.Proof.MergeFinal
public import proofs.«01_k».proof.Proof.MergeRef
public import proofs.«01_k».proof.Proof.Gen.Merge.Frame
public import proofs.«01_k».proof.Proof.Gen.MergeRefIdeal.Run
public import proofs.«01_k».proof.Defs

/-! The certificate's claims of the output projection. -/

@[expose] public section

set_option maxRecDepth 16384

noncomputable section

namespace Cert.MergeClaim

open Idealize.ShloMosaic Idealize.ShloMosaic.Tactic
open Idealize.SL Idealize.SL.Sem

/-- The kernel leaves its arguments and counters as launched. -/
theorem frame_g : Cert.quiescent_Merge := fun m ρ _ => Cert.Merge.Gen.frame m ρ

/-- So does the idealized kernel. -/
theorem frame_gi : Cert.quiescent_MergeIdeal := fun m ρ _ => Cert.MergeIdeal.Gen.frame m ρ

/-- The reference runs, keeps its arguments and leaves every counter at zero. -/
theorem frame_gr : Cert.quiescent_MergeRefIdeal := fun m ρ _ =>
  (θ_run Cert.MergeRefIdeal.defs _ _).mono (fun r h => ⟨fun c => (h c).2.2, sem_eq_zero_of_no_sems (by decide) r.2⟩)
    (Cert.MergeRefIdeal.Value.run (F := Ideal) m ρ)

/-- Idealizing the kernel rewrites no operation. -/
theorem preserves : Cert.preserves_Merge_MergeIdeal := trivial

/-- The reference's first result is the kernel's. -/
theorem new_result (m : (ℓ : Loc Cert.MergeIdeal.nD Cert.MergeIdeal.τ Cert.MergeIdeal.sig) → Buf (Elt Ideal) ℓ) (c : Dev Cert.MergeIdeal.nD) :
    (Cert.MergeIdeal.Gen.dats m 0 c).arrAt 17 Cert.MergeIdeal.cfg0.N
      = Cert.MergeRefIdeal.Read.val_main_v97 (F := Ideal) (Cert.MergeRun.xA m c) (Cert.MergeRun.aA m c) (Cert.MergeRun.zA m c) (Cert.MergeRun.gA m c)
          (Cert.MergeRun.mA m c) (Cert.MergeRun.kA m c) (Cert.MergeRun.bA m c) (Cert.MergeRun.agA m c) (Cert.MergeRun.cgA m c) (Cert.MergeRun.wA m c) := by
  rw [Cert.MergeRun.final17]
  funext i
  have e : i = ix2 ⟨(i 0).val, (i 0).isLt⟩ ⟨(i 1).val, (i 1).isLt⟩ := by
    funext d; fin_cases d <;> rfl
  conv_rhs => rw [e]
  exact (Cert.MergeRefRead.new_rows _ _ _ _ _ _ _ _ _ _ _ _).symm

/-- And the second. -/
theorem mod_result (m : (ℓ : Loc Cert.MergeIdeal.nD Cert.MergeIdeal.τ Cert.MergeIdeal.sig) → Buf (Elt Ideal) ℓ) (c : Dev Cert.MergeIdeal.nD) :
    (Cert.MergeIdeal.Gen.dats m 0 c).arrAt 18 Cert.MergeIdeal.cfg0.N
      = Cert.MergeRefIdeal.Read.val_main_v99 (F := Ideal) (Cert.MergeRun.xA m c) (Cert.MergeRun.aA m c) (Cert.MergeRun.zA m c) (Cert.MergeRun.gA m c)
          (Cert.MergeRun.mA m c) (Cert.MergeRun.kA m c) (Cert.MergeRun.bA m c) (Cert.MergeRun.agA m c) (Cert.MergeRun.cgA m c) (Cert.MergeRun.wA m c)
          (Cert.MergeRun.ngA m c) := by
  rw [Cert.MergeRun.final18]
  funext i
  have e : i = ix2 ⟨(i 0).val, (i 0).isLt⟩ ⟨(i 1).val, (i 1).isLt⟩ := by
    funext d; fin_cases d <;> rfl
  conv_rhs => rw [e]
  exact (Cert.MergeRefRead.mod_rows _ _ _ _ _ _ _ _ _ _ _ _ _).symm

/-- The idealized kernel and the reference end with equal results. -/
theorem algebraic : Cert.algebraic_MergeIdeal_MergeRefIdeal := by
  pair_intro
  · run_from Cert.MergeIdeal.Value.run_blocks (F := Ideal) m g
  · run_from Cert.MergeRefIdeal.Value.run (F := Ideal) m' g'
    all_goals obtain ⟨h0, h1, h2, h3, h4, h5, h6, h7, h8, h9, h10, h11⟩ := hagree c
    · rw [Cert.MergeRefIdeal.Read.val_main_v97_eq, h0, h1, h3, h4, h5, h6, h7, h8, h9, h10]
      exact (new_result m c).symm
    · rw [Cert.MergeRefIdeal.Read.val_main_v99_eq, h0, h1, h3, h4, h5, h6, h7, h8, h9, h10, h11]
      exact (mod_result m c).symm

end Cert.MergeClaim
end
-- ==== Proof.InRun.lean ====
module

public import proofs.«01_k».proof.Proof.Gen.InIdeal.Frame
public import proofs.«01_k».proof.Proof.Gen.InIdeal.Skeleton

/-! The input projection's body, by the branches that a grid point takes: what each leaves in the four output blocks and
    in the eight buffers that it carries from point to point. -/

@[expose] public section

set_option maxRecDepth 16384

noncomputable section

namespace Cert.InRun

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The kinds of grid points: the first one does nothing; the next ones normalize rows only, the fourth of them also hands
    the rows over; the fifth multiplies only; after it the steps go round five by five. -/
inductive Kind
  | nothing | norm | hand | begin | step0 | step1 | step2 | step3 | step4

/-- The second branch's condition: the fourth point. -/
def cond2 (i : grid0.Coords) : BitVec 1 := Scalar.cmpi .ne (Scalar.extui (Scalar.cmpi .eq (BitVec.ofNat 32 (i 0).val) 4#32) : BitVec 32) 0#32
/-- The third branch's condition: the fifth point. -/
def cond3 (i : grid0.Coords) : BitVec 1 := Scalar.cmpi .ne (Scalar.extui (Scalar.cmpi .eq (BitVec.ofNat 32 (i 0).val) 5#32) : BitVec 32) 0#32

/-- Which of the eight branches each kind of point takes. -/
def Kind.takes : Kind → Fin 8 → Bool
  | .nothing => ![false, false, false, false, false, false, false, false]
  | .norm => ![true, false, false, false, false, false, false, false]
  | .hand => ![true, true, false, false, false, false, false, false]
  | .begin => ![false, false, true, false, false, false, false, false]
  | .step0 => ![false, false, false, true, false, false, false, false]
  | .step1 => ![false, false, false, false, true, false, false, false]
  | .step2 => ![false, false, false, false, false, true, false, false]
  | .step3 => ![false, false, false, false, false, false, true, false]
  | .step4 => ![false, false, false, false, false, false, false, true]

/-- The eight conditions at a grid point. -/
def conds (i : grid0.Coords) : Fin 8 → BitVec 1 :=
  ![k0_cond1 i, cond2 i, cond3 i, k0_cond4 i, k0_cond5 i, k0_cond6 i, k0_cond7 i, k0_cond8 i]

/-- A grid point is of a kind if it takes that kind's branches and no others. -/
def IsKind (i : grid0.Coords) (k : Kind) : Prop := ∀ j, conds i j = 1#1 ↔ k.takes j = true

/-- The rows that the fourth point normalizes are the last quarter. -/
theorem off_hand : ∀ i : grid0.Coords, cond2 i = 1#1 → k0_off1 i = ![768, 0] := by decide +kernel

/-- At the fourth point the offset of the stored rows is the number 768. -/
@[reducible] instance closed_hand (i : grid0.Coords) [hk : Fact (IsKind i .hand)] : ClosedOff (k0_off1 i) :=
  ⟨![768, 0], off_hand i ((hk.out 1).mpr rfl)⟩

variable {F : FTy → Type} [FloatOps F]

local notation "𝕄" => MT nD τ sig Unit (Elt F) ℕ (UR sig nD τ) ℕ

variable (F) in
/-- The contents of the four output blocks and of the eight carried buffers. -/
structure Bufs where
  /-- Contents: the queries' block. -/
  q : Vec F S1024x1024 .bf16
  /-- Contents: the keys' and values' block. -/
  kv : Vec F S1024x768 .bf16
  /-- Contents: the gated product's block. -/
  z : Vec F S1024x512 .bf16
  /-- Contents: the gates' block. -/
  gb : Vec F S1024x512 .bf16
  /-- Contents: the current rows. -/
  hc : Vec F S1024x2048 .bf16
  /-- Contents: the next rows. -/
  hn : Vec F S1024x2048 .bf16
  /-- Contents: the first left product. -/
  a0 : Vec F S1024x512 .f32
  /-- Contents: the second left product. -/
  a1 : Vec F S1024x512 .f32
  /-- Contents: the third left product. -/
  a2 : Vec F S1024x512 .f32
  /-- Contents: the first right product. -/
  b0 : Vec F S1024x512 .f32
  /-- Contents: the second right product. -/
  b1 : Vec F S1024x512 .f32
  /-- Contents: the third right product. -/
  b2 : Vec F S1024x512 .f32

variable (F) in
/-- The pieces written into each of them, the last first. -/
structure Stores where
  /-- Pieces of the queries' block. -/
  q : List (View.Piece (Elt F) S1024x1024 .bf16)
  /-- Pieces of the keys' and values' block. -/
  kv : List (View.Piece (Elt F) S1024x768 .bf16)
  /-- Pieces of the gated product's block. -/
  z : List (View.Piece (Elt F) S1024x512 .bf16)
  /-- Pieces of the gates' block. -/
  gb : List (View.Piece (Elt F) S1024x512 .bf16)
  /-- Pieces of the current rows. -/
  hc : List (View.Piece (Elt F) S1024x2048 .bf16)
  /-- Pieces of the next rows. -/
  hn : List (View.Piece (Elt F) S1024x2048 .bf16)
  /-- Pieces of the first left product. -/
  a0 : List (View.Piece (Elt F) S1024x512 .f32)
  /-- Pieces of the second left product. -/
  a1 : List (View.Piece (Elt F) S1024x512 .f32)
  /-- Pieces of the third left product. -/
  a2 : List (View.Piece (Elt F) S1024x512 .f32)
  /-- Pieces of the first right product. -/
  b0 : List (View.Piece (Elt F) S1024x512 .f32)
  /-- Pieces of the second right product. -/
  b1 : List (View.Piece (Elt F) S1024x512 .f32)
  /-- Pieces of the third right product. -/
  b2 : List (View.Piece (Elt F) S1024x512 .f32)

/-- A whole buffer held at contents. -/
def pt (c : Dev nD) {s : Shape} {e : EltTy} {M : Memref sig .tc .vmem s e} (h : M.IsWhole) (x : s.Idx → Elt F e) : sProp 𝕄 :=
  M.view.loc (c : Thread nD τ) ↦[M.view.set]{fullShare} h.unread x

/-- A whole buffer held at contents over which pieces were written. -/
def wr (c : Dev nD) {s : Shape} {e : EltTy} {M : Memref sig .tc .vmem s e} (h : M.IsWhole) (x : s.Idx → Elt F e)
    (L : List (View.Piece (Elt F) s e)) : sProp 𝕄 :=
  M.view.loc (c : Thread nD τ) ↦[M.view.set]{fullShare} M.view.writes (Elt F) (h.unread x) L

variable (c : Dev nD) (i : grid0.Coords)
  (arg1 : Memref sig .tc .vmem S256x2048 .f32) (harg1 : arg1.IsWhole)
  (arg2 : Memref sig .tc .vmem S16x2048 .f32) (harg2 : arg2.IsWhole)
  (arg3 : Memref sig .tc .vmem S1x1x1x2048 .f32) (harg3 : arg3.IsWhole)
  (arg4 : Memref sig .tc .vmem S1x1x1x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x1024 .bf16) (harg13 : arg13.IsWhole)
  (arg14 : Memref sig .tc .vmem S1024x768 .bf16) (harg14 : arg14.IsWhole)
  (arg15 : Memref sig .tc .vmem S1024x512 .bf16) (harg15 : arg15.IsWhole)
  (arg16 : Memref sig .tc .vmem S1024x512 .bf16) (harg16 : arg16.IsWhole)
  (arg17 : Memref sig .tc .vmem S1024x2048 .bf16) (harg17 : arg17.IsWhole)
  (arg18 : Memref sig .tc .vmem S1024x2048 .bf16) (harg18 : arg18.IsWhole)
  (arg19 : Memref sig .tc .vmem S1024x512 .f32) (harg19 : arg19.IsWhole)
  (arg20 : Memref sig .tc .vmem S1024x512 .f32) (harg20 : arg20.IsWhole)
  (arg21 : Memref sig .tc .vmem S1024x512 .f32) (harg21 : arg21.IsWhole)
  (arg22 : Memref sig .tc .vmem S1024x512 .f32) (harg22 : arg22.IsWhole)
  (arg23 : Memref sig .tc .vmem S1024x512 .f32) (harg23 : arg23.IsWhole)
  (arg24 : Memref sig .tc .vmem S1024x512 .f32) (harg24 : arg24.IsWhole)
  (x0 : Vec F S256x2048 .f32) (x1 : Vec F S16x2048 .f32) (x2 : Vec F S1x1x1x2048 .f32) (x3 : Vec F S1x1x1x2048 .f32) (x4 : Vec F S1x2048 .f32) (x5 : Vec F S1x2048x512 .bf16) (x6 : Vec F S1x2048x512 .bf16) (x7 : Vec F S1x128 .f32) (x8 : Vec F S1x128 .f32) (x9 : Vec F S1024x128 .f32) (x10 : Vec F S1024x128 .f32) (x11 : Vec F S1024x128 .f32) (B : Bufs F)

/-- The twelve blocks the body reads, held at their contents. -/
def ins : sProp 𝕄 :=
  iprop(pt c harg1 x0 ∗ pt c harg2 x1 ∗ pt c harg3 x2 ∗ pt c harg4 x3 ∗ pt c harg5 x4 ∗ pt c harg6 x5 ∗ pt c harg7 x6 ∗ pt c harg8 x7 ∗ pt c harg9 x8 ∗ pt c harg10 x9 ∗ pt c harg11 x10 ∗ pt c harg12 x11)

/-- The outputs and the carried buffers, held at their contents. -/
def held : sProp 𝕄 :=
  iprop(pt c harg13 B.q ∗ pt c harg14 B.kv ∗ pt c harg15 B.z ∗ pt c harg16 B.gb ∗ pt c harg17 B.hc ∗ pt c harg18 B.hn ∗ pt c harg19 B.a0 ∗ pt c harg20 B.a1 ∗ pt c harg21 B.a2 ∗ pt c harg22 B.b0 ∗ pt c harg23 B.b1 ∗ pt c harg24 B.b2)

/-- The outputs and the carried buffers, the pieces written over the contents they had. -/
def wrote (L : Stores F) : sProp 𝕄 :=
  iprop(wr c harg13 B.q L.q ∗ wr c harg14 B.kv L.kv ∗ wr c harg15 B.z L.z ∗ wr c harg16 B.gb L.gb ∗ wr c harg17 B.hc L.hc ∗ wr c harg18 B.hn L.hn ∗ wr c harg19 B.a0 L.a0 ∗ wr c harg20 B.a1 L.a1 ∗ wr c harg21 B.a2 L.a2 ∗ wr c harg22 B.b0 L.b0 ∗ wr c harg23 B.b1 L.b1 ∗ wr c harg24 B.b2 L.b2)

/-- The body as the pipeline calls it. -/
abbrev body : Prog (TpuEff nD τ sig (Elt F) Λ₀ .tc) PUnit :=
  cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

set_option maxHeartbeats 40000000 in
/-- At each kind of point the body writes its pieces into the blocks and the carried buffers, and leaves what it reads. -/
def run (k : Kind) (hk : IsKind i k) :
    { L : Stores F // ∀ K : PUnit → sProp 𝕄,
        iprop(ins c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 ∗ held c arg13 harg13 arg14 harg14 arg15 harg15 arg16 harg16 arg17 harg17 arg18 harg18 arg19 harg19 arg20 harg20 arg21 harg21 arg22 harg22 arg23 harg23 arg24 harg24 B
            ∗ (iprop(ins c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 ∗ wrote c arg13 harg13 arg14 harg14 arg15 harg15 arg16 harg16 arg17 harg17 arg18 harg18 arg19 harg19 arg20 harg20 arg21 harg21 arg22 harg22 arg23 harg23 arg24 harg24 B L) -∗ K ⟨⟩))
          ⊢ wp frame (wpE (defs₀ (F := F)) Variants.none c none) Set.univ (body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine match k, hk with
    | .nothing, hk => ⟨⟨[], [], [], [], [], [], [], [], [], [], [], []⟩, ?_⟩
    | .norm, hk => have h1 : k0_cond1 i = 1#1 := (hk 0).mpr rfl; ⟨⟨[], [], [], [], [], ?_, [], [], [], [], [], []⟩, ?_⟩
    | .hand, hk => have h1 : k0_cond1 i = 1#1 := (hk 0).mpr rfl; haveI : Fact (IsKind i .hand) := ⟨hk⟩; ⟨⟨[], [], [], [], ?_, ?_, [], [], [], [], [], []⟩, ?_⟩
    | .begin, hk => ⟨⟨[], [], [], [], [], [], ?_, [], [], ?_, [], []⟩, ?_⟩
    | .step0, hk => ⟨⟨[], [], [], ?_, [], [], ?_, [], [], ?_, [], []⟩, ?_⟩
    | .step1, hk => ⟨⟨?_, [], [], [], [], ?_, [], ?_, [], [], ?_, []⟩, ?_⟩
    | .step2, hk => ⟨⟨[], ?_, [], [], [], ?_, [], [], ?_, [], [], ?_⟩, ?_⟩
    | .step3, hk => ⟨⟨[], [], ?_, [], [], ?_, ?_, [], [], ?_, [], []⟩, ?_⟩
    | .step4, hk => ⟨⟨[], [], ?_, ?_, ?_, ?_, [], ?_, [], [], [], []⟩, ?_⟩
  all_goals
    first
    | intro K
      have h0 := hk 0; have h2 := hk 1; have h3 := hk 2; have h4 := hk 3; have h5 := hk 4; have h6 := hk 5; have h7 := hk 6; have h8 := hk 7
      simp only [conds, cond2, cond3, Kind.takes, Matrix.cons_val, iff_true, iff_false, Bool.false_eq_true] at h0 h2 h3 h4 h5 h6 h7 h8
      unfold ins held wrote pt wr
      iintro ⟨⟨H1, H2, H3, H4, H5, H6, H7, H8, H9, H10, H11, H12⟩, ⟨H13, H14, H15, H16, H17, H18, H19, H20, H21, H22, H23, H24⟩, Hk⟩
      unfold body
      simp only [cc0_in_proj_eq_skeleton]; unfold cc0_in_proj_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
      sl_exec
      sl_step
      iapply Hk
      isplitl [H1 H2 H3 H4 H5 H6 H7 H8 H9 H10 H11 H12]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      iexact H24
    | skip

end Cert.InRun
end
-- ==== Proof.InStep.lean ====
module

public import proofs.«01_k».proof.Proof.Gen.InIdeal.Frame
public import proofs.«01_k».proof.Proof.InRun
public import Idealize.ShloMosaic.Lib.VecWindow
public import Idealize.ShloMosaic.Lib.WholeRead

/-! What each kind of grid point leaves in the blocks and the carried buffers, as values: products of the carried rows
    with the weights' blocks, a quarter of normalized rows, gates, and the heads' blocks. -/

@[expose] public section

set_option maxRecDepth 16384

noncomputable section

namespace Cert.InRun

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A whole buffer read over contents is those contents. -/
theorem ld {s : Shape} {e : EltTy} {M : Memref sig .tc .vmem s e} (h : M.IsWhole) (X : s.Idx → Elt F e) {off : Fin s.rank → ℕ}
    (inb : ∀ a, off a + s.size a ≤ s.size a) : View.readAt (Elt F) M.view (Rect.unit off s.size inb).toLoadRect (h.unread X) = X := by
  funext x
  rw [h.readAt_unread X (Rect.unit off s.size inb).toLoadRect x]
  exact congrArg X (funext fun a => Fin.ext (by have := inb a; show off a + 1 * (x a).val = (x a).val; omega))

/-- A whole buffer read over any contents is what its view reads. -/
theorem ldw {s : Shape} {e : EltTy} {M : Memref sig .tc .vmem s e} (h : M.IsWhole) (f : M.view.ty.Contents (Elt F)) {off : Fin s.rank → ℕ}
    (inb : ∀ a, off a + s.size a ≤ s.size a) : View.readAt (Elt F) M.view (Rect.unit off s.size inb).toLoadRect f = M.view.read (Elt F) f := by
  rw [← h.unread_read f, ld h _ inb, h.read_unread]

/-- Writing nothing leaves the contents. -/
theorem rd_nil {s : Shape} {e : EltTy} {M : Memref sig .tc .vmem s e} (h : M.IsWhole) (X : s.Idx → Elt F e) :
    M.view.read (Elt F) (M.view.writes (Elt F) (h.unread X) []) = X := by
  rw [View.writes_nil, h.read_unread]

/-- A whole buffer written at once holds what was written. -/
theorem rd_full {s : Shape} {e : EltTy} {M : Memref sig .tc .vmem s e} (h : M.IsWhole) (X w : s.Idx → Elt F e) {off : Fin s.rank → ℕ}
    (inb : ∀ a, off a + s.size a ≤ s.size a) :
    M.view.read (Elt F) (M.view.writes (Elt F) (h.unread X) [⟨Rect.unit off s.size inb, w⟩]) = w :=
  View.read_writes_full M.view _ inb w []

/-- The rows with 256 of them, from an offset on, replaced. -/
def rows (off : Fin 2 → ℕ) (w : Vec F S256x2048 .bf16) (x : Vec F S1024x2048 .bf16) : Vec F S1024x2048 .bf16 :=
  VecWindow.put (s := S1024x2048) x off S256x2048.size w

/-- A buffer of rows with 256 of them written over. -/
theorem rd_rows {M : Memref sig .tc .vmem S1024x2048 .bf16} (h : M.IsWhole) (X : Vec F S1024x2048 .bf16) (w : Vec F S256x2048 .bf16)
    {off off' : Fin 2 → ℕ} (inb : ∀ a, off a + S256x2048.size a ≤ S1024x2048.size a) (e : off = off') :
    M.view.read (Elt F) (M.view.writes (Elt F) (h.unread X) [⟨Rect.unit (s := S1024x2048) off S256x2048.size inb, w⟩]) = rows off' w X := by
  rw [View.read_writes_cons_put M.view _ inb w [] e, rd_nil]; rfl

/-- The 256 normalized rows, scaled and shifted. -/
def normed (x0 : Vec F S256x2048 .f32) (x2 x3 : Vec F S1x1x1x2048 .f32) (x4 : Vec F S1x2048 .f32) : Vec F S256x2048 .bf16 := k0_pay56 x0 x4 x3 x2

/-- Buffers about which nothing is known. -/
def blank : Bufs F := ⟨View.canon [], View.canon [], View.canon [], View.canon [], View.canon [], View.canon [], View.canon [], View.canon [], View.canon [], View.canon [], View.canon [], View.canon []⟩

variable (c : Dev nD) (i : grid0.Coords)
  (arg1 : Memref sig .tc .vmem S256x2048 .f32) (harg1 : arg1.IsWhole)
  (arg2 : Memref sig .tc .vmem S16x2048 .f32) (harg2 : arg2.IsWhole)
  (arg3 : Memref sig .tc .vmem S1x1x1x2048 .f32) (harg3 : arg3.IsWhole)
  (arg4 : Memref sig .tc .vmem S1x1x1x2048 .f32) (harg4 : arg4.IsWhole)
  (arg5 : Memref sig .tc .vmem S1x2048 .f32) (harg5 : arg5.IsWhole)
  (arg6 : Memref sig .tc .vmem S1x2048x512 .bf16) (harg6 : arg6.IsWhole)
  (arg7 : Memref sig .tc .vmem S1x2048x512 .bf16) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1024x128 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1024x1024 .bf16) (harg13 : arg13.IsWhole)
  (arg14 : Memref sig .tc .vmem S1024x768 .bf16) (harg14 : arg14.IsWhole)
  (arg15 : Memref sig .tc .vmem S1024x512 .bf16) (harg15 : arg15.IsWhole)
  (arg16 : Memref sig .tc .vmem S1024x512 .bf16) (harg16 : arg16.IsWhole)
  (arg17 : Memref sig .tc .vmem S1024x2048 .bf16) (harg17 : arg17.IsWhole)
  (arg18 : Memref sig .tc .vmem S1024x2048 .bf16) (harg18 : arg18.IsWhole)
  (arg19 : Memref sig .tc .vmem S1024x512 .f32) (harg19 : arg19.IsWhole)
  (arg20 : Memref sig .tc .vmem S1024x512 .f32) (harg20 : arg20.IsWhole)
  (arg21 : Memref sig .tc .vmem S1024x512 .f32) (harg21 : arg21.IsWhole)
  (arg22 : Memref sig .tc .vmem S1024x512 .f32) (harg22 : arg22.IsWhole)
  (arg23 : Memref sig .tc .vmem S1024x512 .f32) (harg23 : arg23.IsWhole)
  (arg24 : Memref sig .tc .vmem S1024x512 .f32) (harg24 : arg24.IsWhole)
  (x0 : Vec F S256x2048 .f32) (x1 : Vec F S16x2048 .f32) (x2 : Vec F S1x1x1x2048 .f32) (x3 : Vec F S1x1x1x2048 .f32) (x4 : Vec F S1x2048 .f32) (x5 : Vec F S1x2048x512 .bf16) (x6 : Vec F S1x2048x512 .bf16) (x7 : Vec F S1x128 .f32) (x8 : Vec F S1x128 .f32) (x9 : Vec F S1024x128 .f32) (x10 : Vec F S1024x128 .f32) (x11 : Vec F S1024x128 .f32) (B : Bufs F)

/-- The contents after pieces are written. -/
def next (L : Stores F) : Bufs F :=
  ⟨arg13.view.read (Elt F) (arg13.view.writes (Elt F) (harg13.unread B.q) L.q),
    arg14.view.read (Elt F) (arg14.view.writes (Elt F) (harg14.unread B.kv) L.kv),
    arg15.view.read (Elt F) (arg15.view.writes (Elt F) (harg15.unread B.z) L.z),
    arg16.view.read (Elt F) (arg16.view.writes (Elt F) (harg16.unread B.gb) L.gb),
    arg17.view.read (Elt F) (arg17.view.writes (Elt F) (harg17.unread B.hc) L.hc),
    arg18.view.read (Elt F) (arg18.view.writes (Elt F) (harg18.unread B.hn) L.hn),
    arg19.view.read (Elt F) (arg19.view.writes (Elt F) (harg19.unread B.a0) L.a0),
    arg20.view.read (Elt F) (arg20.view.writes (Elt F) (harg20.unread B.a1) L.a1),
    arg21.view.read (Elt F) (arg21.view.writes (Elt F) (harg21.unread B.a2) L.a2),
    arg22.view.read (Elt F) (arg22.view.writes (Elt F) (harg22.unread B.b0) L.b0),
    arg23.view.read (Elt F) (arg23.view.writes (Elt F) (harg23.unread B.b1) L.b1),
    arg24.view.read (Elt F) (arg24.view.writes (Elt F) (harg24.unread B.b2) L.b2)⟩

/-- The contents of the blocks and the buffers after pieces are written are held. -/
theorem wrote_held (L : Stores F) :
    (wrote c arg13 harg13 arg14 harg14 arg15 harg15 arg16 harg16 arg17 harg17 arg18 harg18 arg19 harg19 arg20 harg20 arg21 harg21 arg22 harg22 arg23 harg23 arg24 harg24 B L : sProp 𝕄) ⊢ held c arg13 harg13 arg14 harg14 arg15 harg15 arg16 harg16 arg17 harg17 arg18 harg18 arg19 harg19 arg20 harg20 arg21 harg21 arg22 harg22 arg23 harg23 arg24 harg24 (next arg13 harg13 arg14 harg14 arg15 harg15 arg16 harg16 arg17 harg17 arg18 harg18 arg19 harg19 arg20 harg20 arg21 harg21 arg22 harg22 arg23 harg23 arg24 harg24 B L) := by
  unfold wrote held next pt wr
  simp only [Memref.IsWhole.unread_read]
  exact .rfl

/-- The queries' block of a step, from the two products it reads. -/
def qOut (a b : Vec F S1024x512 .f32) (hk : IsKind i .step1) : Vec F S1024x1024 .bf16 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 { (blank : Bufs F) with a0 := a, b0 := b } .step1 hk).1.q

/-- The keys' and values' block of a step, from the product it reads. -/
def kvOut (a : Vec F S1024x512 .f32) (hk : IsKind i .step2) : Vec F S1024x768 .bf16 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 { (blank : Bufs F) with a1 := a } .step2 hk).1.kv

/-- The normalized rows, as the body reads its blocks. -/
theorem normed_ld :
    k0_pay56 (View.readAt (Elt F) arg1.view (Rect.unit (s := S256x2048) ![0, 0] S256x2048.size inb_S256x2048_S256x2048_0_0).toLoadRect (harg1.unread x0))
      (View.readAt (Elt F) arg5.view (Rect.unit (s := S1x2048) ![0, 0] S1x2048.size inb_S1x2048_S1x2048_0_0).toLoadRect (harg5.unread x4))
      (View.readAt (Elt F) arg4.view (Rect.unit (s := S1x1x1x2048) ![0, 0, 0, 0] S1x1x1x2048.size inb_S1x1x1x2048_S1x1x1x2048_0_0_0_0).toLoadRect (harg4.unread x3))
      (View.readAt (Elt F) arg3.view (Rect.unit (s := S1x1x1x2048) ![0, 0, 0, 0] S1x1x1x2048.size inb_S1x1x1x2048_S1x1x1x2048_0_0_0_0).toLoadRect (harg3.unread x2))
      = normed x0 x2 x3 x4 := by
  rw [ld harg1, ld harg5, ld harg4, ld harg3]; rfl

/-- The queries' block is written in full. -/
theorem coverQ (hk : IsKind i .step1) (y : S1024x1024.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1.q, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1.q S1024x128.size (by sl_kernel_rfl) y

/-- The keys' and values' block is written in full. -/
theorem coverKv (hk : IsKind i .step2) (y : S1024x768.Idx) : ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1.kv, y ∈ pc.1.set :=
  View.cover_of_tiledL (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1.kv S1024x128.size (by sl_kernel_rfl) y

/-- What a point that only normalizes leaves: the next rows. -/
theorem norm_hn {r : ℕ} (e : k0_off1 i = ![r, 0]) (hk : IsKind i .norm) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).hn = rows ![r, 0] (normed x0 x2 x3 x4) B.hn :=
  (rd_rows harg18 _ _ _ e).trans (congrArg (fun w => rows ![r, 0] w B.hn) (normed_ld arg1 harg1 arg3 harg3 arg4 harg4 arg5 harg5 x0 x2 x3 x4))

/-- What a point that only normalizes does not change. -/
theorem norm_rest (hk : IsKind i .norm) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).z = B.z ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).gb = B.gb ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).hc = B.hc ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).a0 = B.a0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).a1 = B.a1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).b0 = B.b0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).b1 = B.b1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .norm hk).1).b2 = B.b2 :=
  ⟨rd_nil _ _, rd_nil _ _, rd_nil _ _, rd_nil _ _, rd_nil _ _, rd_nil _ _, rd_nil _ _, rd_nil _ _, rd_nil _ _, rd_nil _ _, rd_nil _ _⟩

/-- What the fourth point leaves: the next rows. -/
theorem hand_hn (hk : IsKind i .hand) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).hn = rows ![768, 0] (normed x0 x2 x3 x4) B.hn :=
  (rd_rows harg18 _ _ _ (off_hand i ((hk 1).mpr rfl))).trans (congrArg (fun w => rows ![768, 0] w B.hn) (normed_ld arg1 harg1 arg3 harg3 arg4 harg4 arg5 harg5 x0 x2 x3 x4))

/-- What the fourth point leaves: the current rows. -/
theorem hand_hc (hk : IsKind i .hand) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).hc = rows ![768, 0] (normed x0 x2 x3 x4) B.hn :=
  (rd_full _ _ _ _).trans ((congrArg k0_pay57 ((ldw harg18 _ _).trans ((rd_rows harg18 _ _ _ (off_hand i ((hk 1).mpr rfl))).trans (congrArg (fun w => rows ![768, 0] w B.hn) (normed_ld arg1 harg1 arg3 harg3 arg4 harg4 arg5 harg5 x0 x2 x3 x4))))).trans (shapeCast_self _ _))

set_option maxHeartbeats 2000000 in
/-- What the fourth point does not change. -/
theorem hand_rest (hk : IsKind i .hand) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).z = B.z ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).gb = B.gb ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).a0 = B.a0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).a1 = B.a1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).b0 = B.b0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).b1 = B.b1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .hand hk).1).b2 = B.b2 :=
  ⟨rd_nil _ _, rd_nil _ _, rd_nil _ _, rd_nil _ _, rd_nil _ _, rd_nil _ _, rd_nil _ _, rd_nil _ _, rd_nil _ _, rd_nil _ _⟩

/-- What the fifth point leaves: the first left product. -/
theorem begin_a0 (hk : IsKind i .begin) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).a0 = k0_pay10 B.hc x5 :=
  (rd_full _ _ _ _).trans (congrArg₂ k0_pay58 (ld harg17 _ _) (ld harg6 _ _))

/-- What the fifth point leaves: the first right product. -/
theorem begin_b0 (hk : IsKind i .begin) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).b0 = k0_pay11 B.hc x6 :=
  (rd_full _ _ _ _).trans (congrArg₂ k0_pay59 (ld harg17 _ _) (ld harg7 _ _))

/-- What the fifth point does not change. -/
theorem begin_rest (hk : IsKind i .begin) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).z = B.z ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).gb = B.gb ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).hc = B.hc ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).hn = B.hn ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).a1 = B.a1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).b1 = B.b1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .begin hk).1).b2 = B.b2 :=
  ⟨rd_nil _ _, rd_nil _ _, rd_nil _ _, rd_nil _ _, rd_nil _ _, rd_nil _ _, rd_nil _ _, rd_nil _ _, rd_nil _ _, rd_nil _ _⟩

/-- What a first step leaves: the first left product. -/
theorem step0_a0 (hk : IsKind i .step0) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).a0 = k0_pay10 B.hc x5 :=
  (rd_full _ _ _ _).trans (congrArg₂ k0_pay60 (ld harg17 _ _) (ld harg6 _ _))

/-- What a first step leaves: the first right product. -/
theorem step0_b0 (hk : IsKind i .step0) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).b0 = k0_pay11 B.hc x6 :=
  (rd_full _ _ _ _).trans (congrArg₂ k0_pay61 (ld harg17 _ _) (ld harg7 _ _))

/-- What a first step leaves: the gates' block. -/
theorem step0_gb (hk : IsKind i .step0) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).gb = k0_pay8 B.a1 :=
  (rd_full _ _ _ _).trans (congrArg k0_pay62 (ld harg20 _ _))

/-- What a first step does not change. -/
theorem step0_rest (hk : IsKind i .step0) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).z = B.z ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).hc = B.hc ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).hn = B.hn ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).a1 = B.a1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).b1 = B.b1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step0 hk).1).b2 = B.b2 :=
  ⟨rd_nil _ _, rd_nil _ _, rd_nil _ _, rd_nil _ _, rd_nil _ _, rd_nil _ _, rd_nil _ _, rd_nil _ _, rd_nil _ _⟩

/-- What a second step leaves: the second left product. -/
theorem step1_a1 (hk : IsKind i .step1) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).a1 = k0_pay10 B.hc x5 :=
  (rd_full _ _ _ _).trans (congrArg₂ k0_pay10 (ld harg17 _ _) (ld harg6 _ _))

/-- What a second step leaves: the second right product. -/
theorem step1_b1 (hk : IsKind i .step1) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).b1 = k0_pay11 B.hc x6 :=
  (rd_full _ _ _ _).trans (congrArg₂ k0_pay11 (ld harg17 _ _) (ld harg7 _ _))

/-- What a second step leaves: the next rows. -/
theorem step1_hn (hk : IsKind i .step1) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).hn = rows ![0, 0] (normed x0 x2 x3 x4) B.hn :=
  (rd_rows harg18 _ _ _ rfl).trans (congrArg (fun w => rows ![0, 0] w B.hn) (normed_ld arg1 harg1 arg3 harg3 arg4 harg4 arg5 harg5 x0 x2 x3 x4))

/-- What a second step leaves: the queries' block. -/
theorem step1_q (hk : IsKind i .step1) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).q = qOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B.a0 B.b0 hk :=
  View.read_writes_eq_canon _ _ _ (coverQ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B hk)

/-- What a second step does not change. -/
theorem step1_rest (hk : IsKind i .step1) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).z = B.z ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).gb = B.gb ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).hc = B.hc ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).a0 = B.a0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).b0 = B.b0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step1 hk).1).b2 = B.b2 :=
  ⟨rd_nil _ _, rd_nil _ _, rd_nil _ _, rd_nil _ _, rd_nil _ _, rd_nil _ _, rd_nil _ _, rd_nil _ _⟩

/-- What a third step leaves: the third left product. -/
theorem step2_a2 (hk : IsKind i .step2) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).a2 = k0_pay10 B.hc x5 :=
  (rd_full _ _ _ _).trans (congrArg₂ k0_pay35 (ld harg17 _ _) (ld harg6 _ _))

/-- What a third step leaves: the third right product. -/
theorem step2_b2 (hk : IsKind i .step2) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).b2 = k0_pay11 B.hc x6 :=
  (rd_full _ _ _ _).trans (congrArg₂ k0_pay36 (ld harg17 _ _) (ld harg7 _ _))

/-- What a third step leaves: the next rows. -/
theorem step2_hn (hk : IsKind i .step2) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).hn = rows ![256, 0] (normed x0 x2 x3 x4) B.hn :=
  (rd_rows harg18 _ _ _ rfl).trans (congrArg (fun w => rows ![256, 0] w B.hn) (normed_ld arg1 harg1 arg3 harg3 arg4 harg4 arg5 harg5 x0 x2 x3 x4))

/-- What a third step leaves: the keys' and values' block. -/
theorem step2_kv (hk : IsKind i .step2) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).kv = kvOut c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B.a1 hk :=
  View.read_writes_eq_canon _ _ _ (coverKv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B hk)

/-- What a third step does not change. -/
theorem step2_rest (hk : IsKind i .step2) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).z = B.z ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).gb = B.gb ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).hc = B.hc ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).a0 = B.a0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).a1 = B.a1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).b0 = B.b0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step2 hk).1).b1 = B.b1 :=
  ⟨rd_nil _ _, rd_nil _ _, rd_nil _ _, rd_nil _ _, rd_nil _ _, rd_nil _ _, rd_nil _ _, rd_nil _ _⟩

/-- What a fourth step leaves: the first left product. -/
theorem step3_a0 (hk : IsKind i .step3) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).a0 = k0_pay10 B.hc x5 :=
  (rd_full _ _ _ _).trans (congrArg₂ k0_pay50 (ld harg17 _ _) (ld harg6 _ _))

/-- What a fourth step leaves: the first right product. -/
theorem step3_b0 (hk : IsKind i .step3) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).b0 = k0_pay11 B.hc x6 :=
  (rd_full _ _ _ _).trans (congrArg₂ k0_pay51 (ld harg17 _ _) (ld harg7 _ _))

/-- What a fourth step leaves: the next rows. -/
theorem step3_hn (hk : IsKind i .step3) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).hn = rows ![512, 0] (normed x0 x2 x3 x4) B.hn :=
  (rd_rows harg18 _ _ _ rfl).trans (congrArg (fun w => rows ![512, 0] w B.hn) (normed_ld arg1 harg1 arg3 harg3 arg4 harg4 arg5 harg5 x0 x2 x3 x4))

/-- What a fourth step leaves: the gated product's block. -/
theorem step3_z (hk : IsKind i .step3) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).z = k0_pay5 B.b1 B.a2 :=
  (rd_full _ _ _ _).trans (congrArg₂ k0_pay5 (ld harg23 _ _) (ld harg21 _ _))

/-- What a fourth step does not change. -/
theorem step3_rest (hk : IsKind i .step3) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).gb = B.gb ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).hc = B.hc ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).a1 = B.a1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).b1 = B.b1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step3 hk).1).b2 = B.b2 :=
  ⟨rd_nil _ _, rd_nil _ _, rd_nil _ _, rd_nil _ _, rd_nil _ _, rd_nil _ _, rd_nil _ _, rd_nil _ _⟩

/-- What a fifth step leaves: the second left product. -/
theorem step4_a1 (hk : IsKind i .step4) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).a1 = k0_pay10 B.hc x5 :=
  (rd_full _ _ _ _).trans (congrArg₂ k0_pay54 (ld harg17 _ _) (ld harg6 _ _))

/-- What a fifth step leaves: the next rows. -/
theorem step4_hn (hk : IsKind i .step4) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).hn = rows ![768, 0] (normed x0 x2 x3 x4) B.hn :=
  (rd_rows harg18 _ _ _ rfl).trans (congrArg (fun w => rows ![768, 0] w B.hn) (normed_ld arg1 harg1 arg3 harg3 arg4 harg4 arg5 harg5 x0 x2 x3 x4))

/-- What a fifth step leaves: the current rows. -/
theorem step4_hc (hk : IsKind i .step4) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).hc = rows ![768, 0] (normed x0 x2 x3 x4) B.hn :=
  (rd_full _ _ _ _).trans ((congrArg k0_pay9 ((ldw harg18 _ _).trans ((rd_rows harg18 _ _ _ rfl).trans (congrArg (fun w => rows ![768, 0] w B.hn) (normed_ld arg1 harg1 arg3 harg3 arg4 harg4 arg5 harg5 x0 x2 x3 x4))))).trans (shapeCast_self _ _))

/-- What a fifth step leaves: the gated product's block. -/
theorem step4_z (hk : IsKind i .step4) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).z = k0_pay5 B.b2 B.a0 :=
  (rd_full _ _ _ _).trans (congrArg₂ k0_pay7 (ld harg24 _ _) (ld harg19 _ _))

/-- What a fifth step leaves: the gates' block. -/
theorem step4_gb (hk : IsKind i .step4) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).gb = k0_pay8 B.b0 :=
  (rd_full _ _ _ _).trans (congrArg k0_pay8 (ld harg22 _ _))

/-- What a fifth step does not change. -/
theorem step4_rest (hk : IsKind i .step4) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).a0 = B.a0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).b0 = B.b0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).b1 = B.b1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .step4 hk).1).b2 = B.b2 :=
  ⟨rd_nil _ _, rd_nil _ _, rd_nil _ _, rd_nil _ _, rd_nil _ _, rd_nil _ _, rd_nil _ _⟩

/-- What the first point does not change. -/
theorem nothing_rest (hk : IsKind i .nothing) : (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).q = B.q ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).kv = B.kv ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).z = B.z ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).gb = B.gb ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).hc = B.hc ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).hn = B.hn ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).a0 = B.a0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).a1 = B.a1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).a2 = B.a2 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).b0 = B.b0 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).b1 = B.b1 ∧ (next arg13 harg13 arg14 harg14 arg15 harg15 arg16 harg16 arg17 harg17 arg18 harg18 arg19 harg19 arg20 harg20 arg21 harg21 arg22 harg22 arg23 harg23 arg24 harg24 B (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 x0 x1 x2 x3 x4 x5 x6 x7 x8 x9 x10 x11 B .nothing hk).1).b2 = B.b2 :=
  ⟨rd_nil _ _, rd_nil _ _, rd_nil _ _, rd_nil _ _, rd_nil _ _, rd_nil _ _, rd_nil _ _, rd_nil _ _, rd_nil _ _, rd_nil _ _, rd_nil _ _, rd_nil _ _⟩

end Cert.InRun
end
-- ==== Proof.InInv.lean ====
module

public import proofs.«01_k».proof.Proof.Gen.InIdeal.Frame
public import proofs.«01_k».proof.Proof.InStep

/-! What the input projection carries from grid point to grid point: the current row tile's normalized rows, the quarters of
    the next tile's that are ready, and the products that the next points read. -/

@[expose] public section

set_option maxRecDepth 16384

noncomputable section

namespace Cert.InRun

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Grid point `n`'s kind. -/
def kindOf (n : ℕ) : Kind :=
  if n = 0 then .nothing else if n ≤ 3 then .norm else if n = 4 then .hand else if n = 5 then .begin
  else if n % 5 = 0 then .step0 else if n % 5 = 1 then .step1 else if n % 5 = 2 then .step2 else if n % 5 = 3 then .step3 else .step4

/-- Which points are of a kind. -/
def Kind.holds : Kind → ℕ → Prop
  | .nothing, n => n = 0
  | .norm, n => 1 ≤ n ∧ n ≤ 3
  | .hand, n => n = 4
  | .begin, n => n = 5
  | .step0, n => 6 ≤ n ∧ n % 5 = 0
  | .step1, n => 6 ≤ n ∧ n % 5 = 1
  | .step2, n => 6 ≤ n ∧ n % 5 = 2
  | .step3, n => 6 ≤ n ∧ n % 5 = 3
  | .step4, n => 6 ≤ n ∧ n % 5 = 4

/-- A point is one of its kind's. -/
theorem kind_holds (n : ℕ) : (kindOf n).holds n := by
  unfold kindOf
  split_ifs <;> (unfold Kind.holds; first | omega | exact ⟨by omega, by omega⟩)

/-- A grid point takes its kind's branches. -/
theorem isKind : ∀ t : Fin cfg0.N, IsKind (grid0.coords t) (kindOf t.val) := by
  have h : ∀ t : Fin grid0.N, ∀ j, conds (grid0.coords t) j = 1#1 ↔ (kindOf t.val).takes j = true := by decide +kernel
  exact h

/-- The quarter of the rows that a point which only normalizes stores. -/
theorem off_norm : ∀ t : Fin cfg0.N, 1 ≤ t.val ∧ t.val ≤ 3 → k0_off1 (grid0.coords t) = ![256 * (t.val % 5 - 1), 0] := by
  have h : ∀ t : Fin grid0.N, 1 ≤ t.val ∧ t.val ≤ 3 → k0_off1 (grid0.coords t) = ![256 * (t.val % 5 - 1), 0] := by decide +kernel
  exact h

/-- Window 0's staging buffer is a whole buffer. -/
abbrev hs0 (t : Fin cfg0.N) : (st0_0 t).IsWhole := hstage0_0 ((cfg0.slots t 0).cast nbuf0_0)
/-- Window 1's staging buffer is a whole buffer. -/
abbrev hs1 (t : Fin cfg0.N) : (st0_1 t).IsWhole := hstage0_1 ((cfg0.slots t 1).cast nbuf0_1)
/-- Window 2's staging buffer is a whole buffer. -/
abbrev hs2 (t : Fin cfg0.N) : (st0_2 t).IsWhole := hstage0_2 ((cfg0.slots t 2).cast nbuf0_2)
/-- Window 3's staging buffer is a whole buffer. -/
abbrev hs3 (t : Fin cfg0.N) : (st0_3 t).IsWhole := hstage0_3 ((cfg0.slots t 3).cast nbuf0_3)
/-- Window 4's staging buffer is a whole buffer. -/
abbrev hs4 (t : Fin cfg0.N) : (st0_4 t).IsWhole := hstage0_4 ((cfg0.slots t 4).cast nbuf0_4)
/-- Window 5's staging buffer is a whole buffer. -/
abbrev hs5 (t : Fin cfg0.N) : (st0_5 t).IsWhole := hstage0_5 ((cfg0.slots t 5).cast nbuf0_5)
/-- Window 6's staging buffer is a whole buffer. -/
abbrev hs6 (t : Fin cfg0.N) : (st0_6 t).IsWhole := hstage0_6 ((cfg0.slots t 6).cast nbuf0_6)
/-- Window 7's staging buffer is a whole buffer. -/
abbrev hs7 (t : Fin cfg0.N) : (st0_7 t).IsWhole := hstage0_7 ((cfg0.slots t 7).cast nbuf0_7)
/-- Window 8's staging buffer is a whole buffer. -/
abbrev hs8 (t : Fin cfg0.N) : (st0_8 t).IsWhole := hstage0_8 ((cfg0.slots t 8).cast nbuf0_8)
/-- Window 9's staging buffer is a whole buffer. -/
abbrev hs9 (t : Fin cfg0.N) : (st0_9 t).IsWhole := hstage0_9 ((cfg0.slots t 9).cast nbuf0_9)
/-- Window 10's staging buffer is a whole buffer. -/
abbrev hs10 (t : Fin cfg0.N) : (st0_10 t).IsWhole := hstage0_10 ((cfg0.slots t 10).cast nbuf0_10)
/-- Window 11's staging buffer is a whole buffer. -/
abbrev hs11 (t : Fin cfg0.N) : (st0_11 t).IsWhole := hstage0_11 ((cfg0.slots t 11).cast nbuf0_11)
/-- Window 12's staging buffer is a whole buffer. -/
abbrev hs12 (t : Fin cfg0.N) : (st0_12 t).IsWhole := hstage0_12 ((cfg0.slots t 12).cast nbuf0_12)
/-- Window 13's staging buffer is a whole buffer. -/
abbrev hs13 (t : Fin cfg0.N) : (st0_13 t).IsWhole := hstage0_13 ((cfg0.slots t 13).cast nbuf0_13)
/-- Window 14's staging buffer is a whole buffer. -/
abbrev hs14 (t : Fin cfg0.N) : (st0_14 t).IsWhole := hstage0_14 ((cfg0.slots t 14).cast nbuf0_14)
/-- Window 15's staging buffer is a whole buffer. -/
abbrev hs15 (t : Fin cfg0.N) : (st0_15 t).IsWhole := hstage0_15 ((cfg0.slots t 15).cast nbuf0_15)

/-- Grid point `n`. -/
def gp (n : ℕ) : Fin cfg0.N := ⟨n % 91, Nat.mod_lt _ (by decide)⟩

/-- Grid point `t`'s number names it. -/
theorem gp_val (t : Fin cfg0.N) : gp t.val = t := Fin.ext (Nat.mod_eq_of_lt (N_0 ▸ t.isLt))

/-- The 256 rows that point `t` normalizes. -/
def nrm (c : Dev nD) (t : Fin cfg0.N) : Vec F S256x2048 .bf16 := normed (iblk m c 0 t) (iblk m c 2 t) (iblk m c 3 t) (iblk m c 4 t)

/-- Row tile `k`'s normalized rows. -/
def tileRows (c : Dev nD) (k : ℕ) : Vec F S1024x2048 .bf16 := fun y =>
  nrm m c (gp (5 * k + 1 + (y 0 : ℕ) / 256)) (fun a => match a with
    | ⟨0, _⟩ => (⟨(y 0 : ℕ) % 256, Nat.mod_lt _ (by decide)⟩ : Fin 256)
    | ⟨1, _⟩ => (y 1 : Fin 2048))

/-- The left product of point `n`. -/
def prodA (c : Dev nD) (n : ℕ) : Vec F S1024x512 .f32 := k0_pay10 (tileRows m c (n / 5 - 1)) (iblk m c 5 (gp n))
/-- The right product of point `n`. -/
def prodB (c : Dev nD) (n : ℕ) : Vec F S1024x512 .f32 := k0_pay11 (tileRows m c (n / 5 - 1)) (iblk m c 6 (gp n))

/-- What the carried buffers hold before point `n`. -/
structure Inv (c : Dev nD) (n : ℕ) (B : Bufs F) : Prop where
  /-- The quarters of the next rows that are ready. -/
  hn : ∀ y : S1024x2048.Idx, (y 0 : ℕ) < 256 * (n % 5 - 1) → B.hn y = tileRows m c (n / 5) y
  /-- The current rows. -/
  hc : 5 ≤ n → B.hc = tileRows m c (n / 5 - 1)
  /-- The left product of the point before. -/
  a0 : 6 ≤ n → n % 5 = 1 ∨ n % 5 = 4 → B.a0 = prodA m c (n - 1)
  /-- The right product of the point before. -/
  b0 : 6 ≤ n → n % 5 = 1 ∨ n % 5 = 4 → B.b0 = prodB m c (n - 1)
  /-- The left product of the point before. -/
  a1 : 6 ≤ n → n % 5 = 2 ∨ n % 5 = 0 → B.a1 = prodA m c (n - 1)
  /-- The right product of the point before. -/
  b1 : 6 ≤ n → n % 5 = 2 → B.b1 = prodB m c (n - 1)
  /-- The right product of two points before. -/
  b1' : 6 ≤ n → n % 5 = 3 → B.b1 = prodB m c (n - 2)
  /-- The left product of the point before. -/
  a2 : 6 ≤ n → n % 5 = 3 → B.a2 = prodA m c (n - 1)
  /-- The right product of the point before. -/
  b2 : 6 ≤ n → n % 5 = 3 → B.b2 = prodB m c (n - 1)
  /-- The right product of two points before. -/
  b2' : 6 ≤ n → n % 5 = 4 → B.b2 = prodB m c (n - 2)

/-- The carried buffers hold it whatever the blocks hold. -/
theorem Inv.blocks {c : Dev nD} {n : ℕ} {B : Bufs F} (I : Inv m c n B) (q kv z gb) : Inv m c n { B with q := q, kv := kv, z := z, gb := gb } :=
  ⟨I.hn, I.hc, I.a0, I.b0, I.a1, I.b1, I.b1', I.a2, I.b2, I.b2'⟩

open Classical in
/-- The queries' block that point `t` leaves. -/
def qAt (c : Dev nD) (t : Fin cfg0.N) : Vec F S1024x1024 .bf16 :=
  if h : IsKind (grid0.coords t) .step1 then qOut c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prodA m c (t.val - 1)) (prodB m c (t.val - 1)) h else View.canon []
open Classical in
/-- The keys' and values' block that point `t` leaves. -/
def kvAt (c : Dev nD) (t : Fin cfg0.N) : Vec F S1024x768 .bf16 :=
  if h : IsKind (grid0.coords t) .step2 then kvOut c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (prodA m c (t.val - 1)) h else View.canon []
/-- The gated product's block that point `n` leaves. -/
def zAt (c : Dev nD) (n : ℕ) : Vec F S1024x512 .bf16 := k0_pay5 (prodB m c (n - 2)) (prodA m c (n - 1))
/-- The gates' block that point `n` leaves. -/
def gbAt (c : Dev nD) (n : ℕ) : Vec F S1024x512 .bf16 := if n % 5 = 4 then k0_pay8 (prodB m c (n - 1)) else k0_pay8 (prodA m c (n - 1))

/-- What point `t` writes. -/
def writesAt (c : Dev nD) (t : Fin cfg0.N) (B : Bufs F) (k : Kind) (hk : IsKind (grid0.coords t) k) : Stores F :=
  (run c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B k hk).1

/-- What the blocks and the carried buffers hold after point `t`. -/
def nextAt (c : Dev nD) (t : Fin cfg0.N) (B : Bufs F) (k : Kind) (hk : IsKind (grid0.coords t) k) : Bufs F :=
  next (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) B (writesAt m c t B k hk)

/-- A quarter stored after the quarters before it. -/
theorem rows_step (c : Dev nD) (t : Fin cfg0.N) (hj : 1 ≤ t.val % 5) (X : Vec F S1024x2048 .bf16)
    (I : ∀ y : S1024x2048.Idx, (y 0 : ℕ) < 256 * (t.val % 5 - 1) → X y = tileRows m c (t.val / 5) y) (y : S1024x2048.Idx)
    (hy : (y 0 : ℕ) < 256 * (t.val % 5)) : rows ![256 * (t.val % 5 - 1), 0] (nrm m c t) X y = tileRows m c (t.val / 5) y := by
  unfold rows VecWindow.put
  by_cases h0 : (y 0 : ℕ) < 256 * (t.val % 5 - 1)
  · rw [dif_neg (fun h => absurd (h 0).1 (by show ¬ 256 * (t.val % 5 - 1) ≤ (y 0 : ℕ); omega))]
    exact I y h0
  · have h : ∀ a, (![256 * (t.val % 5 - 1), 0] : Fin 2 → ℕ) a ≤ (y a).val ∧ (y a).val < (![256 * (t.val % 5 - 1), 0] : Fin 2 → ℕ) a + S256x2048.size a := by
      intro a
      match a with
      | ⟨0, _⟩ => exact ⟨by show 256 * (t.val % 5 - 1) ≤ (y 0 : ℕ); omega, by show (y 0 : ℕ) < 256 * (t.val % 5 - 1) + 256; omega⟩
      | ⟨1, _⟩ => exact ⟨Nat.zero_le _, by show (y 1 : ℕ) < 0 + 2048; have := (y 1).isLt; have e : S1024x2048.size 1 = 2048 := rfl; omega⟩
    rw [dif_pos h]
    unfold tileRows
    have e : gp (5 * (t.val / 5) + 1 + (y 0 : ℕ) / 256) = t := by
      rw [show 5 * (t.val / 5) + 1 + (y 0 : ℕ) / 256 = t.val by omega]; exact gp_val t
    rw [e]
    refine congrArg (nrm m c t) (funext fun a => ?_)
    match a with
    | ⟨0, _⟩ => exact Fin.ext (by show (y 0 : ℕ) - 256 * (t.val % 5 - 1) = (y 0 : ℕ) % 256; omega)
    | ⟨1, _⟩ => exact Fin.ext (by show (y 1 : ℕ) - 0 = (y 1 : ℕ); omega)

/-- The last quarter makes the rows complete. -/
theorem rows_last (c : Dev nD) (t : Fin cfg0.N) (hj : t.val % 5 = 4) (X : Vec F S1024x2048 .bf16)
    (I : ∀ y : S1024x2048.Idx, (y 0 : ℕ) < 256 * (t.val % 5 - 1) → X y = tileRows m c (t.val / 5) y) :
    rows ![768, 0] (nrm m c t) X = tileRows m c (t.val / 5) := by
  have e : (![256 * (t.val % 5 - 1), 0] : Fin 2 → ℕ) = ![768, 0] := by rw [hj]
  rw [← e]
  exact funext fun y => rows_step m c t (by omega) X I y (by have := (y 0).isLt; have e : S1024x2048.size 0 = 1024 := rfl; omega)

/-- The left product of point `t`, from the current rows. -/
theorem prodA_of {c : Dev nD} {t : Fin cfg0.N} {X : Vec F S1024x2048 .bf16} (e : X = tileRows m c (t.val / 5 - 1)) :
    k0_pay10 X (iblk m c 5 t) = prodA m c t.val := by
  subst e; unfold prodA; rw [gp_val]

/-- The right product of point `t`, from the current rows. -/
theorem prodB_of {c : Dev nD} {t : Fin cfg0.N} {X : Vec F S1024x2048 .bf16} (e : X = tileRows m c (t.val / 5 - 1)) :
    k0_pay11 X (iblk m c 6 t) = prodB m c t.val := by
  subst e; unfold prodB; rw [gp_val]

/-- What a point leaves: the carried buffers as the next point finds them, and the blocks that it writes. -/
structure Leaves (c : Dev nD) (t : Fin cfg0.N) (B B' : Bufs F) : Prop where
  /-- The carried buffers. -/
  inv : Inv m c (t.val + 1) B'
  /-- The queries' block. -/
  q : B'.q = if 6 ≤ t.val ∧ t.val % 5 = 1 then qAt m c t else B.q
  /-- The keys' and values' block. -/
  kv : B'.kv = if 6 ≤ t.val ∧ t.val % 5 = 2 then kvAt m c t else B.kv
  /-- The gated product's block. -/
  z : B'.z = if 6 ≤ t.val ∧ (t.val % 5 = 3 ∨ t.val % 5 = 4) then zAt m c t.val else B.z
  /-- The gates' block. -/
  gb : B'.gb = if 6 ≤ t.val ∧ (t.val % 5 = 4 ∨ t.val % 5 = 0) then gbAt m c t.val else B.gb

/-- What the first point leaves. -/
theorem leaves_nothing (c : Dev nD) (t : Fin cfg0.N) (B : Bufs F) (I : Inv m c t.val B) (hk : IsKind (grid0.coords t) .nothing) (ht : Kind.holds .nothing t.val) :
    Leaves m c t B (nextAt m c t B .nothing hk) := by
  unfold Kind.holds at ht
  have e_rest := nothing_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_kv, e_z, e_gb, e_hc, e_hn, e_a0, e_a1, e_a2, e_b0, e_b1, e_b2⟩ := e_rest
  replace e_q : (nextAt m c t B .nothing hk).q = B.q := e_q
  replace e_kv : (nextAt m c t B .nothing hk).kv = B.kv := e_kv
  replace e_z : (nextAt m c t B .nothing hk).z = B.z := e_z
  replace e_gb : (nextAt m c t B .nothing hk).gb = B.gb := e_gb
  replace e_hc : (nextAt m c t B .nothing hk).hc = B.hc := e_hc
  replace e_hn : (nextAt m c t B .nothing hk).hn = B.hn := e_hn
  replace e_a0 : (nextAt m c t B .nothing hk).a0 = B.a0 := e_a0
  replace e_a1 : (nextAt m c t B .nothing hk).a1 = B.a1 := e_a1
  replace e_a2 : (nextAt m c t B .nothing hk).a2 = B.a2 := e_a2
  replace e_b0 : (nextAt m c t B .nothing hk).b0 = B.b0 := e_b0
  replace e_b1 : (nextAt m c t B .nothing hk).b1 = B.b1 := e_b1
  replace e_b2 : (nextAt m c t B .nothing hk).b2 = B.b2 := e_b2
  generalize nextAt m c t B .nothing hk = B' at *
  refine ⟨⟨fun y hy => by exfalso; omega, fun h => by exfalso; omega, fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_neg (by omega)]; exact e_kv
  · rw [if_neg (by omega)]; exact e_z
  · rw [if_neg (by omega)]; exact e_gb

/-- What a point that only normalizes leaves. -/
theorem leaves_norm (c : Dev nD) (t : Fin cfg0.N) (B : Bufs F) (I : Inv m c t.val B) (hk : IsKind (grid0.coords t) .norm) (ht : Kind.holds .norm t.val) :
    Leaves m c t B (nextAt m c t B .norm hk) := by
  unfold Kind.holds at ht
  have e_hn : (nextAt m c t B .norm hk).hn = rows ![256 * (t.val % 5 - 1), 0] (nrm m c t) B.hn := norm_hn c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B (off_norm t ht) hk
  have e_rest := norm_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_kv, e_z, e_gb, e_hc, e_a0, e_a1, e_a2, e_b0, e_b1, e_b2⟩ := e_rest
  replace e_q : (nextAt m c t B .norm hk).q = B.q := e_q
  replace e_kv : (nextAt m c t B .norm hk).kv = B.kv := e_kv
  replace e_z : (nextAt m c t B .norm hk).z = B.z := e_z
  replace e_gb : (nextAt m c t B .norm hk).gb = B.gb := e_gb
  replace e_hc : (nextAt m c t B .norm hk).hc = B.hc := e_hc
  replace e_a0 : (nextAt m c t B .norm hk).a0 = B.a0 := e_a0
  replace e_a1 : (nextAt m c t B .norm hk).a1 = B.a1 := e_a1
  replace e_a2 : (nextAt m c t B .norm hk).a2 = B.a2 := e_a2
  replace e_b0 : (nextAt m c t B .norm hk).b0 = B.b0 := e_b0
  replace e_b1 : (nextAt m c t B .norm hk).b1 = B.b1 := e_b1
  replace e_b2 : (nextAt m c t B .norm hk).b2 = B.b2 := e_b2
  generalize nextAt m c t B .norm hk = B' at *
  refine ⟨⟨fun y hy => by have e := rows_step m c t (by omega) B.hn I.hn y (by omega); rw [e_hn, e, show (t.val + 1) / 5 = t.val / 5 by omega], fun h => by exfalso; omega, fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_neg (by omega)]; exact e_kv
  · rw [if_neg (by omega)]; exact e_z
  · rw [if_neg (by omega)]; exact e_gb

/-- What the fourth point leaves. -/
theorem leaves_hand (c : Dev nD) (t : Fin cfg0.N) (B : Bufs F) (I : Inv m c t.val B) (hk : IsKind (grid0.coords t) .hand) (ht : Kind.holds .hand t.val) :
    Leaves m c t B (nextAt m c t B .hand hk) := by
  unfold Kind.holds at ht
  have e_hn : (nextAt m c t B .hand hk).hn = rows ![768, 0] (nrm m c t) B.hn := hand_hn c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  have e_hc : (nextAt m c t B .hand hk).hc = tileRows m c (t.val / 5) := (hand_hc c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (rows_last m c t (by omega) B.hn I.hn)
  have e_rest := hand_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_kv, e_z, e_gb, e_a0, e_a1, e_a2, e_b0, e_b1, e_b2⟩ := e_rest
  replace e_q : (nextAt m c t B .hand hk).q = B.q := e_q
  replace e_kv : (nextAt m c t B .hand hk).kv = B.kv := e_kv
  replace e_z : (nextAt m c t B .hand hk).z = B.z := e_z
  replace e_gb : (nextAt m c t B .hand hk).gb = B.gb := e_gb
  replace e_a0 : (nextAt m c t B .hand hk).a0 = B.a0 := e_a0
  replace e_a1 : (nextAt m c t B .hand hk).a1 = B.a1 := e_a1
  replace e_a2 : (nextAt m c t B .hand hk).a2 = B.a2 := e_a2
  replace e_b0 : (nextAt m c t B .hand hk).b0 = B.b0 := e_b0
  replace e_b1 : (nextAt m c t B .hand hk).b1 = B.b1 := e_b1
  replace e_b2 : (nextAt m c t B .hand hk).b2 = B.b2 := e_b2
  generalize nextAt m c t B .hand hk = B' at *
  refine ⟨⟨fun y hy => by exfalso; omega, fun _ => by rw [e_hc, show (t.val + 1) / 5 - 1 = t.val / 5 by omega], fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_neg (by omega)]; exact e_kv
  · rw [if_neg (by omega)]; exact e_z
  · rw [if_neg (by omega)]; exact e_gb

/-- What the fifth point leaves. -/
theorem leaves_begin (c : Dev nD) (t : Fin cfg0.N) (B : Bufs F) (I : Inv m c t.val B) (hk : IsKind (grid0.coords t) .begin) (ht : Kind.holds .begin t.val) :
    Leaves m c t B (nextAt m c t B .begin hk) := by
  unfold Kind.holds at ht
  have e_a0 : (nextAt m c t B .begin hk).a0 = prodA m c t.val := (begin_a0 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodA_of m (I.hc (by omega)))
  have e_b0 : (nextAt m c t B .begin hk).b0 = prodB m c t.val := (begin_b0 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodB_of m (I.hc (by omega)))
  have e_rest := begin_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_kv, e_z, e_gb, e_hc, e_hn, e_a1, e_a2, e_b1, e_b2⟩ := e_rest
  replace e_q : (nextAt m c t B .begin hk).q = B.q := e_q
  replace e_kv : (nextAt m c t B .begin hk).kv = B.kv := e_kv
  replace e_z : (nextAt m c t B .begin hk).z = B.z := e_z
  replace e_gb : (nextAt m c t B .begin hk).gb = B.gb := e_gb
  replace e_hc : (nextAt m c t B .begin hk).hc = B.hc := e_hc
  replace e_hn : (nextAt m c t B .begin hk).hn = B.hn := e_hn
  replace e_a1 : (nextAt m c t B .begin hk).a1 = B.a1 := e_a1
  replace e_a2 : (nextAt m c t B .begin hk).a2 = B.a2 := e_a2
  replace e_b1 : (nextAt m c t B .begin hk).b1 = B.b1 := e_b1
  replace e_b2 : (nextAt m c t B .begin hk).b2 = B.b2 := e_b2
  generalize nextAt m c t B .begin hk = B' at *
  refine ⟨⟨fun y hy => by exfalso; omega, fun _ => by rw [e_hc, show (t.val + 1) / 5 - 1 = t.val / 5 - 1 by omega]; exact I.hc (by omega), fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_neg (by omega)]; exact e_kv
  · rw [if_neg (by omega)]; exact e_z
  · rw [if_neg (by omega)]; exact e_gb

/-- What a first step leaves. -/
theorem leaves_step0 (c : Dev nD) (t : Fin cfg0.N) (B : Bufs F) (I : Inv m c t.val B) (hk : IsKind (grid0.coords t) .step0) (ht : Kind.holds .step0 t.val) :
    Leaves m c t B (nextAt m c t B .step0 hk) := by
  unfold Kind.holds at ht
  have e_a0 : (nextAt m c t B .step0 hk).a0 = prodA m c t.val := (step0_a0 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodA_of m (I.hc (by omega)))
  have e_b0 : (nextAt m c t B .step0 hk).b0 = prodB m c t.val := (step0_b0 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodB_of m (I.hc (by omega)))
  have e_gb : (nextAt m c t B .step0 hk).gb = gbAt m c t.val := (step0_gb c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (by unfold gbAt; rw [if_neg (by omega), I.a1 (by omega) (by omega)])
  have e_rest := step0_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_kv, e_z, e_hc, e_hn, e_a1, e_a2, e_b1, e_b2⟩ := e_rest
  replace e_q : (nextAt m c t B .step0 hk).q = B.q := e_q
  replace e_kv : (nextAt m c t B .step0 hk).kv = B.kv := e_kv
  replace e_z : (nextAt m c t B .step0 hk).z = B.z := e_z
  replace e_hc : (nextAt m c t B .step0 hk).hc = B.hc := e_hc
  replace e_hn : (nextAt m c t B .step0 hk).hn = B.hn := e_hn
  replace e_a1 : (nextAt m c t B .step0 hk).a1 = B.a1 := e_a1
  replace e_a2 : (nextAt m c t B .step0 hk).a2 = B.a2 := e_a2
  replace e_b1 : (nextAt m c t B .step0 hk).b1 = B.b1 := e_b1
  replace e_b2 : (nextAt m c t B .step0 hk).b2 = B.b2 := e_b2
  generalize nextAt m c t B .step0 hk = B' at *
  refine ⟨⟨fun y hy => by exfalso; omega, fun _ => by rw [e_hc, show (t.val + 1) / 5 - 1 = t.val / 5 - 1 by omega]; exact I.hc (by omega), fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_neg (by omega)]; exact e_kv
  · rw [if_neg (by omega)]; exact e_z
  · rw [if_pos (by omega)]; exact e_gb

/-- What a second step leaves. -/
theorem leaves_step1 (c : Dev nD) (t : Fin cfg0.N) (B : Bufs F) (I : Inv m c t.val B) (hk : IsKind (grid0.coords t) .step1) (ht : Kind.holds .step1 t.val) :
    Leaves m c t B (nextAt m c t B .step1 hk) := by
  unfold Kind.holds at ht
  have e_a1 : (nextAt m c t B .step1 hk).a1 = prodA m c t.val := (step1_a1 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodA_of m (I.hc (by omega)))
  have e_b1 : (nextAt m c t B .step1 hk).b1 = prodB m c t.val := (step1_b1 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodB_of m (I.hc (by omega)))
  have e_hn : (nextAt m c t B .step1 hk).hn = rows ![0, 0] (nrm m c t) B.hn := step1_hn c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  have e_q : (nextAt m c t B .step1 hk).q = qAt m c t := (step1_q c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (by unfold qAt; rw [dif_pos hk, I.a0 (by omega) (by omega), I.b0 (by omega) (by omega)])
  have e_rest := step1_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_kv, e_z, e_gb, e_hc, e_a0, e_a2, e_b0, e_b2⟩ := e_rest
  replace e_kv : (nextAt m c t B .step1 hk).kv = B.kv := e_kv
  replace e_z : (nextAt m c t B .step1 hk).z = B.z := e_z
  replace e_gb : (nextAt m c t B .step1 hk).gb = B.gb := e_gb
  replace e_hc : (nextAt m c t B .step1 hk).hc = B.hc := e_hc
  replace e_a0 : (nextAt m c t B .step1 hk).a0 = B.a0 := e_a0
  replace e_a2 : (nextAt m c t B .step1 hk).a2 = B.a2 := e_a2
  replace e_b0 : (nextAt m c t B .step1 hk).b0 = B.b0 := e_b0
  replace e_b2 : (nextAt m c t B .step1 hk).b2 = B.b2 := e_b2
  generalize nextAt m c t B .step1 hk = B' at *
  refine ⟨⟨fun y hy => by have e := rows_step m c t (by omega) B.hn I.hn y (by omega); rw [show (![256 * (t.val % 5 - 1), 0] : Fin 2 → ℕ) = ![0, 0] by rw [ht.2]] at e; rw [e_hn, e, show (t.val + 1) / 5 = t.val / 5 by omega], fun _ => by rw [e_hc, show (t.val + 1) / 5 - 1 = t.val / 5 - 1 by omega]; exact I.hc (by omega), fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_pos (by omega)]; exact e_q
  · rw [if_neg (by omega)]; exact e_kv
  · rw [if_neg (by omega)]; exact e_z
  · rw [if_neg (by omega)]; exact e_gb

/-- What a third step leaves. -/
theorem leaves_step2 (c : Dev nD) (t : Fin cfg0.N) (B : Bufs F) (I : Inv m c t.val B) (hk : IsKind (grid0.coords t) .step2) (ht : Kind.holds .step2 t.val) :
    Leaves m c t B (nextAt m c t B .step2 hk) := by
  unfold Kind.holds at ht
  have e_a2 : (nextAt m c t B .step2 hk).a2 = prodA m c t.val := (step2_a2 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodA_of m (I.hc (by omega)))
  have e_b2 : (nextAt m c t B .step2 hk).b2 = prodB m c t.val := (step2_b2 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodB_of m (I.hc (by omega)))
  have e_hn : (nextAt m c t B .step2 hk).hn = rows ![256, 0] (nrm m c t) B.hn := step2_hn c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  have e_kv : (nextAt m c t B .step2 hk).kv = kvAt m c t := (step2_kv c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (by unfold kvAt; rw [dif_pos hk, I.a1 (by omega) (by omega)])
  have e_rest := step2_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_z, e_gb, e_hc, e_a0, e_a1, e_b0, e_b1⟩ := e_rest
  replace e_q : (nextAt m c t B .step2 hk).q = B.q := e_q
  replace e_z : (nextAt m c t B .step2 hk).z = B.z := e_z
  replace e_gb : (nextAt m c t B .step2 hk).gb = B.gb := e_gb
  replace e_hc : (nextAt m c t B .step2 hk).hc = B.hc := e_hc
  replace e_a0 : (nextAt m c t B .step2 hk).a0 = B.a0 := e_a0
  replace e_a1 : (nextAt m c t B .step2 hk).a1 = B.a1 := e_a1
  replace e_b0 : (nextAt m c t B .step2 hk).b0 = B.b0 := e_b0
  replace e_b1 : (nextAt m c t B .step2 hk).b1 = B.b1 := e_b1
  generalize nextAt m c t B .step2 hk = B' at *
  refine ⟨⟨fun y hy => by have e := rows_step m c t (by omega) B.hn I.hn y (by omega); rw [show (![256 * (t.val % 5 - 1), 0] : Fin 2 → ℕ) = ![256, 0] by rw [ht.2]] at e; rw [e_hn, e, show (t.val + 1) / 5 = t.val / 5 by omega], fun _ => by rw [e_hc, show (t.val + 1) / 5 - 1 = t.val / 5 - 1 by omega]; exact I.hc (by omega), fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_pos (by omega)]; exact e_kv
  · rw [if_neg (by omega)]; exact e_z
  · rw [if_neg (by omega)]; exact e_gb

/-- What a fourth step leaves. -/
theorem leaves_step3 (c : Dev nD) (t : Fin cfg0.N) (B : Bufs F) (I : Inv m c t.val B) (hk : IsKind (grid0.coords t) .step3) (ht : Kind.holds .step3 t.val) :
    Leaves m c t B (nextAt m c t B .step3 hk) := by
  unfold Kind.holds at ht
  have e_a0 : (nextAt m c t B .step3 hk).a0 = prodA m c t.val := (step3_a0 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodA_of m (I.hc (by omega)))
  have e_b0 : (nextAt m c t B .step3 hk).b0 = prodB m c t.val := (step3_b0 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodB_of m (I.hc (by omega)))
  have e_hn : (nextAt m c t B .step3 hk).hn = rows ![512, 0] (nrm m c t) B.hn := step3_hn c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  have e_z : (nextAt m c t B .step3 hk).z = zAt m c t.val := (step3_z c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (by unfold zAt; rw [I.b1' (by omega) (by omega), I.a2 (by omega) (by omega)])
  have e_rest := step3_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_kv, e_gb, e_hc, e_a1, e_a2, e_b1, e_b2⟩ := e_rest
  replace e_q : (nextAt m c t B .step3 hk).q = B.q := e_q
  replace e_kv : (nextAt m c t B .step3 hk).kv = B.kv := e_kv
  replace e_gb : (nextAt m c t B .step3 hk).gb = B.gb := e_gb
  replace e_hc : (nextAt m c t B .step3 hk).hc = B.hc := e_hc
  replace e_a1 : (nextAt m c t B .step3 hk).a1 = B.a1 := e_a1
  replace e_a2 : (nextAt m c t B .step3 hk).a2 = B.a2 := e_a2
  replace e_b1 : (nextAt m c t B .step3 hk).b1 = B.b1 := e_b1
  replace e_b2 : (nextAt m c t B .step3 hk).b2 = B.b2 := e_b2
  generalize nextAt m c t B .step3 hk = B' at *
  refine ⟨⟨fun y hy => by have e := rows_step m c t (by omega) B.hn I.hn y (by omega); rw [show (![256 * (t.val % 5 - 1), 0] : Fin 2 → ℕ) = ![512, 0] by rw [ht.2]] at e; rw [e_hn, e, show (t.val + 1) / 5 = t.val / 5 by omega], fun _ => by rw [e_hc, show (t.val + 1) / 5 - 1 = t.val / 5 - 1 by omega]; exact I.hc (by omega), fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_neg (by omega)]; exact e_kv
  · rw [if_pos (by omega)]; exact e_z
  · rw [if_neg (by omega)]; exact e_gb

/-- What a fifth step leaves. -/
theorem leaves_step4 (c : Dev nD) (t : Fin cfg0.N) (B : Bufs F) (I : Inv m c t.val B) (hk : IsKind (grid0.coords t) .step4) (ht : Kind.holds .step4 t.val) :
    Leaves m c t B (nextAt m c t B .step4 hk) := by
  unfold Kind.holds at ht
  have e_a1 : (nextAt m c t B .step4 hk).a1 = prodA m c t.val := (step4_a1 c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (prodA_of m (I.hc (by omega)))
  have e_hn : (nextAt m c t B .step4 hk).hn = rows ![768, 0] (nrm m c t) B.hn := step4_hn c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  have e_hc : (nextAt m c t B .step4 hk).hc = tileRows m c (t.val / 5) := (step4_hc c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (rows_last m c t (by omega) B.hn I.hn)
  have e_z : (nextAt m c t B .step4 hk).z = zAt m c t.val := (step4_z c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (by unfold zAt; rw [I.b2' (by omega) (by omega), I.a0 (by omega) (by omega)])
  have e_gb : (nextAt m c t B .step4 hk).gb = gbAt m c t.val := (step4_gb c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk).trans (by unfold gbAt; rw [if_pos (by omega), I.b0 (by omega) (by omega)])
  have e_rest := step4_rest c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) B hk
  obtain ⟨e_q, e_kv, e_a0, e_a2, e_b0, e_b1, e_b2⟩ := e_rest
  replace e_q : (nextAt m c t B .step4 hk).q = B.q := e_q
  replace e_kv : (nextAt m c t B .step4 hk).kv = B.kv := e_kv
  replace e_a0 : (nextAt m c t B .step4 hk).a0 = B.a0 := e_a0
  replace e_a2 : (nextAt m c t B .step4 hk).a2 = B.a2 := e_a2
  replace e_b0 : (nextAt m c t B .step4 hk).b0 = B.b0 := e_b0
  replace e_b1 : (nextAt m c t B .step4 hk).b1 = B.b1 := e_b1
  replace e_b2 : (nextAt m c t B .step4 hk).b2 = B.b2 := e_b2
  generalize nextAt m c t B .step4 hk = B' at *
  refine ⟨⟨fun y hy => by exfalso; omega, fun _ => by rw [e_hc, show (t.val + 1) / 5 - 1 = t.val / 5 by omega], fun h6 hm => by first | (exfalso; omega) | exact e_a0, fun h6 hm => by first | (exfalso; omega) | exact e_b0, fun h6 hm => by first | (exfalso; omega) | exact e_a1, fun h6 hm => by first | (exfalso; omega) | exact e_b1, fun h6 hm => by first | (exfalso; omega) | (rw [e_b1, show t.val + 1 - 2 = t.val - 1 by omega]; exact I.b1 (by omega) (by omega)), fun h6 hm => by first | (exfalso; omega) | exact e_a2, fun h6 hm => by first | (exfalso; omega) | exact e_b2, fun h6 hm => by first | (exfalso; omega) | (rw [e_b2, show t.val + 1 - 2 = t.val - 1 by omega]; exact I.b2 (by omega) (by omega))⟩, ?_, ?_, ?_, ?_⟩
  · rw [if_neg (by omega)]; exact e_q
  · rw [if_neg (by omega)]; exact e_kv
  · rw [if_pos (by omega)]; exact e_z
  · rw [if_pos (by omega)]; exact e_gb

/-- What a point leaves, whatever its kind. -/
theorem leaves_at (c : Dev nD) (t : Fin cfg0.N) (B : Bufs F) (I : Inv m c t.val B) (k : Kind) (hk : IsKind (grid0.coords t) k) (ht : k.holds t.val) :
    Leaves m c t B (nextAt m c t B k hk) := by
  cases k
  · exact leaves_nothing m c t B I hk ht
  · exact leaves_norm m c t B I hk ht
  · exact leaves_hand m c t B I hk ht
  · exact leaves_begin m c t B I hk ht
  · exact leaves_step0 m c t B I hk ht
  · exact leaves_step1 m c t B I hk ht
  · exact leaves_step2 m c t B I hk ht
  · exact leaves_step3 m c t B I hk ht
  · exact leaves_step4 m c t B I hk ht

end Cert.InRun
end
-- ==== Proof.InFrame.lean ====
module

public import proofs.«01_k».proof.Proof.Gen.InIdeal.Frame
public import proofs.«01_k».proof.Proof.InInv

/-! The input projection's launch: every grid point takes what the point before left to what the next one finds, so that the
    whole grid leaves in the arrays the blocks that its points wrote. -/

@[expose] public section

set_option maxRecDepth 16384

noncomputable section

namespace Cert.InRun

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer owned at contents is held at them. -/
theorem owns_pt (c : Dev nD) {s : Shape} {e : EltTy} {M : Memref sig .tc .vmem s e} (h : M.IsWhole) (x : s.Idx → Elt F e) :
    (owns (c : Thread nD τ) M fullShare x : sProp 𝕄) ⊢ pt c h x := by
  unfold owns pt
  iintro ⟨%f, %hf, H⟩
  rw [← h.eq_unread hf]
  iexact H

/-- A whole buffer held at contents is owned at them. -/
theorem pt_owns (c : Dev nD) {s : Shape} {e : EltTy} {M : Memref sig .tc .vmem s e} (h : M.IsWhole) (x : s.Idx → Elt F e) :
    (pt c h x : sProp 𝕄) ⊢ owns (c : Thread nD τ) M fullShare x := by
  unfold owns pt
  iintro H
  iexists _
  isplitr
  · ipureintro; exact h.read_unread x
  iexact H

/-- The carried buffers, held at their contents. -/
def carried (c : Dev nD) (B : Bufs F) : sProp 𝕄 :=
  iprop(pt c (Memref.isWhole_whole cc0_scratch0) B.hc ∗ pt c (Memref.isWhole_whole cc0_scratch1) B.hn ∗ pt c (Memref.isWhole_whole cc0_scratch2) B.a0 ∗ pt c (Memref.isWhole_whole cc0_scratch3) B.a1 ∗ pt c (Memref.isWhole_whole cc0_scratch4) B.a2 ∗ pt c (Memref.isWhole_whole cc0_scratch5) B.b0 ∗ pt c (Memref.isWhole_whole cc0_scratch6) B.b1 ∗ pt c (Memref.isWhole_whole cc0_scratch7) B.b2)

/-- What is held before point `n`: the carried buffers at contents that meet the invariant, and the random-number register. -/
def between (c : Dev nD) (n : ℕ) : sProp 𝕄 :=
  iprop((∃ B : Bufs F, ⌜Inv m c n B⌝ ∗ carried c B) ∗ ∃ r, prngReg c r)

/-- The launch's data: what each window holds after each grid point, and what is carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => qAt m c (gp (t.val - (t.val + 4) % 5))
    | ⟨13, _⟩ => kvAt m c (gp (t.val - (t.val + 3) % 5))
    | ⟨14, _⟩ => zAt m c (if t.val % 5 = 0 then t.val - 1 else t.val)
    | ⟨15, _⟩ => gbAt m c t.val
    | ⟨n + 16, h⟩ => absurd h (by show ¬ n + 16 < 16; omega)
  Φ p := between m c p.val
  q w := Pipeline.shareOf spec0 w
  owed _ := 0

/-- Each window's array is the memory's at the launch. -/
theorem A_eq (c : Dev nD) (w : Fin cfg0.W) : (dats m 0 c).A w = V m c (Pipeline.arrRef spec0 w) := by
  dsimp only [dats]

/-- The body leaves input block 0 as it was. -/
theorem after_0 (c : Dev nD) (t : Fin cfg0.N) : (dats m 0 c).after 0 t = iblk m c 0 t := by dsimp only [dats]
/-- The body finds input block 0. -/
theorem before_0 (c : Dev nD) (t : Fin cfg0.N) (d) : (dats m 0 c).before 0 t d = iblk m c 0 t :=
  before0_0_of m (dats m 0 c) (A_eq m c 0) (after_0 m c) t d
/-- The body leaves input block 1 as it was. -/
theorem after_1 (c : Dev nD) (t : Fin cfg0.N) : (dats m 0 c).after 1 t = iblk m c 1 t := by dsimp only [dats]
/-- The body finds input block 1. -/
theorem before_1 (c : Dev nD) (t : Fin cfg0.N) (d) : (dats m 0 c).before 1 t d = iblk m c 1 t :=
  before0_1_of m (dats m 0 c) (A_eq m c 1) (after_1 m c) t d
/-- The body leaves input block 2 as it was. -/
theorem after_2 (c : Dev nD) (t : Fin cfg0.N) : (dats m 0 c).after 2 t = iblk m c 2 t := by dsimp only [dats]
/-- The body finds input block 2. -/
theorem before_2 (c : Dev nD) (t : Fin cfg0.N) (d) : (dats m 0 c).before 2 t d = iblk m c 2 t :=
  before0_2_of m (dats m 0 c) (A_eq m c 2) (after_2 m c) t d
/-- The body leaves input block 3 as it was. -/
theorem after_3 (c : Dev nD) (t : Fin cfg0.N) : (dats m 0 c).after 3 t = iblk m c 3 t := by dsimp only [dats]
/-- The body finds input block 3. -/
theorem before_3 (c : Dev nD) (t : Fin cfg0.N) (d) : (dats m 0 c).before 3 t d = iblk m c 3 t :=
  before0_3_of m (dats m 0 c) (A_eq m c 3) (after_3 m c) t d
/-- The body leaves input block 4 as it was. -/
theorem after_4 (c : Dev nD) (t : Fin cfg0.N) : (dats m 0 c).after 4 t = iblk m c 4 t := by dsimp only [dats]
/-- The body finds input block 4. -/
theorem before_4 (c : Dev nD) (t : Fin cfg0.N) (d) : (dats m 0 c).before 4 t d = iblk m c 4 t :=
  before0_4_of m (dats m 0 c) (A_eq m c 4) (after_4 m c) t d
/-- The body leaves input block 5 as it was. -/
theorem after_5 (c : Dev nD) (t : Fin cfg0.N) : (dats m 0 c).after 5 t = iblk m c 5 t := by dsimp only [dats]
/-- The body finds input block 5. -/
theorem before_5 (c : Dev nD) (t : Fin cfg0.N) (d) : (dats m 0 c).before 5 t d = iblk m c 5 t :=
  before0_5_of m (dats m 0 c) (A_eq m c 5) (after_5 m c) t d
/-- The body leaves input block 6 as it was. -/
theorem after_6 (c : Dev nD) (t : Fin cfg0.N) : (dats m 0 c).after 6 t = iblk m c 6 t := by dsimp only [dats]
/-- The body finds input block 6. -/
theorem before_6 (c : Dev nD) (t : Fin cfg0.N) (d) : (dats m 0 c).before 6 t d = iblk m c 6 t :=
  before0_6_of m (dats m 0 c) (A_eq m c 6) (after_6 m c) t d
/-- The body leaves input block 7 as it was. -/
theorem after_7 (c : Dev nD) (t : Fin cfg0.N) : (dats m 0 c).after 7 t = iblk m c 7 t := by dsimp only [dats]
/-- The body finds input block 7. -/
theorem before_7 (c : Dev nD) (t : Fin cfg0.N) (d) : (dats m 0 c).before 7 t d = iblk m c 7 t :=
  before0_7_of m (dats m 0 c) (A_eq m c 7) (after_7 m c) t d
/-- The body leaves input block 8 as it was. -/
theorem after_8 (c : Dev nD) (t : Fin cfg0.N) : (dats m 0 c).after 8 t = iblk m c 8 t := by dsimp only [dats]
/-- The body finds input block 8. -/
theorem before_8 (c : Dev nD) (t : Fin cfg0.N) (d) : (dats m 0 c).before 8 t d = iblk m c 8 t :=
  before0_8_of m (dats m 0 c) (A_eq m c 8) (after_8 m c) t d
/-- The body leaves input block 9 as it was. -/
theorem after_9 (c : Dev nD) (t : Fin cfg0.N) : (dats m 0 c).after 9 t = iblk m c 9 t := by dsimp only [dats]
/-- The body finds input block 9. -/
theorem before_9 (c : Dev nD) (t : Fin cfg0.N) (d) : (dats m 0 c).before 9 t d = iblk m c 9 t :=
  before0_9_of m (dats m 0 c) (A_eq m c 9) (after_9 m c) t d
/-- The body leaves input block 10 as it was. -/
theorem after_10 (c : Dev nD) (t : Fin cfg0.N) : (dats m 0 c).after 10 t = iblk m c 10 t := by dsimp only [dats]
/-- The body finds input block 10. -/
theorem before_10 (c : Dev nD) (t : Fin cfg0.N) (d) : (dats m 0 c).before 10 t d = iblk m c 10 t :=
  before0_10_of m (dats m 0 c) (A_eq m c 10) (after_10 m c) t d
/-- The body leaves input block 11 as it was. -/
theorem after_11 (c : Dev nD) (t : Fin cfg0.N) : (dats m 0 c).after 11 t = iblk m c 11 t := by dsimp only [dats]
/-- The body finds input block 11. -/
theorem before_11 (c : Dev nD) (t : Fin cfg0.N) (d) : (dats m 0 c).before 11 t d = iblk m c 11 t :=
  before0_11_of m (dats m 0 c) (A_eq m c 11) (after_11 m c) t d
/-- What the queries block holds after point `t`. -/
theorem after_12 (c : Dev nD) (t : Fin cfg0.N) : (dats m 0 c).after 12 t = qAt m c (gp (t.val - (t.val + 4) % 5)) := by dsimp only [dats]
/-- The points that write the queries block. -/
theorem live12 : ∀ t : Fin cfg0.N, cfg0.idle 12 (grid0.coords t) = false ↔ 6 ≤ t.val ∧ t.val % 5 = 1 := by
  have h : ∀ t : Fin grid0.N, idle0 12 (grid0.coords t) = false ↔ 6 ≤ t.val ∧ t.val % 5 = 1 := by decide +kernel
  exact h
/-- The points that write the queries block back. -/
theorem flush12 : ∀ t : Fin cfg0.N, (cfg0.win 12).flush t = true ↔ 10 ≤ t.val ∧ t.val % 5 = 0 := by
  have h : ∀ t : Fin grid0.N, win0_12.flush t = true ↔ 10 ≤ t.val ∧ t.val % 5 = 0 := by decide +kernel
  exact h
/-- What the keys' and values' block holds after point `t`. -/
theorem after_13 (c : Dev nD) (t : Fin cfg0.N) : (dats m 0 c).after 13 t = kvAt m c (gp (t.val - (t.val + 3) % 5)) := by dsimp only [dats]
/-- The points that write the keys' and values' block. -/
theorem live13 : ∀ t : Fin cfg0.N, cfg0.idle 13 (grid0.coords t) = false ↔ 6 ≤ t.val ∧ t.val % 5 = 2 := by
  have h : ∀ t : Fin grid0.N, idle0 13 (grid0.coords t) = false ↔ 6 ≤ t.val ∧ t.val % 5 = 2 := by decide +kernel
  exact h
/-- The points that write the keys' and values' block back. -/
theorem flush13 : ∀ t : Fin cfg0.N, (cfg0.win 13).flush t = true ↔ 10 ≤ t.val ∧ t.val % 5 = 0 := by
  have h : ∀ t : Fin grid0.N, win0_13.flush t = true ↔ 10 ≤ t.val ∧ t.val % 5 = 0 := by decide +kernel
  exact h
/-- What the gated product's block holds after point `t`. -/
theorem after_14 (c : Dev nD) (t : Fin cfg0.N) : (dats m 0 c).after 14 t = zAt m c (if t.val % 5 = 0 then t.val - 1 else t.val) := by dsimp only [dats]
/-- The points that write the gated product's block. -/
theorem live14 : ∀ t : Fin cfg0.N, cfg0.idle 14 (grid0.coords t) = false ↔ 6 ≤ t.val ∧ (t.val % 5 = 3 ∨ t.val % 5 = 4) := by
  have h : ∀ t : Fin grid0.N, idle0 14 (grid0.coords t) = false ↔ 6 ≤ t.val ∧ (t.val % 5 = 3 ∨ t.val % 5 = 4) := by decide +kernel
  exact h
/-- The points that write the gated product's block back. -/
theorem flush14 : ∀ t : Fin cfg0.N, (cfg0.win 14).flush t = true ↔ 8 ≤ t.val ∧ (t.val % 5 = 3 ∨ t.val % 5 = 0) := by
  have h : ∀ t : Fin grid0.N, win0_14.flush t = true ↔ 8 ≤ t.val ∧ (t.val % 5 = 3 ∨ t.val % 5 = 0) := by decide +kernel
  exact h
/-- What the gates block holds after point `t`. -/
theorem after_15 (c : Dev nD) (t : Fin cfg0.N) : (dats m 0 c).after 15 t = gbAt m c t.val := by dsimp only [dats]
/-- The points that write the gates block. -/
theorem live15 : ∀ t : Fin cfg0.N, cfg0.idle 15 (grid0.coords t) = false ↔ 6 ≤ t.val ∧ (t.val % 5 = 4 ∨ t.val % 5 = 0) := by
  have h : ∀ t : Fin grid0.N, idle0 15 (grid0.coords t) = false ↔ 6 ≤ t.val ∧ (t.val % 5 = 4 ∨ t.val % 5 = 0) := by decide +kernel
  exact h
/-- The points that write the gates block back. -/
theorem flush15 : ∀ t : Fin cfg0.N, (cfg0.win 15).flush t = true ↔ 9 ≤ t.val ∧ (t.val % 5 = 4 ∨ t.val % 5 = 0) := by
  have h : ∀ t : Fin grid0.N, win0_15.flush t = true ↔ 9 ≤ t.val ∧ (t.val % 5 = 4 ∨ t.val % 5 = 0) := by decide +kernel
  exact h

/-- After a point that writes an output block and does not write it back, the next point finds what it left. -/
theorem before_live (c : Dev nD) (w : Fin cfg0.W) (hw : (cfg0.win w).isOut = true) (t t' : Fin cfg0.N) (ht : t.val = t'.val + 1)
    (hl : cfg0.idle w (grid0.coords t') = false) (hf : (cfg0.win w).flush t' ≠ true) (hk : ∀ d, (dats m 0 c).kept w t' d = (dats m 0 c).after w t') (d) :
    (dats m 0 c).before w t d = (dats m 0 c).after w t' := by
  have h0 : t.val ≠ 0 := by omega
  have e : (⟨t.val - 1, Nat.lt_of_le_of_lt (Nat.sub_le _ _) t.isLt⟩ : Fin cfg0.N) = t' := Fin.ext (by show t.val - 1 = t'.val; omega)
  have hfe : (cfg0.win w).fetch t = false := by unfold Pipeline.Window.fetch; rw [hw]; rfl
  rw [(dats m 0 c).before_of_pos w t h0 hfe d, e, if_neg hf]
  unfold Dat.left
  rw [show cfg0.idle w (cfg0.grid.coords t') = false from hl]
  exact hk d

/-- After a point that leaves an output block alone and does not write it back, the next point finds what it found. -/
theorem before_idle (c : Dev nD) (w : Fin cfg0.W) (hw : (cfg0.win w).isOut = true) (t t' : Fin cfg0.N) (ht : t.val = t'.val + 1)
    (hl : cfg0.idle w (grid0.coords t') ≠ false) (hf : (cfg0.win w).flush t' ≠ true) (d) :
    (dats m 0 c).before w t d = (dats m 0 c).before w t' d := by
  have h0 : t.val ≠ 0 := by omega
  have e : (⟨t.val - 1, Nat.lt_of_le_of_lt (Nat.sub_le _ _) t.isLt⟩ : Fin cfg0.N) = t' := Fin.ext (by show t.val - 1 = t'.val; omega)
  have hfe : (cfg0.win w).fetch t = false := by unfold Pipeline.Window.fetch; rw [hw]; rfl
  rw [(dats m 0 c).before_of_pos w t h0 hfe d, e, if_neg hf]
  unfold Dat.left
  rw [show cfg0.idle w (cfg0.grid.coords t') = true from (Bool.not_eq_false _).mp hl]

/-- At a point that writes the queries block back without writing it, the block is what the last point to write it left. -/
theorem back_12 (c : Dev nD) (t : Fin cfg0.N) (h : 10 ≤ t.val) (h5 : t.val % 5 = 0) (d) :
    (dats m 0 c).before 12 t d = (dats m 0 c).after 12 t := by
  have hN : cfg0.N = 91 := N_0
  have hlt : t.val < 91 := lt_of_lt_of_eq t.isLt hN
  rw [before_idle m c 12 rfl t ⟨t.val - 1, by omega⟩ (by show t.val = t.val - 1 + 1; omega)
    (fun e => by have := (live12 _).mp e; dsimp only at this; omega) (fun e => by have := (flush12 _).mp e; dsimp only at this; omega) d]
  rw [before_idle m c 12 rfl ⟨t.val - 1, by omega⟩ ⟨t.val - 2, by omega⟩ (by show t.val - 1 = t.val - 2 + 1; omega)
    (fun e => by have := (live12 _).mp e; dsimp only at this; omega) (fun e => by have := (flush12 _).mp e; dsimp only at this; omega) d]
  rw [before_idle m c 12 rfl ⟨t.val - 2, by omega⟩ ⟨t.val - 3, by omega⟩ (by show t.val - 2 = t.val - 3 + 1; omega)
    (fun e => by have := (live12 _).mp e; dsimp only at this; omega) (fun e => by have := (flush12 _).mp e; dsimp only at this; omega) d]
  rw [before_live m c 12 rfl ⟨t.val - 3, by omega⟩ ⟨t.val - 4, by omega⟩ (by show t.val - 3 = t.val - 4 + 1; omega)
    ((live12 _).mpr (by dsimp only; omega)) (fun e => by have := (flush12 _).mp e; dsimp only at this; omega) (fun _ => rfl) d,
    after_12, after_12]
  congr 2; dsimp only; omega

/-- At a point that writes the keys' and values' block back without writing it, the block is what the last point to write it left. -/
theorem back_13 (c : Dev nD) (t : Fin cfg0.N) (h : 10 ≤ t.val) (h5 : t.val % 5 = 0) (d) :
    (dats m 0 c).before 13 t d = (dats m 0 c).after 13 t := by
  have hN : cfg0.N = 91 := N_0
  have hlt : t.val < 91 := lt_of_lt_of_eq t.isLt hN
  rw [before_idle m c 13 rfl t ⟨t.val - 1, by omega⟩ (by show t.val = t.val - 1 + 1; omega)
    (fun e => by have := (live13 _).mp e; dsimp only at this; omega) (fun e => by have := (flush13 _).mp e; dsimp only at this; omega) d]
  rw [before_idle m c 13 rfl ⟨t.val - 1, by omega⟩ ⟨t.val - 2, by omega⟩ (by show t.val - 1 = t.val - 2 + 1; omega)
    (fun e => by have := (live13 _).mp e; dsimp only at this; omega) (fun e => by have := (flush13 _).mp e; dsimp only at this; omega) d]
  rw [before_live m c 13 rfl ⟨t.val - 2, by omega⟩ ⟨t.val - 3, by omega⟩ (by show t.val - 2 = t.val - 3 + 1; omega)
    ((live13 _).mpr (by dsimp only; omega)) (fun e => by have := (flush13 _).mp e; dsimp only at this; omega) (fun _ => rfl) d,
    after_13, after_13]
  congr 2; dsimp only; omega

/-- At a point that writes the gated product's block back without writing it, the block is what the last point to write it left. -/
theorem back_14 (c : Dev nD) (t : Fin cfg0.N) (h : 10 ≤ t.val) (h5 : t.val % 5 = 0) (d) :
    (dats m 0 c).before 14 t d = (dats m 0 c).after 14 t := by
  have hN : cfg0.N = 91 := N_0
  have hlt : t.val < 91 := lt_of_lt_of_eq t.isLt hN
  rw [before_live m c 14 rfl t ⟨t.val - 1, by omega⟩ (by show t.val = t.val - 1 + 1; omega)
    ((live14 _).mpr (by dsimp only; omega)) (fun e => by have := (flush14 _).mp e; dsimp only at this; omega) (fun _ => rfl) d,
    after_14, after_14]
  rw [if_pos h5, if_neg (by dsimp only; omega)]

/-- What an output block holds after the body is what the pipeline expects of it. -/
theorem leave (c : Dev nD) (w : Fin cfg0.W) (t : Fin cfg0.N) (X : (cfg0.win w).block.Idx → Elt F (cfg0.win w).elt)
    (h1 : cfg0.idle w (grid0.coords t) = false → X = (dats m 0 c).after w t)
    (h2 : cfg0.idle w (grid0.coords t) ≠ false → (cfg0.win w).flush t = true → X = (dats m 0 c).after w t)
    (h3 : cfg0.idle w (grid0.coords t) ≠ false → ∃ d, X = (dats m 0 c).before w t d) :
    (owns (c : Thread nD τ) ((cfg0.win w).stage (cfg0.slots t w)) fullShare X : sProp 𝕄) ⊢ (dats m 0 c).leavesExact w t := by
  unfold Dat.leavesExact
  rcases hi : cfg0.idle w (cfg0.grid.coords t) with _ | _
  · rw [h1 hi]
  · have hn : cfg0.idle w (grid0.coords t) ≠ false := fun e => absurd (hi.symm.trans e) (by decide)
    rcases hf : (cfg0.win w).flush t with _ | _
    · obtain ⟨d, rfl⟩ := h3 hn
      iintro H; iexists d; iexact H
    · rw [h2 hn hf]

/-- What the body has at a grid point before it runs. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- What the body leaves at a grid point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ (dats m 0 c).leavesExact 12 t
    ∗ (dats m 0 c).leavesExact 13 t
    ∗ (dats m 0 c).leavesExact 14 t
    ∗ (dats m 0 c).leavesExact 15 t)

/-- The body at a grid point takes what it has there to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11]
  rw [after_0, after_1, after_2, after_3, after_4, after_5, after_6, after_7, after_8, after_9, after_10, after_11]
  rw [show (dats m 0 c).Φ t.castSucc = between m c t.val from rfl, show (dats m 0 c).Φ t.succ = between m c (t.val + 1) from rfl]
  unfold between
  unfold Dat.owesAt Pipeline.owesWithin
  rw [show (dats m 0 c).owed t.castSucc = 0 from rfl, show (dats m 0 c).owed t.succ = 0 from rfl]
  iintro ⟨⟨⟨%B, %I, HC⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  have Lv := leaves_at m c t { B with q := (dats m 0 c).before 12 t d12, kv := (dats m 0 c).before 13 t d13, z := (dats m 0 c).before 14 t d14, gb := (dats m 0 c).before 15 t d15 }
    (I.blocks m _ _ _ _) (kindOf t.val) (isKind t) (kind_holds _)
  have hr := (run c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) { B with q := (dats m 0 c).before 12 t d12, kv := (dats m 0 c).before 13 t d13, z := (dats m 0 c).before 14 t d14, gb := (dats m 0 c).before 15 t d15 }
    (kindOf t.val) (isKind t)).2
  have hh := wrote_held (F := F) c (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) { B with q := (dats m 0 c).before 12 t d12, kv := (dats m 0 c).before 13 t d13, z := (dats m 0 c).before 14 t d14, gb := (dats m 0 c).before 15 t d15 }
    (run c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) (st0_9 t) (hs9 t) (st0_10 t) (hs10 t) (st0_11 t) (hs11 t) (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) { B with q := (dats m 0 c).before 12 t d12, kv := (dats m 0 c).before 13 t d13, z := (dats m 0 c).before 14 t d14, gb := (dats m 0 c).before 15 t d15 }
      (kindOf t.val) (isKind t)).1
  change _ ⊢ held c (st0_12 t) (hs12 t) (st0_13 t) (hs13 t) (st0_14 t) (hs14 t) (st0_15 t) (hs15 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (nextAt m c t _ (kindOf t.val) (isKind t)) at hh
  generalize nextAt m c t _ (kindOf t.val) (isKind t) = B' at Lv hh
  iapply (hr _)
  isplitl [H0 H1 H2 H3 H4 H5 H6 H7 H8 H9 H10 H11]
  · unfold ins
    isplitl [H0]; · iapply (owns_pt c (hs0 t) _); iexact H0
    isplitl [H1]; · iapply (owns_pt c (hs1 t) _); iexact H1
    isplitl [H2]; · iapply (owns_pt c (hs2 t) _); iexact H2
    isplitl [H3]; · iapply (owns_pt c (hs3 t) _); iexact H3
    isplitl [H4]; · iapply (owns_pt c (hs4 t) _); iexact H4
    isplitl [H5]; · iapply (owns_pt c (hs5 t) _); iexact H5
    isplitl [H6]; · iapply (owns_pt c (hs6 t) _); iexact H6
    isplitl [H7]; · iapply (owns_pt c (hs7 t) _); iexact H7
    isplitl [H8]; · iapply (owns_pt c (hs8 t) _); iexact H8
    isplitl [H9]; · iapply (owns_pt c (hs9 t) _); iexact H9
    isplitl [H10]; · iapply (owns_pt c (hs10 t) _); iexact H10
    iapply (owns_pt c (hs11 t) _); iexact H11
  isplitl [HC H12 H13 H14 H15]
  · unfold carried held
    icases HC with ⟨C0, C1, C2, C3, C4, C5, C6, C7⟩
    isplitl [H12]; · iapply (owns_pt c (hs12 t) _); iexact H12
    isplitl [H13]; · iapply (owns_pt c (hs13 t) _); iexact H13
    isplitl [H14]; · iapply (owns_pt c (hs14 t) _); iexact H14
    isplitl [H15]; · iapply (owns_pt c (hs15 t) _); iexact H15
    isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  iintro ⟨HI, HO⟩
  ihave HO := hh $$ HO
  unfold ins held
  icases HI with ⟨H0, H1, H2, H3, H4, H5, H6, H7, H8, H9, H10, H11⟩
  icases HO with ⟨H12, H13, H14, H15, C0, C1, C2, C3, C4, C5, C6, C7⟩
  isplitl [Hg C0 C1 C2 C3 C4 C5 C6 C7]
  · isplitr [Hg]
    · iexists B'
      isplitr; · ipureintro; exact Lv.inv
      unfold carried
      isplitl [C0]; · iexact C0
      isplitl [C1]; · iexact C1
      isplitl [C2]; · iexact C2
      isplitl [C3]; · iexact C3
      isplitl [C4]; · iexact C4
      isplitl [C5]; · iexact C5
      isplitl [C6]; · iexact C6
      iexact C7
    · iexact Hg
  isplitl [HW]
  · iexists W; isplitr; · ipureintro; exact fun _ _ => Or.inl trivial
    iexact HW
  isplitl [H0]; · iapply (pt_owns c (hs0 t) _); iexact H0
  isplitl [H1]; · iapply (pt_owns c (hs1 t) _); iexact H1
  isplitl [H2]; · iapply (pt_owns c (hs2 t) _); iexact H2
  isplitl [H3]; · iapply (pt_owns c (hs3 t) _); iexact H3
  isplitl [H4]; · iapply (pt_owns c (hs4 t) _); iexact H4
  isplitl [H5]; · iapply (pt_owns c (hs5 t) _); iexact H5
  isplitl [H6]; · iapply (pt_owns c (hs6 t) _); iexact H6
  isplitl [H7]; · iapply (pt_owns c (hs7 t) _); iexact H7
  isplitl [H8]; · iapply (pt_owns c (hs8 t) _); iexact H8
  isplitl [H9]; · iapply (pt_owns c (hs9 t) _); iexact H9
  isplitl [H10]; · iapply (pt_owns c (hs10 t) _); iexact H10
  isplitl [H11]; · iapply (pt_owns c (hs11 t) _); iexact H11
  isplitl [H12]
  · iapply (leave m c 12 t B'.q (fun hl => by have hl' := (live12 t).mp hl; rw [Lv.q, if_pos hl', after_12, show t.val - (t.val + 4) % 5 = t.val from by omega, gp_val])
      (fun hl hf => by rw [Lv.q, if_neg (fun e => hl ((live12 t).mpr e))]; exact back_12 m c t (by have := (flush12 t).mp hf; have := mt (live12 t).mpr hl; omega) (by have := (flush12 t).mp hf; have := mt (live12 t).mpr hl; omega) _)
      (fun hl => ⟨d12, by rw [Lv.q, if_neg (fun e => hl ((live12 t).mpr e))]⟩))
    iapply (pt_owns c (hs12 t) _); iexact H12
  isplitl [H13]
  · iapply (leave m c 13 t B'.kv (fun hl => by have hl' := (live13 t).mp hl; rw [Lv.kv, if_pos hl', after_13, show t.val - (t.val + 3) % 5 = t.val from by omega, gp_val])
      (fun hl hf => by rw [Lv.kv, if_neg (fun e => hl ((live13 t).mpr e))]; exact back_13 m c t (by have := (flush13 t).mp hf; have := mt (live13 t).mpr hl; omega) (by have := (flush13 t).mp hf; have := mt (live13 t).mpr hl; omega) _)
      (fun hl => ⟨d13, by rw [Lv.kv, if_neg (fun e => hl ((live13 t).mpr e))]⟩))
    iapply (pt_owns c (hs13 t) _); iexact H13
  isplitl [H14]
  · iapply (leave m c 14 t B'.z (fun hl => by have hl' := (live14 t).mp hl; rw [Lv.z, if_pos hl', after_14, if_neg (show ¬ t.val % 5 = 0 from by omega)])
      (fun hl hf => by rw [Lv.z, if_neg (fun e => hl ((live14 t).mpr e))]; exact back_14 m c t (by have := (flush14 t).mp hf; have := mt (live14 t).mpr hl; omega) (by have := (flush14 t).mp hf; have := mt (live14 t).mpr hl; omega) _)
      (fun hl => ⟨d14, by rw [Lv.z, if_neg (fun e => hl ((live14 t).mpr e))]⟩))
    iapply (pt_owns c (hs14 t) _); iexact H14
  iapply (leave m c 15 t B'.gb (fun hl => by have hl' := (live15 t).mp hl; rw [Lv.gb, if_pos hl', after_15])
    (fun hl hf => absurd ((live15 t).mpr (by have := (flush15 t).mp hf; omega)) hl)
    (fun hl => ⟨d15, by rw [Lv.gb, if_neg (fun e => hl ((live15 t).mpr e))]⟩))
  iapply (pt_owns c (hs15 t) _); iexact H15

/-- The body's definition at a grid point. -/
theorem defs₀_row (t : Fin cfg0.N) :
    defs₀ (F := F) .tc cfg0.body (cfg0.bodyArgs t (cfg0.slots t)) = bodyAt0 t := by
  unfold defs₀; rw [Defs.onTc_tc]

/-- The body meets the obligation of the pipeline at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- A buffer of the launch, held whole, is held at what it reads. -/
theorem whole_pt (c : Dev nD) (b : Ref sig .tc) (hb : (Memref.whole b).view.set = Finset.univ) (f : Buf (Elt F) ((c : Thread nD τ).loc b)) :
    (((c : Thread nD τ).loc b) ↦{fullShare} f : sProp 𝕄) ⊢ (Memref.whole b).view.loc (c : Thread nD τ) ↦[(Memref.whole b).view.set]{fullShare}
      (Memref.isWhole_whole b).unread ((Memref.whole b).view.read (Elt F) f) := by
  rw [hb, (Memref.isWhole_whole b).unread_read]

/-- What the launch gives is held before the first point. -/
theorem enter (c : Dev nD) : (Pipeline.ΦA spec0 c : sProp 𝕄) ⊢ between m c 0 := by
  unfold Pipeline.ΦA between carried pt
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩⟩, Hg⟩
  isplitl [H0 H1 H2 H3 H4 H5 H6 H7]
  · iexists { blank with hc := (Memref.whole cc0_scratch0).view.read (Elt F) f0, hn := (Memref.whole cc0_scratch1).view.read (Elt F) f1, a0 := (Memref.whole cc0_scratch2).view.read (Elt F) f2, a1 := (Memref.whole cc0_scratch3).view.read (Elt F) f3, a2 := (Memref.whole cc0_scratch4).view.read (Elt F) f4, b0 := (Memref.whole cc0_scratch5).view.read (Elt F) f5, b1 := (Memref.whole cc0_scratch6).view.read (Elt F) f6, b2 := (Memref.whole cc0_scratch7).view.read (Elt F) f7 }
    isplitr
    · ipureintro
      exact ⟨fun y h => absurd h (by omega), fun h => absurd h (by omega), fun h => absurd h (by omega), fun h => absurd h (by omega), fun h => absurd h (by omega),
        fun h => absurd h (by omega), fun h => absurd h (by omega), fun h => absurd h (by omega), fun h => absurd h (by omega), fun h => absurd h (by omega)⟩
    isplitl [H0]; · iapply (whole_pt c cc0_scratch0 (View.set_whole _) f0); iexact H0
    isplitl [H1]; · iapply (whole_pt c cc0_scratch1 (View.set_whole _) f1); iexact H1
    isplitl [H2]; · iapply (whole_pt c cc0_scratch2 (View.set_whole _) f2); iexact H2
    isplitl [H3]; · iapply (whole_pt c cc0_scratch3 (View.set_whole _) f3); iexact H3
    isplitl [H4]; · iapply (whole_pt c cc0_scratch4 (View.set_whole _) f4); iexact H4
    isplitl [H5]; · iapply (whole_pt c cc0_scratch5 (View.set_whole _) f5); iexact H5
    isplitl [H6]; · iapply (whole_pt c cc0_scratch6 (View.set_whole _) f6); iexact H6
    iapply (whole_pt c cc0_scratch7 (View.set_whole _) f7); iexact H7
  · iexact Hg

/-- What is held after the last point goes back to the launch. -/
theorem leave_all (c : Dev nD) (n : ℕ) : between m c n ⊢ (Pipeline.ΦA spec0 c : sProp 𝕄) := by
  unfold Pipeline.ΦA between carried pt
  rw [scopedRest0_eq]
  iintro ⟨⟨%B, -, C0, C1, C2, C3, C4, C5, C6, C7⟩, Hg⟩
  isplitr [Hg]
  · skip
    isplitl [C0]; · iexists _; rw [show (Memref.whole cc0_scratch0).view.set = Finset.univ from View.set_whole _]; iexact C0
    isplitl [C1]; · iexists _; rw [show (Memref.whole cc0_scratch1).view.set = Finset.univ from View.set_whole _]; iexact C1
    isplitl [C2]; · iexists _; rw [show (Memref.whole cc0_scratch2).view.set = Finset.univ from View.set_whole _]; iexact C2
    isplitl [C3]; · iexists _; rw [show (Memref.whole cc0_scratch3).view.set = Finset.univ from View.set_whole _]; iexact C3
    isplitl [C4]; · iexists _; rw [show (Memref.whole cc0_scratch4).view.set = Finset.univ from View.set_whole _]; iexact C4
    isplitl [C5]; · iexists _; rw [show (Memref.whole cc0_scratch5).view.set = Finset.univ from View.set_whole _]; iexact C5
    isplitl [C6]; · iexists _; rw [show (Memref.whole cc0_scratch6).view.set = Finset.univ from View.set_whole _]; iexact C6
    iexists _; rw [show (Memref.whole cc0_scratch7).view.set = Finset.univ from View.set_whole _]; iexact C7
  · iexact Hg

set_option backward.isDefEq.respectTransparency.types false in
/-- The whole launch: every array at what the library computes from the launch's data, every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m) (hmain := hmain m Variants.none)
    (hA := A_eq m) (hin := fun c => enter m c) (hout := fun c => leave_all m c _)

/-- The argument arrays end as launched. -/
theorem run_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

/-- The arrays of the gated product and of the gates hold the blocks written back. -/
theorem run_blocks : θ_run defs (onTc (τ := τ) (main (F := F))) ⟨m, fun _ => 0, ρ⟩ (fun r => (∀ c : Dev nD,
      r.2.mem (((cfgs 0).spec 14).arr.view.loc (c.tc : Thread nD τ)) = (dats m 0 c).arrAt 14 cfg0.N
      ∧ r.2.mem (((cfgs 0).spec 15).arr.view.loc (c.tc : Thread nD τ)) = (dats m 0 c).arrAt 15 cfg0.N)
      ∧ r.2.sem = fun _ => 0) :=
  (θ_run defs _ _).mono (fun _ h => ⟨fun c => ⟨(h.1 c).1 14, (h.1 c).1 15⟩, h.2⟩) (run_main m ρ)

end Cert.InRun
end
-- ==== Proof.InSpec.lean ====
module

public import proofs.«01_k».proof.Proof.MergeSpec

/-! The input projection's two results for the convolution by row and column, from the arrays. -/

@[expose] public section

noncomputable section

namespace Cert.InSpec

open Idealize.ShloMosaic Idealize.ShloMosaic.TcCoe
open Cert.MergeSpec (rmsOf)

/-- A row normalized, scaled and shifted: a latent row by its batch's modulations, a context row by the fifth. -/
def rowAt (X : FVec Ideal ⟨2, ![17408, 2048]⟩ .f32) (M : FVec Ideal ⟨4, ![4, 8, 1, 12288]⟩ .f32) (NG : FVec Ideal ⟨2, ![1, 2048]⟩ .f32)
    (R : Fin 17408) (j : Fin 2048) : EReal :=
  rmsOf 0x45000000#32 (fun k => X (ix2 R k)) (fun k => NG (ix2 0 k)) j * (1 + M (ix4 3 ⟨R.val / 4096, by omega⟩ 0 ⟨2048 + j.val, by omega⟩))
    + M (ix4 3 ⟨R.val / 4096, by omega⟩ 0 ⟨j.val, by omega⟩)

/-- The row's product with a column of the layer's weights. -/
def projAt (X : FVec Ideal ⟨2, ![17408, 2048]⟩ .f32) (M : FVec Ideal ⟨4, ![4, 8, 1, 12288]⟩ .f32) (NG : FVec Ideal ⟨2, ![1, 2048]⟩ .f32)
    (W : FVec Ideal ⟨3, ![4, 2048, 4608]⟩ .f32) (R : Fin 17408) (D : Fin 4608) : EReal :=
  ∑ k : Fin 2048, rowAt X M NG R k * W (ix3 3 k D)

/-- The convolution's input: the product of two groups of columns. -/
def mixAt (X : FVec Ideal ⟨2, ![17408, 2048]⟩ .f32) (M : FVec Ideal ⟨4, ![4, 8, 1, 12288]⟩ .f32) (NG : FVec Ideal ⟨2, ![1, 2048]⟩ .f32)
    (W : FVec Ideal ⟨3, ![4, 2048, 4608]⟩ .f32) (R : Fin 17408) (C : Fin 1024) : EReal :=
  projAt X M NG W R ⟨2560 + C.val, by omega⟩ * projAt X M NG W R ⟨3584 + C.val, by omega⟩

/-- The convolution's gate: another group of columns. -/
def gateAt (X : FVec Ideal ⟨2, ![17408, 2048]⟩ .f32) (M : FVec Ideal ⟨4, ![4, 8, 1, 12288]⟩ .f32) (NG : FVec Ideal ⟨2, ![1, 2048]⟩ .f32)
    (W : FVec Ideal ⟨3, ![4, 2048, 4608]⟩ .f32) (R : Fin 17408) (C : Fin 1024) : EReal :=
  projAt X M NG W R ⟨1536 + C.val, by omega⟩

end Cert.InSpec

end
-- ==== Proof.InVal.lean ====
module

public import proofs.«01_k».proof.Proof.InFrame
public import proofs.«01_k».proof.Proof.InSpec
public import Idealize.ShloMosaic.Lib.Pipeline.ValueKit
public import Idealize.ShloMosaic.Lib.Pipeline.ReadBack

/-! The input projection's two result arrays for the convolution: what the blocks hold, and the arrays. -/

@[expose] public section

set_option maxRecDepth 16384

noncomputable section

namespace Cert.InRun

open Cert.InIdeal Cert.InIdeal.Gen Cert.InSpec
open Cert.MergeSpec (rmsOf)
open Idealize.ShloMosaic Idealize.ShloMosaic.TcCoe Idealize.ShloMosaic.Tactic
open Idealize.SL Idealize.SL.Sem

variable (m : (ℓ : Loc nD τ sig) → Buf (Elt Ideal) ℓ)

/-- The residual rows. -/
abbrev xA (c : Dev nD) : FVec Ideal S17408x2048 .f32 := m ((c : Thread nD τ).loc main_arg0)
/-- The modulations. -/
abbrev mA (c : Dev nD) : FVec Ideal S4x8x1x12288 .f32 := m ((c : Thread nD τ).loc main_arg1)
/-- The gain. -/
abbrev ngA (c : Dev nD) : FVec Ideal S1x2048 .f32 := m ((c : Thread nD τ).loc main_arg2)
/-- The projection's weights. -/
abbrev wA (c : Dev nD) : FVec Ideal S4x2048x4608 .f32 := m ((c : Thread nD τ).loc main_arg3)

/-- A line of operations' result, past the first. -/
theorem after_head {τ : Topo} {sig : RefSig} {Val : EltTy → Type} (op : HloOp τ sig Val) (l : List (HloOp τ sig Val)) (ls : List (List (HloOp τ sig Val)))
    (v : Valuation τ sig Val) (b : DevRef τ sig) :
    StableHlo.after (List.flatten ((op :: l) :: ls)) v b = StableHlo.after (List.flatten (l :: ls)) (op.result v) b := rfl

/-- The projection's weights as the region reads them. -/
theorem V_w (c : Dev nD) : (V m c main_v0 : FVec Ideal S4x2048x4608 .bf16) = fun i => wA m c i := by
  unfold V
  rw [show (hostOps0 : List (HloOp τ sig (Elt Ideal))) = _ :: _ from rfl, after_head]
  rw [StableHlo.after_of_forall_not_mem (b := Proc.devRef .tc main_v0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  after_results
  try rfl

/-- The blocks of rows and modulations that a normalizing point reads. -/
theorem idx_norm : ∀ t : Fin cfg0.N, t.val % 5 ≠ 0 → t.val < 85 → win0_0.index t = ![4 * (t.val / 5) + t.val % 5 - 1, 0]
    ∧ win0_2.index t = ![3, t.val / 20, 0, 0] ∧ win0_3.index t = ![3, t.val / 20, 0, 1] ∧ win0_4.index t = ![0, 0] :=
  (by decide +kernel : ∀ t : Fin grid0.N, _)

/-- The block of weights that a multiplying point reads on the left. -/
def leftCol (n : ℕ) : ℕ := if n % 5 = 0 then 0 else if n % 5 = 1 then 2 else if n % 5 = 2 then 7 else if n % 5 = 3 then 8 else 4
/-- And on the right. -/
def rightCol (n : ℕ) : ℕ := if n % 5 = 0 then 1 else if n % 5 = 1 then 5 else if n % 5 = 2 then 6 else 3

/-- The blocks of weights that a point reads. -/
theorem idx_left : ∀ t : Fin cfg0.N, win0_5.index t = ![3, 0, leftCol t.val] := (by decide +kernel : ∀ t : Fin grid0.N, _)
/-- And on the right. -/
theorem idx_right : ∀ t : Fin cfg0.N, t.val % 5 ≠ 4 → win0_6.index t = ![3, 0, rightCol t.val] := (by decide +kernel : ∀ t : Fin grid0.N, _)

/-- The blocks of the convolution's input that points write back. -/
theorem idx_mix : ∀ t : Fin cfg0.N, win0_14.flush t = true →
    win0_14.index t = if t.val % 5 = 0 then ![t.val / 5 - 2, 1] else ![t.val / 5 - 1, 0] := (by decide +kernel : ∀ t : Fin grid0.N, _)
/-- The blocks of the gates that points write back. -/
theorem idx_gate : ∀ t : Fin cfg0.N, win0_15.flush t = true →
    win0_15.index t = if t.val % 5 = 0 then ![t.val / 5 - 2, 1] else ![t.val / 5 - 1, 0] := (by decide +kernel : ∀ t : Fin grid0.N, _)

/-- A residual block's entry. -/
theorem blk0 (c : Dev nD) (t : Fin cfg0.N) (h5 : t.val % 5 ≠ 0) (h85 : t.val < 85) (r : Fin 256) (C : Fin 2048) (R : Fin 17408)
    (hR : R.val = 256 * (4 * (t.val / 5) + t.val % 5 - 1) + r.val) :
    (iblk m c 0 t : FVec Ideal S256x2048 .f32) (ix2 r C) = xA m c (ix2 R C) := by
  blk_simp [iblk, idx_norm t h5 h85]
  rw [V_main_arg0]
  show xA m c _ = _
  blk_ext [idx_norm t h5 h85]

/-- The shift. -/
theorem blk2 (c : Dev nD) (t : Fin cfg0.N) (h5 : t.val % 5 ≠ 0) (h85 : t.val < 85) (C : Fin 2048) (B : Fin 8) (D : Fin 12288)
    (hB : B.val = t.val / 20) (hD : D.val = C.val) :
    (iblk m c 2 t : FVec Ideal S1x1x1x2048 .f32) (ix4 0 0 0 C) = mA m c (ix4 3 B 0 D) := by
  blk_simp [iblk, idx_norm t h5 h85]
  rw [V_main_arg1]
  show mA m c _ = _
  blk_ext [idx_norm t h5 h85]

/-- The scale. -/
theorem blk3 (c : Dev nD) (t : Fin cfg0.N) (h5 : t.val % 5 ≠ 0) (h85 : t.val < 85) (C : Fin 2048) (B : Fin 8) (D : Fin 12288)
    (hB : B.val = t.val / 20) (hD : D.val = 2048 + C.val) :
    (iblk m c 3 t : FVec Ideal S1x1x1x2048 .f32) (ix4 0 0 0 C) = mA m c (ix4 3 B 0 D) := by
  blk_simp [iblk, idx_norm t h5 h85]
  rw [V_main_arg1]
  show mA m c _ = _
  blk_ext [idx_norm t h5 h85]

/-- The gain. -/
theorem blk4 (c : Dev nD) (t : Fin cfg0.N) (h5 : t.val % 5 ≠ 0) (h85 : t.val < 85) (C : Fin 2048) :
    (iblk m c 4 t : FVec Ideal S1x2048 .f32) (ix2 0 C) = ngA m c (ix2 0 C) := by
  blk_simp [iblk, idx_norm t h5 h85]
  rw [V_main_arg2]
  show ngA m c _ = _
  blk_ext [idx_norm t h5 h85]

/-- The left block of weights. -/
theorem blk5 (c : Dev nD) (t : Fin cfg0.N) (k : Fin 2048) (C : Fin 512) (D : Fin 4608) (hD : D.val = 512 * leftCol t.val + C.val) :
    (iblk m c 5 t : FVec Ideal S1x2048x512 .bf16) (ix3 0 k C) = wA m c (ix3 3 k D) := by
  blk_simp [iblk, idx_left t]
  rw [V_w]
  show wA m c _ = _
  blk_ext [idx_left t]

/-- The right block of weights. -/
theorem blk6 (c : Dev nD) (t : Fin cfg0.N) (h4 : t.val % 5 ≠ 4) (k : Fin 2048) (C : Fin 512) (D : Fin 4608)
    (hD : D.val = 512 * rightCol t.val + C.val) :
    (iblk m c 6 t : FVec Ideal S1x2048x512 .bf16) (ix3 0 k C) = wA m c (ix3 3 k D) := by
  blk_simp [iblk, idx_right t h4]
  rw [V_w]
  show wA m c _ = _
  blk_ext [idx_right t h4]

/-- The normalized rows of a block. -/
theorem pay56_at (x : FVec Ideal S256x2048 .f32) (ng : FVec Ideal S1x2048 .f32) (sc sh : FVec Ideal S1x1x1x2048 .f32) (r : Fin 256) (C : Fin 2048) :
    k0_pay56 (F := Ideal) x ng sc sh (ix2 r C)
      = rmsOf 0x45000000#32 (fun j => x (ix2 r j)) (fun j => ng (ix2 0 j)) C * (1 + sc (ix4 0 0 0 C)) + sh (ix4 0 0 0 C) := by
  pointwise [k0_pay56]
  unfold rmsOf
  rfl

/-- A left product's entry. -/
theorem pay10_at (x : FVec Ideal S1024x2048 .bf16) (w : FVec Ideal S1x2048x512 .bf16) (r : Fin 1024) (C : Fin 512) :
    k0_pay10 (F := Ideal) x w (ix2 r C) = ∑ k : Fin 2048, x (ix2 r k) * w (ix3 0 k C) := by
  pointwise [k0_pay10]

/-- A right product's entry. -/
theorem pay11_at (x : FVec Ideal S1024x2048 .bf16) (w : FVec Ideal S1x2048x512 .bf16) (r : Fin 1024) (C : Fin 512) :
    k0_pay11 (F := Ideal) x w (ix2 r C) = ∑ k : Fin 2048, x (ix2 r k) * w (ix3 0 k C) := by
  pointwise [k0_pay11]

/-- A tile's normalized rows are the array's. -/
theorem tile_at (c : Dev nD) (k : ℕ) (hk : k ≤ 16) (r : Fin 1024) (j : Fin 2048) (R : Fin 17408) (hR : R.val = 1024 * k + r.val) :
    (tileRows m c k : FVec Ideal S1024x2048 .bf16) (ix2 r j) = rowAt (xA m c) (mA m c) (ngA m c) R j := by
  have hr := r.isLt
  have hg : (gp (5 * k + 1 + r.val / 256)).val = 5 * k + 1 + r.val / 256 := Nat.mod_eq_of_lt (by omega)
  have h5 : (gp (5 * k + 1 + r.val / 256)).val % 5 ≠ 0 := by omega
  have h85 : (gp (5 * k + 1 + r.val / 256)).val < 85 := by omega
  have e : (tileRows m c k : FVec Ideal S1024x2048 .bf16) (ix2 r j)
      = nrm m c (gp (5 * k + 1 + r.val / 256)) (ix2 (⟨r.val % 256, Nat.mod_lt _ (by decide)⟩ : Fin 256) j) := by
    unfold tileRows
    refine congrArg _ ?_
    funext a
    fin_cases a <;> rfl
  rw [e]
  generalize gp (5 * k + 1 + r.val / 256) = t at hg h5 h85
  unfold nrm normed
  refine (pay56_at _ _ _ _ _ _).trans ?_
  unfold rowAt
  refine congrArg₂ (· + ·) (congrArg₂ (· * ·) ?_ (congrArg (1 + ·) (blk3 m c t h5 h85 j _ _ (by dsimp only; omega) rfl)))
    (blk2 m c t h5 h85 j _ _ (by dsimp only; omega) rfl)
  exact congrArg₂ (fun f g => rmsOf 0x45000000#32 f g j) (funext fun q => blk0 m c t h5 h85 _ q R (by dsimp only; omega)) (funext fun q => blk4 m c t h5 h85 q)

/-- A left product's entry is the array's. -/
theorem left_at (c : Dev nD) (n : ℕ) (hn : 5 ≤ n) (hN : n < 90) (r : Fin 1024) (C : Fin 512) (R : Fin 17408) (D : Fin 4608)
    (hR : R.val = 1024 * (n / 5 - 1) + r.val) (hD : D.val = 512 * leftCol n + C.val) :
    (prodA m c n : FVec Ideal S1024x512 .f32) (ix2 r C) = projAt (xA m c) (mA m c) (ngA m c) (wA m c) R D := by
  have hg : (gp n).val = n := Nat.mod_eq_of_lt (by omega)
  unfold prodA projAt
  refine (pay10_at _ _ _ _).trans ?_
  exact Finset.sum_congr rfl fun q _ => congrArg₂ (· * ·) (tile_at m c _ (by omega) r q R hR) (blk5 m c _ q C D (by rw [hg]; exact hD))

/-- A right product's entry is the array's. -/
theorem right_at (c : Dev nD) (n : ℕ) (hn : 5 ≤ n) (hN : n < 90) (h4 : n % 5 ≠ 4) (r : Fin 1024) (C : Fin 512) (R : Fin 17408) (D : Fin 4608)
    (hR : R.val = 1024 * (n / 5 - 1) + r.val) (hD : D.val = 512 * rightCol n + C.val) :
    (prodB m c n : FVec Ideal S1024x512 .f32) (ix2 r C) = projAt (xA m c) (mA m c) (ngA m c) (wA m c) R D := by
  have hg : (gp n).val = n := Nat.mod_eq_of_lt (by omega)
  unfold prodB projAt
  refine (pay11_at _ _ _ _).trans ?_
  exact Finset.sum_congr rfl fun q _ => congrArg₂ (· * ·) (tile_at m c _ (by omega) r q R hR) (blk6 m c _ (by rw [hg]; exact h4) q C D (by rw [hg]; exact hD))

/-- The convolution's input as an array. -/
def mixArr (c : Dev nD) : FVec Ideal S17408x1024 .bf16 :=
  fun i => mixAt (xA m c) (mA m c) (ngA m c) (wA m c) ⟨(i 0).val, (i 0).isLt⟩ ⟨(i 1).val, (i 1).isLt⟩

/-- The gates as an array. -/
def gateArr (c : Dev nD) : FVec Ideal S17408x1024 .bf16 :=
  fun i => gateAt (xA m c) (mA m c) (ngA m c) (wA m c) ⟨(i 0).val, (i 0).isLt⟩ ⟨(i 1).val, (i 1).isLt⟩

/-- A block of the convolution's input. -/
theorem mix_blk (c : Dev nD) (n : ℕ) (h3 : n % 5 = 3 ∨ n % 5 = 4) (hn : 8 ≤ n) (hN : n < 90) (y : S1024x512.Idx) (R : Fin 17408) (C : Fin 1024)
    (hR : R.val = 1024 * (n / 5 - 1) + (y 0 : ℕ)) (hC : C.val = 512 * (n % 5 - 3) + (y 1 : ℕ)) :
    (zAt m c n : FVec Ideal S1024x512 .bf16) y = mixAt (xA m c) (mA m c) (ngA m c) (wA m c) R C := by
  have h0 : (y 0 : ℕ) < 1024 := (y 0).isLt
  have h1 : (y 1 : ℕ) < 512 := (y 1).isLt
  have e : y = ix2 (⟨(y 0 : ℕ), h0⟩ : Fin 1024) (⟨(y 1 : ℕ), h1⟩ : Fin 512) := by
    funext d; fin_cases d <;> rfl
  rw [e]
  unfold zAt mixAt
  have hp : ∀ a b : FVec Ideal S1024x512 .f32, ∀ i, k0_pay5 (F := Ideal) a b i = a i * b i := fun a b i => rfl
  rw [hp]
  refine congrArg₂ (· * ·) (right_at m c (n - 2) (by omega) (by omega) (by omega) _ _ R _ (by dsimp only; omega) ?_)
    (left_at m c (n - 1) (by omega) (by omega) _ _ R _ (by dsimp only; omega) ?_)
  · dsimp only
    unfold rightCol
    split <;> (try split) <;> (try split) <;> omega
  · dsimp only
    unfold leftCol
    split <;> (try split) <;> (try split) <;> (try split) <;> omega

/-- A block of the gates. -/
theorem gate_blk (c : Dev nD) (n : ℕ) (h3 : n % 5 = 4 ∨ n % 5 = 0) (hn : 9 ≤ n) (hN : n < 91) (y : S1024x512.Idx) (R : Fin 17408) (C : Fin 1024)
    (hR : R.val = 1024 * ((n - 1) / 5 - 1) + (y 0 : ℕ)) (hC : C.val = (if n % 5 = 4 then 0 else 512) + (y 1 : ℕ)) :
    (gbAt m c n : FVec Ideal S1024x512 .bf16) y = gateAt (xA m c) (mA m c) (ngA m c) (wA m c) R C := by
  have h0 : (y 0 : ℕ) < 1024 := (y 0).isLt
  have h1 : (y 1 : ℕ) < 512 := (y 1).isLt
  have e : y = ix2 (⟨(y 0 : ℕ), h0⟩ : Fin 1024) (⟨(y 1 : ℕ), h1⟩ : Fin 512) := by
    funext d; fin_cases d <;> rfl
  rw [e]
  unfold gbAt gateAt
  have hp : ∀ a : FVec Ideal S1024x512 .f32, ∀ i, k0_pay8 (F := Ideal) a i = a i := fun a i => rfl
  split at hC
  · rename_i h4
    rw [if_pos h4, hp]
    refine right_at m c (n - 1) (by omega) (by omega) (by omega) _ _ R _ (by dsimp only; omega) ?_
    dsimp only
    unfold rightCol
    split <;> (try split) <;> (try split) <;> omega
  · rename_i h4
    rw [if_neg h4, hp]
    refine left_at m c (n - 1) (by omega) (by omega) _ _ R _ (by dsimp only; omega) ?_
    dsimp only
    unfold leftCol
    split <;> (try split) <;> (try split) <;> (try split) <;> omega

/-- The kernel's array of the convolution's input. -/
theorem final14 (c : Dev nD) : (dats m 0 c).arrAt 14 cfg0.N = mixArr m c := by
  refine (dats m 0 c).arrAt_eq_of_covers 14 _ (by decide +kernel) fun t hf y => ?_
  have hfl := (flush14 t).mp hf
  have ht : t.val < 91 := lt_of_lt_of_eq t.isLt N_0
  have hi := idx_mix t hf
  blk_simp
  rw [after_14]
  by_cases h5 : t.val % 5 = 0
  · rw [if_pos h5]
    rw [if_pos h5] at hi
    refine mix_blk m c (t.val - 1) (by omega) (by omega) (by omega) y _ _ ?_ ?_
    all_goals (blk_simp [hi] <;> (dsimp only; omega))
  · rw [if_neg h5]
    rw [if_neg h5] at hi
    refine mix_blk m c t.val (by omega) (by omega) (by omega) y _ _ ?_ ?_
    all_goals (blk_simp [hi] <;> (dsimp only; omega))

/-- The kernel's array of the gates. -/
theorem final15 (c : Dev nD) : (dats m 0 c).arrAt 15 cfg0.N = gateArr m c := by
  refine (dats m 0 c).arrAt_eq_of_covers 15 _ (by decide +kernel) fun t hf y => ?_
  have hfl := (flush15 t).mp hf
  have ht : t.val < 91 := lt_of_lt_of_eq t.isLt N_0
  have hi := idx_gate t hf
  blk_simp
  rw [after_15]
  by_cases h5 : t.val % 5 = 0
  · rw [if_pos h5] at hi
    refine gate_blk m c t.val (by omega) (by omega) (by omega) y _ _ ?_ ?_
    · blk_simp [hi] <;> (dsimp only; omega)
    · rw [if_neg (by omega)]
      blk_simp [hi] <;> (dsimp only; omega)
  · rw [if_neg h5] at hi
    refine gate_blk m c t.val (by omega) (by omega) (by omega) y _ _ ?_ ?_
    · blk_simp [hi] <;> (dsimp only; omega)
    · rw [if_pos (by omega)]
      blk_simp [hi] <;> (dsimp only; omega)

end Cert.InRun

end
-- ==== Proof.InRef.lean ====
module

public import proofs.«01_k».proof.Proof.Gen.InRefIdeal.Read
public import proofs.«01_k».proof.Proof.InSpec

/-! The input projection's reference, read at a row and a column. -/

@[expose] public section

set_option maxRecDepth 16384

noncomputable section

namespace Cert.InRefRead

open Idealize.ShloMosaic Idealize.ShloMosaic.TcCoe Idealize.SL.Sem
open Cert.InRefIdeal Cert.InRefIdeal.Gen Cert.InRefIdeal.Read Cert.InSpec
open Cert.MergeSpec (rmsOf)

variable (X : FVec Ideal S17408x2048 .f32) (M : FVec Ideal S4x8x1x12288 .f32) (NG : FVec Ideal S1x2048 .f32) (W : FVec Ideal S4x2048x4608 .f32)

/-- A latent row normalized and modulated. -/
theorem lat_at (b : Fin 4) (s : Fin 4096) (j : Fin 2048) :
    val_main_v29 (F := Ideal) X M NG (ix3 b s j) = rowAt X M NG ⟨b.val * 4096 + s.val, by omega⟩ j := by
  pointwise [val_main_v29, val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v5, val_main_v4, val_main_v3, val_main_v2, val_main_v1, val_main_v0, val_main_cst, val_main_cst_0, val_main_cst_1, val_main_cst_2]
  unfold rowAt rmsOf
  have hq : (b.val * 4096 + s.val) / 4096 = b.val := by omega
  simp only [hq]

/-- A context row normalized and modulated. -/
theorem ctx_at (b : Fin 4) (s : Fin 256) (j : Fin 2048) :
    val_main_v55 (F := Ideal) X M NG (ix3 b s j) = rowAt X M NG ⟨16384 + (b.val * 256 + s.val), by omega⟩ j := by
  pointwise [val_main_v55, val_main_v54, val_main_v53, val_main_v52, val_main_v51, val_main_v50, val_main_v49, val_main_v48, val_main_v47, val_main_v46,
    val_main_v45, val_main_v44, val_main_v43, val_main_v42, val_main_v41, val_main_v40, val_main_v39, val_main_v38, val_main_v37, val_main_v36,
    val_main_v35, val_main_v34, val_main_v33, val_main_v32, val_main_v31, val_main_v30, val_main_v7, val_main_v6, val_main_v3, val_main_v2, val_main_v1, val_main_v0,
    val_main_cst_3, val_main_cst_4, val_main_cst_5, val_main_cst_6]
  unfold rowAt rmsOf
  have hq : (16384 + (b.val * 256 + s.val)) / 4096 = 4 := by omega
  simp only [hq]
  rfl

/-- A latent row's product with a column. -/
theorem lproj_at (b : Fin 4) (s : Fin 4096) (D : Fin 4608) :
    val_main_v58 (F := Ideal) X M NG W (ix3 b s D) = projAt X M NG W ⟨b.val * 4096 + s.val, by omega⟩ D := by
  pointwise [val_main_v58, val_main_v57, val_main_v56]
  simp only [lat_at]
  rfl

/-- A context row's product with a column. -/
theorem cproj_at (b : Fin 4) (s : Fin 256) (D : Fin 4608) :
    val_main_v66 (F := Ideal) X M NG W (ix3 b s D) = projAt X M NG W ⟨16384 + (b.val * 256 + s.val), by omega⟩ D := by
  pointwise [val_main_v66, val_main_v65, val_main_v64]
  simp only [ctx_at]
  rfl

/-- The convolution's input at a latent row. -/
theorem mix_lat (R : Fin 16384) (C : Fin 1024) :
    val_main_v72 (F := Ideal) X M NG W (ix2 R C) = mixAt X M NG W ⟨R.val, by omega⟩ C := by
  pointwise [val_main_v72, val_main_v63, val_main_v62, val_main_v61]
  refine (congrArg₂ (· * ·) (lproj_at X M NG W _ _ _) (lproj_at X M NG W _ _ _)).trans ?_
  exact congrArg (fun r => projAt X M NG W r ⟨2560 + C.val, by omega⟩ * projAt X M NG W r ⟨3584 + C.val, by omega⟩) (Fin.ext (by dsimp only; omega))

/-- And at a context row. -/
theorem mix_ctx (R : Fin 1024) (C : Fin 1024) :
    val_main_v73 (F := Ideal) X M NG W (ix2 R C) = mixAt X M NG W ⟨16384 + R.val, by omega⟩ C := by
  pointwise [val_main_v73, val_main_v71, val_main_v70, val_main_v69]
  refine (congrArg₂ (· * ·) (cproj_at X M NG W _ _ _) (cproj_at X M NG W _ _ _)).trans ?_
  exact congrArg (fun r => projAt X M NG W r ⟨2560 + C.val, by omega⟩ * projAt X M NG W r ⟨3584 + C.val, by omega⟩) (Fin.ext (by dsimp only; omega))

/-- The convolution's input, by row and column. -/
theorem mix_rows (R : Fin 17408) (C : Fin 1024) :
    val_main_v75 (F := Ideal) X M NG W (ix2 R C) = mixAt X M NG W R C := by
  show val_main_v74 (F := Ideal) X M NG W (ix2 R C) = _
  unfold val_main_v74
  by_cases h : R.val < 16384
  · refine (concatenate_pair_apply_left (t := S17408x1024) (s₁ := S16384x1024) (s₂ := S1024x1024) 0 _ _ _ (ix2 R C) rfl (ix2 (⟨R.val, h⟩ : Fin 16384) C) ?_).trans ?_
    · intro b; fin_cases b <;> rfl
    · exact mix_lat X M NG W ⟨R.val, h⟩ C
  · have hR := R.isLt
    refine (concatenate_pair_apply_right (t := S17408x1024) (s₁ := S16384x1024) (s₂ := S1024x1024) 0 _ _ _ (ix2 R C) rfl rfl
      (ix2 (⟨R.val - 16384, by omega⟩ : Fin 1024) C) ?_ ?_).trans ?_
    · intro b hb
      fin_cases b
      · exact absurd rfl hb
      · rfl
    · show R.val - 16384 + 16384 = R.val
      omega
    · refine (mix_ctx X M NG W _ C).trans ?_
      exact congrArg (fun r => mixAt X M NG W r C) (Fin.ext (by dsimp only; omega))

/-- The gates at a latent row. -/
theorem gate_lat (R : Fin 16384) (C : Fin 1024) :
    val_main_v76 (F := Ideal) X M NG W (ix2 R C) = gateAt X M NG W ⟨R.val, by omega⟩ C := by
  pointwise [val_main_v76, val_main_v60]
  refine (lproj_at X M NG W _ _ _).trans ?_
  exact congrArg (fun r => projAt X M NG W r ⟨1536 + C.val, by omega⟩) (Fin.ext (by dsimp only; omega))

/-- And at a context row. -/
theorem gate_ctx (R : Fin 1024) (C : Fin 1024) :
    val_main_v77 (F := Ideal) X M NG W (ix2 R C) = gateAt X M NG W ⟨16384 + R.val, by omega⟩ C := by
  pointwise [val_main_v77, val_main_v68]
  refine (cproj_at X M NG W _ _ _).trans ?_
  exact congrArg (fun r => projAt X M NG W r ⟨1536 + C.val, by omega⟩) (Fin.ext (by dsimp only; omega))

/-- The gates, by row and column. -/
theorem gate_rows (R : Fin 17408) (C : Fin 1024) :
    val_main_v79 (F := Ideal) X M NG W (ix2 R C) = gateAt X M NG W R C := by
  show val_main_v78 (F := Ideal) X M NG W (ix2 R C) = _
  unfold val_main_v78
  by_cases h : R.val < 16384
  · refine (concatenate_pair_apply_left (t := S17408x1024) (s₁ := S16384x1024) (s₂ := S1024x1024) 0 _ _ _ (ix2 R C) rfl (ix2 (⟨R.val, h⟩ : Fin 16384) C) ?_).trans ?_
    · intro b; fin_cases b <;> rfl
    · exact gate_lat X M NG W ⟨R.val, h⟩ C
  · have hR := R.isLt
    refine (concatenate_pair_apply_right (t := S17408x1024) (s₁ := S16384x1024) (s₂ := S1024x1024) 0 _ _ _ (ix2 R C) rfl rfl
      (ix2 (⟨R.val - 16384, by omega⟩ : Fin 1024) C) ?_ ?_).trans ?_
    · intro b hb
      fin_cases b
      · exact absurd rfl hb
      · rfl
    · show R.val - 16384 + 16384 = R.val
      omega
    · refine (gate_ctx X M NG W _ C).trans ?_
      exact congrArg (fun r => gateAt X M NG W r C) (Fin.ext (by dsimp only; omega))

end Cert.InRefRead

end
-- ==== Proof.InClaim.lean ====
module

public import proofs.«01_k».proof.Proof.InVal
public import proofs.«01_k».proof.Proof.InRef
public import proofs.«01_k».proof.Proof.Gen.In.Launch
public import proofs.«01_k».proof.Proof.Gen.InRefIdeal.Run
public import proofs.«01_k».proof.Defs

/-! The certificate's claims of the input projection. -/

@[expose] public section

set_option maxRecDepth 16384
set_option maxHeartbeats 4000000

noncomputable section

namespace Cert.InClaim

open Idealize.ShloMosaic Idealize.ShloMosaic.Tactic
open Idealize.SL Idealize.SL.Sem

/-- The idealized kernel's run at any floats: the two arrays written back, the arguments as launched, every counter at zero. -/
theorem run_whole {F : FTy → Type} [FloatOps F] (m : (ℓ : Loc Cert.InIdeal.nD Cert.InIdeal.τ Cert.InIdeal.sig) → Buf (Elt F) ℓ) (ρ : Dev Cert.InIdeal.nD → PrngReg) :
    θ_run (Cert.InIdeal.defs (F := F)) (onTc (τ := Cert.InIdeal.τ) (Cert.InIdeal.main (F := F))) ⟨m, fun _ => 0, ρ⟩ (fun r => (∀ c : Dev Cert.InIdeal.nD,
      r.2.mem ((c.tc : Thread Cert.InIdeal.nD Cert.InIdeal.τ).loc Cert.InIdeal.main_v42_2) = (Cert.InRun.dats m 0 c).arrAt 14 Cert.InIdeal.cfg0.N
      ∧ r.2.mem ((c.tc : Thread Cert.InIdeal.nD Cert.InIdeal.τ).loc Cert.InIdeal.main_v42_3) = (Cert.InRun.dats m 0 c).arrAt 15 Cert.InIdeal.cfg0.N
      ∧ r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0) :=
  (θ_run Cert.InIdeal.defs _ _).mono (fun _ h => ⟨fun c => ⟨(h.1 c).1 14, (h.1 c).1 15,
      ((h.1 c).1 0).trans (((Cert.InRun.dats m 0 c).arrAt_in 0 rfl _).trans ((Cert.InRun.A_eq m c 0).trans (Cert.InIdeal.Gen.V_main_arg0 m c))),
      ((h.1 c).1 2).trans (((Cert.InRun.dats m 0 c).arrAt_in 2 rfl _).trans ((Cert.InRun.A_eq m c 2).trans (Cert.InIdeal.Gen.V_main_arg1 m c))),
      ((h.1 c).1 4).trans (((Cert.InRun.dats m 0 c).arrAt_in 4 rfl _).trans ((Cert.InRun.A_eq m c 4).trans (Cert.InIdeal.Gen.V_main_arg2 m c))),
      ((h.1 c).2 Cert.InIdeal.main_arg3 (Pipeline.mem_restRefs_of Cert.InIdeal.main_arg3 (by decide) (by decide))).trans (Cert.InIdeal.Gen.V_main_arg3 m c),
      ((h.1 c).1 7).trans (((Cert.InRun.dats m 0 c).arrAt_in 7 rfl _).trans ((Cert.InRun.A_eq m c 7).trans (Cert.InIdeal.Gen.V_main_arg4 m c))),
      ((h.1 c).1 8).trans (((Cert.InRun.dats m 0 c).arrAt_in 8 rfl _).trans ((Cert.InRun.A_eq m c 8).trans (Cert.InIdeal.Gen.V_main_arg5 m c)))⟩, h.2⟩)
    (Cert.InRun.run_main m ρ)

/-- The idealized kernel leaves its arguments and counters as launched. -/
theorem frame_ii : Cert.quiescent_InIdeal := fun m ρ _ =>
  (θ_run Cert.InIdeal.defs _ _).mono (fun _ h => ⟨fun c => (h.1 c).2.2, h.2⟩) (run_whole (F := Ideal) m ρ)

/-- The two body tables are one: the printed texts are the same. -/
theorem bodies_same {F : FTy → Type} [FloatOps F] : Cert.In.defs₀ (F := F) = Cert.InIdeal.defs₀ (F := F) := by
  delta Cert.In.defs₀ Cert.InIdeal.defs₀
  refine congrArg Defs.onTc (funext fun k => ?_)
  match k with
  | ⟨0, h⟩ => funext x; with_unfolding_all rfl
  | ⟨n + 1, h⟩ => exact absurd h (Nat.not_lt.2 (Nat.le_add_left _ _))

/-- So are the pipelines'. -/
theorem defs_same {F : FTy → Type} [FloatOps F] : Cert.In.defs (F := F) = Cert.InIdeal.defs (F := F) :=
  congrArg (Pipeline.defs Cert.InIdeal.pcfgs) (bodies_same (F := F))

/-- And the host programs. -/
theorem main_same {F : FTy → Type} [FloatOps F] : Cert.In.main (F := F) = Cert.InIdeal.main (F := F) := by
  with_unfolding_all rfl

/-- The kernel leaves its arguments and counters as launched. -/
theorem frame_i : Cert.quiescent_In := fun m ρ _ => by
  have e := congrArg₂ (fun d p => θ_run d (onTc (τ := Cert.InIdeal.τ) p) ⟨m, fun _ => 0, ρ⟩) (defs_same (F := Bits)) (main_same (F := Bits))
  refine (congrFun (congrArg _ e) _).mpr ?_
  exact (θ_run Cert.InIdeal.defs _ _).mono (fun _ h => ⟨fun c => (h.1 c).2.2, h.2⟩) (run_whole (F := Bits) m ρ)

/-- The reference runs, keeps its arguments and leaves every counter at zero. -/
theorem frame_ir : Cert.quiescent_InRefIdeal := fun m ρ _ =>
  (θ_run Cert.InRefIdeal.defs _ _).mono (fun r h => ⟨fun c => (h c).2.2, sem_eq_zero_of_no_sems (by decide) r.2⟩)
    (Cert.InRefIdeal.Value.run (F := Ideal) m ρ)

/-- Idealizing the kernel rewrites no operation. -/
theorem preserves : Cert.preserves_In_InIdeal := trivial

/-- The reference's first result is the kernel's. -/
theorem mix_result (m : (ℓ : Loc Cert.InIdeal.nD Cert.InIdeal.τ Cert.InIdeal.sig) → Buf (Elt Ideal) ℓ) (c : Dev Cert.InIdeal.nD) :
    (Cert.InRun.dats m 0 c).arrAt 14 Cert.InIdeal.cfg0.N
      = Cert.InRefIdeal.Read.val_main_v75 (F := Ideal) (Cert.InRun.xA m c) (Cert.InRun.mA m c) (Cert.InRun.ngA m c) (Cert.InRun.wA m c) := by
  rw [Cert.InRun.final14]
  funext i
  have e : i = ix2 ⟨(i 0).val, (i 0).isLt⟩ ⟨(i 1).val, (i 1).isLt⟩ := by
    funext d; fin_cases d <;> rfl
  conv_rhs => rw [e]
  exact (Cert.InRefRead.mix_rows _ _ _ _ _ _).symm

/-- And the second. -/
theorem gate_result (m : (ℓ : Loc Cert.InIdeal.nD Cert.InIdeal.τ Cert.InIdeal.sig) → Buf (Elt Ideal) ℓ) (c : Dev Cert.InIdeal.nD) :
    (Cert.InRun.dats m 0 c).arrAt 15 Cert.InIdeal.cfg0.N
      = Cert.InRefIdeal.Read.val_main_v79 (F := Ideal) (Cert.InRun.xA m c) (Cert.InRun.mA m c) (Cert.InRun.ngA m c) (Cert.InRun.wA m c) := by
  rw [Cert.InRun.final15]
  funext i
  have e : i = ix2 ⟨(i 0).val, (i 0).isLt⟩ ⟨(i 1).val, (i 1).isLt⟩ := by
    funext d; fin_cases d <;> rfl
  conv_rhs => rw [e]
  exact (Cert.InRefRead.gate_rows _ _ _ _ _ _).symm

/-- The idealized kernel's run, with its two result arrays. -/
theorem run_result (m : (ℓ : Loc Cert.InIdeal.nD Cert.InIdeal.τ Cert.InIdeal.sig) → Buf (Elt Ideal) ℓ) (ρ : Dev Cert.InIdeal.nD → PrngReg) :
    θ_run (Cert.InIdeal.defs (F := Ideal)) (onTc (τ := Cert.InIdeal.τ) (Cert.InIdeal.main (F := Ideal))) ⟨m, fun _ => 0, ρ⟩ (fun r => ∀ c : Dev Cert.InIdeal.nD,
      r.2.mem ((c.tc : Thread Cert.InIdeal.nD Cert.InIdeal.τ).loc Cert.InIdeal.main_v42_2) = (Cert.InRun.dats m 0 c).arrAt 14 Cert.InIdeal.cfg0.N
      ∧ r.2.mem ((c.tc : Thread Cert.InIdeal.nD Cert.InIdeal.τ).loc Cert.InIdeal.main_v42_3) = (Cert.InRun.dats m 0 c).arrAt 15 Cert.InIdeal.cfg0.N
      ∧ r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)) :=
  (θ_run Cert.InIdeal.defs _ _).mono (fun _ h => h.1) (run_whole (F := Ideal) m ρ)

/-- The idealized kernel and the reference end with equal results. -/
theorem algebraic : Cert.algebraic_InIdeal_InRefIdeal := by
  pair_intro
  · run_from run_result m g
  · run_from Cert.InRefIdeal.Value.run (F := Ideal) m' g'
    all_goals obtain ⟨h0, h1, h2, h3, h4, h5⟩ := hagree c
    · rw [Cert.InRefIdeal.Read.val_main_v75_eq, h0, h1, h2, h3]
      exact (mix_result m c).symm
    · rw [Cert.InRefIdeal.Read.val_main_v79_eq, h0, h1, h2, h3]
      exact (gate_result m c).symm

end Cert.InClaim
end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_scores
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnClaim
public import proofs.«01_k».proof.Proof.Gen.Mlp
public import proofs.«01_k».proof.Proof.Gen.Mlp.Launch
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.MlpClaim
public import proofs.«01_k».proof.Proof.MergeClaim
public import proofs.«01_k».proof.Proof.InClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.In
public import proofs.«01_k».proof.Proof.Gen.In.Launch
public import proofs.«01_k».proof.Proof.Gen.InIdeal
public import proofs.«01_k».proof.Proof.Gen.InIdeal.Launch
public import proofs.«01_k».proof.Proof.Gen.InIdeal.Skeleton
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.InRefIdeal.Read
public import Idealize.ShloMosaic.Adequacy
public import Idealize.ShloMosaic.Init

/-! The certificate: the claims about the attention call, the feed-forward call, the output projection and the input
projection's two results for the convolution. The frames, the values and their equations with the references are
proved in the modules under Proof/; here they are put in the order of `Cert.Claim`. -/

@[expose] public section

noncomputable section

namespace Cert.Proof

/-- The claims of the certificate, in the order in which the statement makes them. -/
theorem claim : Cert.Claim :=
  ⟨Cert.Attn.Gen.facts, Cert.AttnIdeal.Gen.facts, Cert.AttnRefIdeal.Gen.facts, Cert.Mlp.Gen.facts, Cert.MlpIdeal.Gen.facts,
    Cert.MlpRefIdeal.Gen.facts, Cert.Merge.Gen.facts, Cert.MergeIdeal.Gen.facts, Cert.MergeRefIdeal.Gen.facts,
    Cert.In.Gen.facts, Cert.InIdeal.Gen.facts, Cert.InRefIdeal.Gen.facts, Cert.Pre_finite_scores.Gen.facts,
    Cert.AttnClaim.frame_p, Cert.AttnClaim.frame_pi, Cert.AttnClaim.frame_pi_pre, Cert.AttnClaim.frame_ri,
    Cert.AttnClaim.frame_ri_pre, Cert.MlpClaim.frame_m, Cert.MlpClaim.frame_mi, Cert.MlpClaim.frame_mr,
    Cert.MergeClaim.frame_g, Cert.MergeClaim.frame_gi, Cert.MergeClaim.frame_gr,
    Cert.InClaim.frame_i, Cert.InClaim.frame_ii, Cert.InClaim.frame_ir,
    Cert.AttnClaim.preserves, Cert.AttnClaim.algebraic, Cert.MlpClaim.preserves, Cert.MlpClaim.algebraic,
    Cert.MergeClaim.preserves, Cert.MergeClaim.algebraic,
    Cert.InClaim.preserves, Cert.InClaim.algebraic⟩

end Cert.Proof

end
